-- ==== Defs.lean ====
def Pre_Kernel [hPre_slots_ok : Cert.Pre_slots_ok.Facts] (m : (ℓ : Loc Cert.Kernel.nD Cert.Kernel.τ Cert.Kernel.sig) → Buf (Elt Bits) ℓ) : Prop :=
  ∀ c : Dev Cert.Kernel.nD,
    (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_ok : Cert.Pre_slots_ok.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_ok [hPre_slots_ok : Cert.Pre_slots_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_slots_ok : Cert.Pre_slots_ok.Facts] (m : (ℓ : Loc Cert.Reference.nD Cert.Reference.τ Cert.Reference.sig) → Buf (Elt Bits) ℓ) : Prop :=
  ∀ c : Dev Cert.Reference.nD,
    (Cert.Pre_slots_ok.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables_ok : Cert.Pre_tables_ok.Facts] (m : (ℓ : Loc Cert.Kernel2.nD Cert.Kernel2.τ Cert.Kernel2.sig) → Buf (Elt Bits) ℓ) : Prop :=
  ∀ c : Dev Cert.Kernel2.nD,
    (Cert.Pre_tables_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_tables_ok : Cert.Pre_tables_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_ok [hPre_tables_ok : Cert.Pre_tables_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 [hPre_slots_in : Cert.Pre_slots_in.Facts] (m : (ℓ : Loc Cert.Kernel3.nD Cert.Kernel3.τ Cert.Kernel3.sig) → Buf (Elt Bits) ℓ) : Prop :=
  ∀ c : Dev Cert.Kernel3.nD,
    (Cert.Pre_slots_in.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_slots_in : Cert.Pre_slots_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_slots_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_slots_in [hPre_slots_in : Cert.Pre_slots_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_slots_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] [hPre_slots_ok : Cert.Pre_slots_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slots_ok [hReferenceIdeal : Cert.ReferenceIdeal.Facts] [hPre_slots_ok : Cert.Pre_slots_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_slots_ok : Cert.Pre_slots_ok.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables_ok : Cert.Pre_tables_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_tables_ok : Cert.Pre_tables_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_tables_ok [hReference2Ideal : Cert.Reference2Ideal.Facts] [hPre_tables_ok : Cert.Pre_tables_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_slots_in : Cert.Pre_slots_in.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_slots_in : Cert.Pre_slots_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_slots_in [hReference3Ideal : Cert.Reference3Ideal.Facts] [hPre_slots_in : Cert.Pre_slots_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_slots_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hPre_slots_ok : Cert.Pre_slots_ok.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![106240, 1024]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![106240, 1024]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v16) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference_on_routed [hKernel : Cert.Kernel.Facts] [hReference : Cert.Reference.Facts] [hPre_slots_ok : Cert.Pre_slots_ok.Facts] [hOn_routed : Cert.On_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          (∀ i : (⟨2, ![106240, 1024]⟩ : Shape).Idx, (Cert.On_routed.fn (F := Bits) (m ((c.tc : Thread Cert.Kernel.nD Cert.Kernel.τ).loc Cert.Kernel.main_arg0)) (m ((c.tc : Thread Cert.Kernel.nD Cert.Kernel.τ).loc Cert.Kernel.main_arg1))) i = 1#1 → r.2.mem ((c.tc : Thread Cert.Kernel.nD Cert.Kernel.τ).loc Cert.Kernel.main_v0) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![106240, 1024]⟩ : Shape).Idx, (Cert.On_routed.fn (F := Bits) (m ((c.tc : Thread Cert.Kernel.nD Cert.Kernel.τ).loc Cert.Kernel.main_arg0)) (m ((c.tc : Thread Cert.Kernel.nD Cert.Kernel.τ).loc Cert.Kernel.main_arg1))) i = 1#1 → r.2.mem ((c.tc : Thread Cert.Reference.nD Cert.Reference.τ).loc Cert.Reference.main_v16) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_filled [hKernel2Ideal : Cert.Kernel2Ideal.Facts] [hReference2Ideal : Cert.Reference2Ideal.Facts] [hPre_tables_ok : Cert.Pre_tables_ok.Facts] [hOn_filled : Cert.On_filled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![106240, 2048]⟩ : Shape).Idx, (Cert.On_filled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v2) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![106240, 2048]⟩ : Shape).Idx, (Cert.On_filled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v61) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_slots_in : Cert.Pre_slots_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_slots_ok : Cert.Pre_slots_ok.Facts) (hPre_tables_ok : Cert.Pre_tables_ok.Facts) (hPre_slots_in : Cert.Pre_slots_in.Facts) (hOn_routed : Cert.On_routed.Facts) (hOn_filled : Cert.On_filled.Facts),
    quiescent_Kernel (hKernel := hKernel) (hPre_slots_ok := hPre_slots_ok)
    ∧ quiescent_KernelIdeal (hKernelIdeal := hKernelIdeal) (hPre_slots_ok := hPre_slots_ok)
    ∧ quiescent_ReferenceIdeal (hReferenceIdeal := hReferenceIdeal)
    ∧ quiescent_ReferenceIdeal_pre_slots_ok (hReferenceIdeal := hReferenceIdeal) (hPre_slots_ok := hPre_slots_ok)
    ∧ quiescent_Reference (hReference := hReference) (hPre_slots_ok := hPre_slots_ok)
    ∧ quiescent_Kernel2 (hKernel2 := hKernel2) (hPre_tables_ok := hPre_tables_ok)
    ∧ quiescent_Kernel2Ideal (hKernel2Ideal := hKernel2Ideal) (hPre_tables_ok := hPre_tables_ok)
    ∧ quiescent_Reference2Ideal (hReference2Ideal := hReference2Ideal)
    ∧ quiescent_Reference2Ideal_pre_tables_ok (hReference2Ideal := hReference2Ideal) (hPre_tables_ok := hPre_tables_ok)
    ∧ quiescent_Kernel3 (hKernel3 := hKernel3) (hPre_slots_in := hPre_slots_in)
    ∧ quiescent_Kernel3Ideal (hKernel3Ideal := hKernel3Ideal) (hPre_slots_in := hPre_slots_in)
    ∧ quiescent_Reference3Ideal (hReference3Ideal := hReference3Ideal)
    ∧ quiescent_Reference3Ideal_pre_slots_in (hReference3Ideal := hReference3Ideal) (hPre_slots_in := hPre_slots_in)
    ∧ preserves_Kernel_KernelIdeal
    ∧ algebraic_KernelIdeal_ReferenceIdeal_on_routed (hKernelIdeal := hKernelIdeal) (hReferenceIdeal := hReferenceIdeal) (hPre_slots_ok := hPre_slots_ok) (hOn_routed := hOn_routed)
    ∧ bitexact_Kernel_Reference_on_routed (hKernel := hKernel) (hReference := hReference) (hPre_slots_ok := hPre_slots_ok) (hOn_routed := hOn_routed)
    ∧ preserves_Kernel2_Kernel2Ideal
    ∧ algebraic_Kernel2Ideal_Reference2Ideal_on_filled (hKernel2Ideal := hKernel2Ideal) (hReference2Ideal := hReference2Ideal) (hPre_tables_ok := hPre_tables_ok) (hOn_filled := hOn_filled)
    ∧ preserves_Kernel3_Kernel3Ideal
    ∧ algebraic_Kernel3Ideal_Reference3Ideal (hKernel3Ideal := hKernel3Ideal) (hReference3Ideal := hReference3Ideal) (hPre_slots_in := hPre_slots_in)
-- ==== On_filled.lean ====
abbrev S83 : Shape := ⟨1, ![83]⟩
abbrev S106240x1024 : Shape := ⟨2, ![106240, 1024]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S1280 : Shape := ⟨1, ![1280]⟩
abbrev S1x1280 : Shape := ⟨2, ![1, 1280]⟩
abbrev S83x1 : Shape := ⟨2, ![83, 1]⟩
abbrev S83x1280 : Shape := ⟨2, ![83, 1280]⟩
abbrev S106240 : Shape := ⟨1, ![106240]⟩
abbrev S106240x1 : Shape := ⟨2, ![106240, 1]⟩
abbrev S106240x2048 : Shape := ⟨2, ![106240, 2048]⟩

class Facts : Prop where
  bcast_S1280_S1x1280_1 : S1280.BroadcastsInDim S1x1280 (![1] : Fin 1 → Fin S1x1280.rank)
  bcast_S83_S83x1_0 : S83.BroadcastsInDim S83x1 (![0] : Fin 1 → Fin S83x1.rank)
  bcast_S1x1280_S83x1280_0_1 : S1x1280.BroadcastsInDim S83x1280 (![0, 1] : Fin 2 → Fin S83x1280.rank)
  bcast_S83x1_S83x1280_0_1 : S83x1.BroadcastsInDim S83x1280 (![0, 1] : Fin 2 → Fin S83x1280.rank)
  shapeCasts_S83x1280_S106240 : S83x1280.ShapeCasts S106240
  bcast_S106240_S106240x1_0 : S106240.BroadcastsInDim S106240x1 (![0] : Fin 1 → Fin S106240x1.rank)
  bcast_S106240x1_S106240x2048_0_1 : S106240x1.BroadcastsInDim S106240x2048 (![0, 1] : Fin 2 → Fin S106240x2048.rank)

variable [Facts]

def fn {F : FTy → Type} [FloatOps F] (main_arg0 : IVec S83 32) (main_arg1 : IVec S83 32) (main_arg2 : IVec S83 32) (main_arg3 : IVec S106240x1024 32) (main_arg4 : FVec F S32x2048x4096 .f32) (main_arg5 : FVec F S32x4096 .f32) (main_arg6 : FVec F S32x2048x2048 .f32) (main_arg7 : FVec F S32x2048 .f32) : IVec S106240x2048 1 :=
  let main_v0 : IVec S1280 32 := iotaInDim S1280 32 0
  let main_v1 : IVec S1x1280 32 := broadcastInDim S1x1280 ![1] bcast_S1280_S1x1280_1 main_v0
  let main_v2 : IVec S83x1 32 := broadcastInDim S83x1 ![0] bcast_S83_S83x1_0 main_arg1
  let main_v3 : IVec S83x1280 32 := broadcastInDim S83x1280 ![0, 1] bcast_S1x1280_S83x1280_0_1 main_v1
  let main_v4 : IVec S83x1280 32 := broadcastInDim S83x1280 ![0, 1] bcast_S83x1_S83x1280_0_1 main_v2
  let main_v5 : IVec S83x1280 1 := cmpi .slt main_v3 main_v4
  let main_v6 : IVec S106240 1 := shapeCast S106240 main_v5 shapeCasts_S83x1280_S106240
  let main_v7 : IVec S106240x1 1 := broadcastInDim S106240x1 ![0] bcast_S106240_S106240x1_0 main_v6
  let main_v8 : IVec S106240x2048 1 := broadcastInDim S106240x2048 ![0, 1] bcast_S106240x1_S106240x2048_0_1 main_v7
  main_v8
-- ==== On_routed.lean ====
abbrev S65536 : Shape := ⟨1, ![65536]⟩
abbrev S16384x1024 : Shape := ⟨2, ![16384, 1024]⟩
abbrev S_ : Shape := ⟨0, ![]⟩
abbrev S106240 : Shape := ⟨1, ![106240]⟩
abbrev S65536x1 : Shape := ⟨2, ![65536, 1]⟩
abbrev S106240x1 : Shape := ⟨2, ![106240, 1]⟩
abbrev S106240x1024 : Shape := ⟨2, ![106240, 1024]⟩

class Facts : Prop where
  bcast_S_S106240 : S_.BroadcastsInDim S106240 (![] : Fin 0 → Fin S106240.rank)
  bcast_S_S65536 : S_.BroadcastsInDim S65536 (![] : Fin 0 → Fin S65536.rank)
  bcast_S65536_S65536x1_0 : S65536.BroadcastsInDim S65536x1 (![0] : Fin 1 → Fin S65536x1.rank)
  bcast_S106240_S106240x1_0 : S106240.BroadcastsInDim S106240x1 (![0] : Fin 1 → Fin S106240x1.rank)
  bcast_S106240x1_S106240x1024_0_1 : S106240x1.BroadcastsInDim S106240x1024 (![0, 1] : Fin 2 → Fin S106240x1024.rank)
  scatter_S106240_S65536x1_S65536_n_0_0_1_wf : ScatterDims.WF S106240 S65536x1 S65536 [] [0] [0] 1

variable [Facts]

def scatter_S106240_S65536x1_S65536_n_0_0_1 : ScatterDims S106240 S65536x1 S65536 where
  updateWindowDims := []
  insertedWindowDims := [0]
  scatterDimsToOperandDims := [0]
  indexVectorDim := 1
  wf := scatter_S106240_S65536x1_S65536_n_0_0_1_wf
def fn {F : FTy → Type} [FloatOps F] (main_arg0 : IVec S65536 32) (main_arg1 : IVec S16384x1024 32) : IVec S106240x1024 1 :=
  let main_c : IVec S_ 32 := constantI S_ 32 0#32
  let main_v0 : IVec S106240 32 := broadcastInDim S106240 ![] bcast_S_S106240 main_c
  let main_c_0 : IVec S_ 32 := constantI S_ 32 0#32
  let main_v1 : IVec S65536 32 := broadcastInDim S65536 ![] bcast_S_S65536 main_c_0
  let main_v2 : IVec S65536 1 := cmpi .slt main_arg0 main_v1
  let main_c_1 : IVec S_ 32 := constantI S_ 32 106240#32
  let main_v3 : IVec S65536 32 := broadcastInDim S65536 ![] bcast_S_S65536 main_c_1
  let main_v4 : IVec S65536 32 := addi main_arg0 main_v3
  let main_v5 : IVec S65536 32 := select main_v2 main_v4 main_arg0
  let main_v6 : IVec S65536x1 32 := broadcastInDim S65536x1 ![0] bcast_S65536_S65536x1_0 main_v5
  let main_c_2 : IVec S_ 32 := constantI S_ 32 1#32
  let main_v7 : IVec S65536 32 := broadcastInDim S65536 ![] bcast_S_S65536 main_c_2
  let main_v8 : IVec S106240 32 := (fun x i u => Host.scatter scatter_S106240_S65536x1_S65536_n_0_0_1 (fun _ b => b) x i u) main_v0 main_v6 main_v7
  let main_c_3 : IVec S_ 32 := constantI S_ 32 1#32
  let main_v9 : IVec S106240 32 := broadcastInDim S106240 ![] bcast_S_S106240 main_c_3
  let main_v10 : IVec S106240 1 := cmpi .eq main_v8 main_v9
  let main_v11 : IVec S106240x1 1 := broadcastInDim S106240x1 ![0] bcast_S106240_S106240x1_0 main_v10
  let main_v12 : IVec S106240x1024 1 := broadcastInDim S106240x1024 ![0, 1] bcast_S106240x1_S106240x1024_0_1 main_v11
  main_v12
-- ==== Pre_slots_in.lean ====
abbrev S128 : Shape := ⟨1, ![128]⟩
abbrev S32x2048 : Shape := ⟨2, ![32, 2048]⟩
abbrev S32x128 : Shape := ⟨2, ![32, 128]⟩
abbrev S106240x2048 : Shape := ⟨2, ![106240, 2048]⟩
abbrev S_ : Shape := ⟨0, ![]⟩

class Facts : Prop where
  bcast_S_S128 : S_.BroadcastsInDim S128 (![] : Fin 0 → Fin S128.rank)

variable [Facts]

def fn {F : FTy → Type} [FloatOps F] (main_arg0 : IVec S128 32) (main_arg1 : FVec F S32x2048 .f32) (main_arg2 : FVec F S32x128 .f32) (main_arg3 : FVec F S106240x2048 .f32) : IVec S128 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 106240#32
  let main_v2 : IVec S128 32 := broadcastInDim S128 ![] bcast_S_S128 main_c_0
  let main_v3 : IVec S128 1 := cmpi .slt main_arg0 main_v2
  let main_v4 : IVec S128 1 := andi main_v1 main_v3
  main_v4
-- ==== Pre_slots_ok.lean ====
abbrev S65536 : Shape := ⟨1, ![65536]⟩
abbrev S16384x1024 : Shape := ⟨2, ![16384, 1024]⟩
abbrev S_ : Shape := ⟨0, ![]⟩
abbrev S106240 : Shape := ⟨1, ![106240]⟩
abbrev S65536x1 : Shape := ⟨2, ![65536, 1]⟩

class Facts : Prop where
  bcast_S_S106240 : S_.BroadcastsInDim S106240 (![] : Fin 0 → Fin S106240.rank)
  bcast_S_S65536 : S_.BroadcastsInDim S65536 (![] : Fin 0 → Fin S65536.rank)
  bcast_S65536_S65536x1_0 : S65536.BroadcastsInDim S65536x1 (![0] : Fin 1 → Fin S65536x1.rank)
  scatter_S106240_S65536x1_S65536_n_0_0_1_wf : ScatterDims.WF S106240 S65536x1 S65536 [] [0] [0] 1
  gather_S106240_S65536x1_S65536_n_0_n_n_0_1_1_wf : GatherDims.WF S106240 S65536x1 S65536 [] [0] [] [0] [] 1 ![1]

variable [Facts]

def scatter_S106240_S65536x1_S65536_n_0_0_1 : ScatterDims S106240 S65536x1 S65536 where
  updateWindowDims := []
  insertedWindowDims := [0]
  scatterDimsToOperandDims := [0]
  indexVectorDim := 1
  wf := scatter_S106240_S65536x1_S65536_n_0_0_1_wf
def gather_S106240_S65536x1_S65536_n_0_n_n_0_1_1 : GatherDims S106240 S65536x1 S65536 where
  offsetDims := []
  collapsedSliceDims := [0]
  operandBatchingDims := []
  startIndicesBatchingDims := []
  startIndexMap := [0]
  indexVectorDim := 1
  sliceSizes := ![1]
  wf := gather_S106240_S65536x1_S65536_n_0_n_n_0_1_1_wf
def fn_part1 {F : FTy → Type} [FloatOps F] (main_arg0 : IVec S65536 32) (main_v0 : IVec S65536 32) (main_v8 : IVec S106240 32) (main_v13 : IVec S65536 1) (main_v15 : IVec S65536 1) (main_v16 : IVec S65536 32) : IVec S65536 1 :=
  let main_v17 : IVec S65536 32 := addi main_arg0 main_v16
  let main_v18 : IVec S65536 32 := select main_v15 main_v17 main_arg0
  let main_v19 : IVec S65536x1 32 := broadcastInDim S65536x1 ![0] bcast_S65536_S65536x1_0 main_v18
  let main_v20 : IVec S65536 32 := (fun x i => Host.gather gather_S106240_S65536x1_S65536_n_0_n_n_0_1_1 x i) main_v8 main_v19
  let main_v21 : IVec S65536 1 := cmpi .eq main_v20 main_v0
  let main_v22 : IVec S65536 1 := andi main_v13 main_v21
  main_v22

def fn {F : FTy → Type} [FloatOps F] (main_arg0 : IVec S65536 32) (main_arg1 : IVec S16384x1024 32) : IVec S65536 1 :=
  let main_v0 : IVec S65536 32 := iotaInDim S65536 32 0
  let main_c : IVec S_ 32 := constantI S_ 32 0#32
  let main_v1 : IVec S106240 32 := broadcastInDim S106240 ![] bcast_S_S106240 main_c
  let main_c_0 : IVec S_ 32 := constantI S_ 32 0#32
  let main_v2 : IVec S65536 32 := broadcastInDim S65536 ![] bcast_S_S65536 main_c_0
  let main_v3 : IVec S65536 1 := cmpi .slt main_arg0 main_v2
  let main_c_1 : IVec S_ 32 := constantI S_ 32 106240#32
  let main_v4 : IVec S65536 32 := broadcastInDim S65536 ![] bcast_S_S65536 main_c_1
  let main_v5 : IVec S65536 32 := addi main_arg0 main_v4
  let main_v6 : IVec S65536 32 := select main_v3 main_v5 main_arg0
  let main_v7 : IVec S65536x1 32 := broadcastInDim S65536x1 ![0] bcast_S65536_S65536x1_0 main_v6
  let main_v8 : IVec S106240 32 := (fun x i u => Host.scatter scatter_S106240_S65536x1_S65536_n_0_0_1 (fun _ b => b) x i u) main_v1 main_v7 main_v0
  let main_c_2 : IVec S_ 32 := constantI S_ 32 0#32
  let main_v9 : IVec S65536 32 := broadcastInDim S65536 ![] bcast_S_S65536 main_c_2
  let main_v10 : IVec S65536 1 := cmpi .sge main_arg0 main_v9
  let main_c_3 : IVec S_ 32 := constantI S_ 32 106240#32
  let main_v11 : IVec S65536 32 := broadcastInDim S65536 ![] bcast_S_S65536 main_c_3
  let main_v12 : IVec S65536 1 := cmpi .slt main_arg0 main_v11
  let main_v13 : IVec S65536 1 := andi main_v10 main_v12
  let main_c_4 : IVec S_ 32 := constantI S_ 32 0#32
  let main_v14 : IVec S65536 32 := broadcastInDim S65536 ![] bcast_S_S65536 main_c_4
  let main_v15 : IVec S65536 1 := cmpi .slt main_arg0 main_v14
  let main_c_5 : IVec S_ 32 := constantI S_ 32 106240#32
  let main_v16 : IVec S65536 32 := broadcastInDim S65536 ![] bcast_S_S65536 main_c_5
  fn_part1 (F := F) main_arg0 main_v0 main_v8 main_v13 main_v15 main_v16
-- ==== Pre_tables_ok.lean ====
abbrev S83 : Shape := ⟨1, ![83]⟩
abbrev S106240x1024 : Shape := ⟨2, ![106240, 1024]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S1 : Shape := ⟨1, ![1]⟩
abbrev S_ : Shape := ⟨0, ![]⟩

class Facts : Prop where
  slices_S83_S1_82 : S83.Slices ![82] S1
  shapeCasts_S1_S_ : S1.ShapeCasts S_
  bcast_S_S83 : S_.BroadcastsInDim S83 (![] : Fin 0 → Fin S83.rank)

variable [Facts]

def fn_part1 {F : FTy → Type} [FloatOps F] (main_arg1 : IVec S83 32) (main_arg2 : IVec S83 32) (main_v0 : IVec S83 32) (main_v2 : IVec S_ 32) (main_v16 : IVec S83 1) (main_v18 : IVec S83 32) : IVec S83 1 :=
  let main_v19 : IVec S83 1 := cmpi .eq main_arg2 main_v18
  let main_v20 : IVec S83 1 := andi main_v16 main_v19
  let main_v21 : IVec S83 32 := broadcastInDim S83 ![] bcast_S_S83 main_v2
  let main_v22 : IVec S83 1 := cmpi .sle main_v0 main_v21
  let main_c_4 : IVec S_ 32 := constantI S_ 32 0#32
  let main_v23 : IVec S83 32 := broadcastInDim S83 ![] bcast_S_S83 main_c_4
  let main_v24 : IVec S83 1 := cmpi .sle main_arg1 main_v23
  let main_v25 : IVec S83 1 := ori main_v22 main_v24
  let main_v26 : IVec S83 1 := andi main_v20 main_v25
  main_v26

def fn {F : FTy → Type} [FloatOps F] (main_arg0 : IVec S83 32) (main_arg1 : IVec S83 32) (main_arg2 : IVec S83 32) (main_arg3 : IVec S106240x1024 32) (main_arg4 : FVec F S32x2048x4096 .f32) (main_arg5 : FVec F S32x4096 .f32) (main_arg6 : FVec F S32x2048x2048 .f32) (main_arg7 : FVec F S32x2048 .f32) : IVec S83 1 :=
  let main_v0 : IVec S83 32 := iotaInDim S83 32 0
  let main_v1 : IVec S1 32 := (extractStridedSlice S1 ![82] · slices_S83_S1_82) main_arg2
  let main_v2 : IVec S_ 32 := shapeCast S_ main_v1 shapeCasts_S1_S_
  let main_c : IVec S_ 32 := constantI S_ 32 0#32
  let main_v3 : IVec S83 32 := broadcastInDim S83 ![] bcast_S_S83 main_c
  let main_v4 : IVec S83 1 := cmpi .sge main_arg0 main_v3
  let main_c_0 : IVec S_ 32 := constantI S_ 32 32#32
  let main_v5 : IVec S83 32 := broadcastInDim S83 ![] bcast_S_S83 main_c_0
  let main_v6 : IVec S83 1 := cmpi .slt main_arg0 main_v5
  let main_v7 : IVec S83 1 := andi main_v4 main_v6
  let main_c_1 : IVec S_ 32 := constantI S_ 32 1280#32
  let main_v8 : IVec S83 32 := broadcastInDim S83 ![] bcast_S_S83 main_c_1
  let main_v9 : IVec S83 1 := cmpi .sle main_arg1 main_v8
  let main_v10 : IVec S83 1 := andi main_v7 main_v9
  let main_c_2 : IVec S_ 32 := constantI S_ 32 0#32
  let main_v11 : IVec S_ 1 := cmpi .sge main_v2 main_c_2
  let main_v12 : IVec S83 1 := broadcastInDim S83 ![] bcast_S_S83 main_v11
  let main_v13 : IVec S83 1 := andi main_v10 main_v12
  let main_c_3 : IVec S_ 32 := constantI S_ 32 83#32
  let main_v14 : IVec S_ 1 := cmpi .slt main_v2 main_c_3
  let main_v15 : IVec S83 1 := broadcastInDim S83 ![] bcast_S_S83 main_v14
  let main_v16 : IVec S83 1 := andi main_v13 main_v15
  let main_v17 : IVec S83 32 := broadcastInDim S83 ![] bcast_S_S83 main_v2
  let main_v18 : IVec S83 32 := minsi main_v0 main_v17
  fn_part1 (F := F) main_arg1 main_arg2 main_v0 main_v2 main_v16 main_v18
-- ==== Kernel.lean ====
abbrev S65536 : Shape := ⟨1, ![65536]⟩
abbrev S16384x1024 : Shape := ⟨2, ![16384, 1024]⟩
abbrev S106240x1024 : Shape := ⟨2, ![106240, 1024]⟩
abbrev S2048 : Shape := ⟨1, ![2048]⟩
abbrev S512x1024 : Shape := ⟨2, ![512, 1024]⟩
abbrev S_ : Shape := ⟨0, ![]⟩
abbrev S1 : Shape := ⟨1, ![1]⟩
abbrev S1x1024 : Shape := ⟨2, ![1, 1024]⟩

abbrev nBuf : Space → Nat
  | .hbm => 3
  | .vmem => 2
  | .smem => 2
  | _ => 0

abbrev bufTy : (tb : Table) → Fin (tcTables nBuf tb) → BufTy
  | .hbm, ⟨0, _⟩ => ⟨S65536, .i32⟩
  | .hbm, ⟨1, _⟩ => ⟨S16384x1024, .i32⟩
  | .hbm, ⟨2, _⟩ => ⟨S106240x1024, .i32⟩
  | .local _ .vmem, ⟨0, _⟩ => ⟨S512x1024, .i32⟩
  | .local _ .vmem, ⟨1, _⟩ => ⟨S512x1024, .i32⟩
  | .local _ .smem, ⟨0, _⟩ => ⟨S2048, .i32⟩
  | .local _ .smem, ⟨1, _⟩ => ⟨S2048, .i32⟩
  | _, _ => ⟨S65536, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32 : BitVec 32 := 4#32
  let v2 : BitVec 32 := Scalar.muli arg5 c4_i32
  let c0_i32_3 : BitVec 32 := 0#32
  let v3 : BitVec 32 := Scalar.addi v2 c0_i32_3
  let v4 : Index := Scalar.indexCast v3
  ![v4.toNat]
def k0_off2 (v5 : BitVec 32) : Fin 2 → Nat :=
  let c0_i32_4 : BitVec 32 := 0#32
  ![v5.toNat, 0]

def k0_chk1 (v5 : BitVec 32) : Prop :=
  (∀ a, (k0_off2 v5) a + S1x1024.size a ≤ S106240x1024.size a)
theorem k0_off2_inb : ∀ (v5 : BitVec 32) (k0_hw1 : k0_chk1 v5), ∀ a, (k0_off2 v5) a + S1x1024.size a ≤ S106240x1024.size a := fun v5 k0_hw1 => k0_hw1

def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_5 : BitVec 32 := 0#32
  ![arg5.toNat, 0]
def k0_off4 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_6 : BitVec 32 := 4#32
  let v8 : BitVec 32 := Scalar.muli arg5 c4_i32_6
  let c1_i32_7 : BitVec 32 := 1#32
  let v9 : BitVec 32 := Scalar.addi v8 c1_i32_7
  let v10 : Index := Scalar.indexCast v9
  ![v10.toNat]
def k0_off5 (v11 : BitVec 32) : Fin 2 → Nat :=
  let c0_i32_8 : BitVec 32 := 0#32
  ![v11.toNat, 0]

def k0_chk2 (v11 : BitVec 32) : Prop :=
  (∀ a, (k0_off5 v11) a + S1x1024.size a ≤ S106240x1024.size a)
theorem k0_off5_inb : ∀ (v11 : BitVec 32) (k0_hw2 : k0_chk2 v11), ∀ a, (k0_off5 v11) a + S1x1024.size a ≤ S106240x1024.size a := fun v11 k0_hw2 => k0_hw2

def k0_off6 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_9 : BitVec 32 := 0#32
  ![arg5.toNat, 0]
def k0_off7 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_10 : BitVec 32 := 4#32
  let v14 : BitVec 32 := Scalar.muli arg5 c4_i32_10
  let c2_i32 : BitVec 32 := 2#32
  let v15 : BitVec 32 := Scalar.addi v14 c2_i32
  let v16 : Index := Scalar.indexCast v15
  ![v16.toNat]
def k0_off8 (v17 : BitVec 32) : Fin 2 → Nat :=
  let c0_i32_11 : BitVec 32 := 0#32
  ![v17.toNat, 0]

def k0_chk3 (v17 : BitVec 32) : Prop :=
  (∀ a, (k0_off8 v17) a + S1x1024.size a ≤ S106240x1024.size a)
theorem k0_off8_inb : ∀ (v17 : BitVec 32) (k0_hw3 : k0_chk3 v17), ∀ a, (k0_off8 v17) a + S1x1024.size a ≤ S106240x1024.size a := fun v17 k0_hw3 => k0_hw3

def k0_off9 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_12 : BitVec 32 := 0#32
  ![arg5.toNat, 0]
def k0_off10 (k0_t1 : Fin k0_t1_loop.trips) : Fin 1 → Nat :=
  let c0_i32 : BitVec 32 := 0#32
  let c1_i32 : BitVec 32 := 1#32
  let arg5 : BitVec 32 := Scf.iv c0_i32 c1_i32 k0_t1
  let c4_i32_13 : BitVec 32 := 4#32
  let v20 : BitVec 32 := Scalar.muli arg5 c4_i32_13
  let c3_i32 : BitVec 32 := 3#32
  let v21 : BitVec 32 := Scalar.addi v20 c3_i32
  let v22 : Index := Scalar.indexCast v21
  ![v22.toNat]
def k0_off11 (v23 : BitVec 32) : Fin 2 → Nat :=
  let c0_i32_14 : BitVec 32 := 0#32
  ![v23.toNat, 0]

def k0_chk4 (v23 : BitVec 32) : Prop :=
  (∀ a, (k0_off11 v23) a + S1x1024.size a ≤ S106240x1024.size a)
theorem k0_off11_inb : ∀ (v23 : BitVec 32) (k0_hw4 : k0_chk4 v23), ∀ a, (k0_off11 v23) a + S1x1024.size a ≤ S106240x1024.size a := fun v23 k0_hw4 => k0_hw4

def k0_off12 (k0_t1 : Fin k0_t1_loop.trips) : Fin 2 → Nat :=
  let c0_i32 : BitVec 32 := 0#32
  let c1_i32 : BitVec 32 := 1#32
  let arg5 : BitVec 32 := Scf.iv c0_i32 c1_i32 k0_t1
  let c0_i32_15 : BitVec 32 := 0#32
  ![arg5.toNat, 0]
@[reducible] def k0_t2_loop : Scf.Loop 32 :=
  let c0_i32_1 : BitVec 32 := 0#32
  let c2048_i32 : BitVec 32 := 2048#32
  let v1 : BitVec 32 := Scalar.addi c0_i32_1 c2048_i32
  let c1_i32_2 : BitVec 32 := 1#32
  ⟨c0_i32_1, v1, c1_i32_2⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S65536 : Shape := ⟨1, ![65536]⟩
abbrev S16384x1024 : Shape := ⟨2, ![16384, 1024]⟩
abbrev S_ : Shape := ⟨0, ![]⟩
abbrev S106240x1024 : Shape := ⟨2, ![106240, 1024]⟩
abbrev S65536x1 : Shape := ⟨2, ![65536, 1]⟩
abbrev S65536x1024 : Shape := ⟨2, ![65536, 1024]⟩

abbrev nBuf : Space → Nat
  | .hbm => 41
  | .vmem => 0
  | .smem => 0
  | _ => 0

abbrev bufTy : (tb : Table) → Fin (tcTables nBuf tb) → BufTy
  | .hbm, ⟨0, _⟩ => ⟨S65536, .i32⟩
  | .hbm, ⟨1, _⟩ => ⟨S16384x1024, .i32⟩
  | .hbm, ⟨2, _⟩ => ⟨S65536, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S65536, .i32⟩
  | .hbm, ⟨12, _⟩ => ⟨S65536, .i32⟩
  | .hbm, ⟨13, _⟩ => ⟨S_, .i32⟩
  | .hbm, ⟨14, _⟩ => ⟨S65536, .i32⟩
  | .hbm, ⟨15, _⟩ => ⟨S65536, .i1⟩
  | .hbm, ⟨16, _⟩ => ⟨S65536, .i1⟩
  | .hbm, ⟨17, _⟩ => ⟨S_, .i32⟩
  | .hbm, ⟨18, _⟩ => ⟨S65536, .i32⟩
  | .hbm, ⟨19, _⟩ => ⟨S65536, .i32⟩
  | .hbm, ⟨20, _⟩ => ⟨S65536, .i32⟩
  | .hbm, ⟨21, _⟩ => ⟨S_, .i32⟩
  | .hbm, ⟨22, _⟩ => ⟨S106240x1024, .i32⟩
  | .hbm, ⟨23, _⟩ => ⟨S_, .i32⟩
  | .hbm, ⟨24, _⟩ => ⟨S65536, .i32⟩
  | .hbm, ⟨25, _⟩ => ⟨S65536, .i1⟩
  | .hbm, ⟨26, _⟩ => ⟨S_, .i32⟩
  | .hbm, ⟨27, _⟩ => ⟨S65536, .i32⟩
  | .hbm, ⟨28, _⟩ => ⟨S65536, .i32⟩
  | .hbm, ⟨29, _⟩ => ⟨S65536, .i32⟩
  | .hbm, ⟨30, _⟩ => ⟨S65536x1, .i32⟩
  | .hbm, ⟨31, _⟩ => ⟨S65536x1024, .i32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S106240x1024, .i32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_c_1 : Ref sig .tc := ⟨.hbm, 23, rfl⟩
abbrev main_v3 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_c_3 : Ref sig .tc := ⟨.hbm, 32, rfl⟩
abbrev main_v10 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩

abbrev nD : Nat := 1
abbrev τ : Topo := Topo.v7x

variable {F : FTy → Type} [FloatOps F]
-- ==== Kernel2.lean ====
abbrev S83 : Shape := ⟨1, ![83]⟩
abbrev S106240x1024 : Shape := ⟨2, ![106240, 1024]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S106240x2048 : Shape := ⟨2, ![106240, 2048]⟩
abbrev S1280x1024 : Shape := ⟨2, ![1280, 1024]⟩
abbrev S1 : Shape := ⟨1, ![1]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S1280x2048 : Shape := ⟨2, ![1280, 2048]⟩
abbrev S1280x1 : Shape := ⟨2, ![1280, 1]⟩
abbrev S1x2048 : Shape := ⟨2, ![1, 2048]⟩
abbrev S2048x256 : Shape := ⟨2, ![2048, 256]⟩
abbrev S256x2048 : Shape := ⟨2, ![256, 2048]⟩
abbrev S128x2048 : Shape := ⟨2, ![128, 2048]⟩
abbrev S128x256 : Shape := ⟨2, ![128, 256]⟩
abbrev S1x256 : Shape := ⟨2, ![1, 256]⟩
abbrev S256x256 : Shape := ⟨2, ![256, 256]⟩
abbrev S512x2048 : Shape := ⟨2, ![512, 2048]⟩
abbrev S512x256 : Shape := ⟨2, ![512, 256]⟩

abbrev nBuf : Space → Nat
  | .hbm => 8
  | .vmem => 17
  | .smem => 3
  | _ => 0

abbrev bufTy : (tb : Table) → Fin (tcTables nBuf tb) → BufTy
  | .hbm, ⟨0, _⟩ => ⟨S106240x1024, .i32⟩
  | .hbm, ⟨1, _⟩ => ⟨S32x2048x4096, .f32⟩
  | .hbm, ⟨2, _⟩ => ⟨S32x4096, .f32⟩
  | .hbm, ⟨3, _⟩ => ⟨S32x2048x2048, .f32⟩
  | .hbm, ⟨4, _⟩ => ⟨S32x2048, .f32⟩
  | .hbm, ⟨5, _⟩ => ⟨S32x1x4096, .f32⟩
  | .hbm, ⟨6, _⟩ => ⟨S32x1x2048, .f32⟩
  | .hbm, ⟨7, _⟩ => ⟨S106240x2048, .f32⟩
  | .local _ .vmem, ⟨0, _⟩ => ⟨S1280x1024, .i32⟩
  | .local _ .vmem, ⟨1, _⟩ => ⟨S1280x1024, .i32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S1280x2048, .f32⟩
  | .local _ .vmem, ⟨15, _⟩ => ⟨S1280x2048, .f32⟩
  | .local _ .vmem, ⟨16, _⟩ => ⟨S1280x2048, .bf16⟩
  | .local _ .smem, ⟨0, _⟩ => ⟨S83, .i32⟩
  | .local _ .smem, ⟨1, _⟩ => ⟨S83, .i32⟩
  | .local _ .smem, ⟨2, _⟩ => ⟨S83, .i32⟩
  | _, _ => ⟨S106240x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![83, 8], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_cond3 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c1_i32_10 : BitVec 32 := 1#32
  let v27 : BitVec 1 := Scalar.cmpi .eq v26 c1_i32_10
  let v28 : BitVec 32 := Scalar.extui v27
  let c0_i32_11 : BitVec 32 := 0#32
  let v29 : BitVec 1 := Scalar.cmpi .ne v28 c0_i32_11
  v29

def k0_cond4 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c2_i32 : BitVec 32 := 2#32
  let v30 : BitVec 1 := Scalar.cmpi .eq v26 c2_i32
  let v31 : BitVec 32 := Scalar.extui v30
  let c0_i32_12 : BitVec 32 := 0#32
  let v32 : BitVec 1 := Scalar.cmpi .ne v31 c0_i32_12
  v32

def k0_cond5 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c3_i32 : BitVec 32 := 3#32
  let v33 : BitVec 1 := Scalar.cmpi .eq v26 c3_i32
  let v34 : BitVec 32 := Scalar.extui v33
  let c0_i32_13 : BitVec 32 := 0#32
  let v35 : BitVec 1 := Scalar.cmpi .ne v34 c0_i32_13
  v35

def k0_cond6 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c4_i32 : BitVec 32 := 4#32
  let v36 : BitVec 1 := Scalar.cmpi .eq v26 c4_i32
  let v37 : BitVec 32 := Scalar.extui v36
  let c0_i32_14 : BitVec 32 := 0#32
  let v38 : BitVec 1 := Scalar.cmpi .ne v37 c0_i32_14
  v38

def k0_cond7 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c5_i32 : BitVec 32 := 5#32
  let v39 : BitVec 1 := Scalar.cmpi .eq v26 c5_i32
  let v40 : BitVec 32 := Scalar.extui v39
  let c0_i32_15 : BitVec 32 := 0#32
  let v41 : BitVec 1 := Scalar.cmpi .ne v40 c0_i32_15
  v41

def k0_cond8 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c6_i32 : BitVec 32 := 6#32
  let v42 : BitVec 1 := Scalar.cmpi .eq v26 c6_i32
  let v43 : BitVec 32 := Scalar.extui v42
  let c0_i32_16 : BitVec 32 := 0#32
  let v44 : BitVec 1 := Scalar.cmpi .ne v43 c0_i32_16
  v44

def k0_cond9 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c7_i32 : BitVec 32 := 7#32
  let v45 : BitVec 1 := Scalar.cmpi .eq v26 c7_i32
  let v46 : BitVec 32 := Scalar.extui v45
  let c0_i32_17 : BitVec 32 := 0#32
  let v47 : BitVec 1 := Scalar.cmpi .ne v46 c0_i32_17
  v47

def k0_cond10 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c8_i32 : BitVec 32 := 8#32
  let v48 : BitVec 1 := Scalar.cmpi .eq v26 c8_i32
  let v49 : BitVec 32 := Scalar.extui v48
  let c0_i32_18 : BitVec 32 := 0#32
  let v50 : BitVec 1 := Scalar.cmpi .ne v49 c0_i32_18
  v50

def k0_cond11 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c9_i32 : BitVec 32 := 9#32
  let v51 : BitVec 1 := Scalar.cmpi .eq v26 c9_i32
  let v52 : BitVec 32 := Scalar.extui v51
  let c0_i32_19 : BitVec 32 := 0#32
  let v53 : BitVec 1 := Scalar.cmpi .ne v52 c0_i32_19
  v53

def k0_cond12 (v1 : BitVec 32) : BitVec 1 :=
  let c128_i32 : BitVec 32 := 128#32
  let v8 : BitVec 32 := Scalar.addi v1 c128_i32
  let c1_i32 : BitVec 32 := 1#32
  let v9 : BitVec 32 := Scalar.subi v8 c1_i32
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c128_i32_3 : BitVec 32 := 128#32
  let c0_i32_6 : BitVec 32 := 0#32
  let v16 : BitVec 1 := Scalar.cmpi .sgt c128_i32_3 c0_i32_6
  let v17 : BitVec 32 := Scalar.extui v16
  let c0_i32_7 : BitVec 32 := 0#32
  let v18 : BitVec 1 := Scalar.cmpi .slt c128_i32_3 c0_i32_7
  let v19 : BitVec 32 := Scalar.extui v18
  let v20 : BitVec 32 := Scalar.subi v17 v19
  let v21 : BitVec 1 := Scalar.cmpi .ne v15 v20
  let v22 : BitVec 32 := Scalar.remsi v9 c128_i32_3
  let c0_i32_8 : BitVec 32 := 0#32
  let v23 : BitVec 1 := Scalar.cmpi .ne v22 c0_i32_8
  let v24 : BitVec 1 := Scalar.andi v21 v23
  let v10 : BitVec 32 := Scalar.divsi v9 c128_i32_3
  let c1_i32_9 : BitVec 32 := 1#32
  let v25 : BitVec 32 := Scalar.subi v10 c1_i32_9
  let v26 : BitVec 32 := Scalar.select v24 v25 v10
  let c10_i32 : BitVec 32 := 10#32
  let v54 : BitVec 1 := Scalar.cmpi .eq v26 c10_i32
  let v55 : BitVec 32 := Scalar.extui v54
  let c0_i32_20 : BitVec 32 := 0#32
  let v56 : BitVec 1 := Scalar.cmpi .ne v55 c0_i32_20
  v56

def cc0_transform_0 (k0_off1_inb : ∀ i : grid0.Coords, ∀ a, (k0_off1 i) a + S1.size a ≤ S83.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S83) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let v2 : Index := Scalar.indexCast arg0
  let v3 : BitVec 32 := pf.at 1 (Rect.unit (s := S83) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let v2 : Index := Scalar.indexCast arg0
  let v3 : BitVec 32 := pf.at 1 (Rect.unit (s := S83) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let v2 : Index := Scalar.indexCast arg0
  let v3 : BitVec 32 := pf.at 1 (Rect.unit (s := S83) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_4 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let v2 : Index := Scalar.indexCast arg0
  let v3 : BitVec 32 := pf.at 1 (Rect.unit (s := S83) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c8_i32 : BitVec 32 := 8#32
  let v6 : BitVec 32 := Scalar.addi c8_i32 v5
  let c0_i32_0 : BitVec 32 := 0#32
  let c0_i32_1 : BitVec 32 := 0#32
  ![v1.toNat, c0_i32_0.toNat, v6.toNat]

def cc0_transform_5 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let v2 : Index := Scalar.indexCast arg0
  let v3 : BitVec 32 := pf.at 1 (Rect.unit (s := S83) ![v2.toNat] S1.size (k0_off1_inb i)) numel1_S1
  let c0_i32 : BitVec 32 := 0#32
  let v4 : BitVec 1 := Scalar.cmpi .sgt v3 c0_i32
  let c7_i32 : BitVec 32 := 7#32
  let v5 : BitVec 32 := Scalar.select v4 arg1 c7_i32
  let c0_i32_0 : BitVec 32 := 0#32
  let c0_i32_1 : BitVec 32 := 0#32
  ![v1.toNat, v5.toNat, c0_i32_0.toNat]

def cc0_transform_6 (k0_off1_inb : ∀ i : grid0.Coords, ∀ a, (k0_off1 i) a + S1.size a ≤ S83.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S83) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S83.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S83) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1280x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1280x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S83 : Shape := ⟨1, ![83]⟩
abbrev S106240x1024 : Shape := ⟨2, ![106240, 1024]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩
abbrev S106240x2048 : Shape := ⟨2, ![106240, 2048]⟩
abbrev S83x1280x2048 : Shape := ⟨3, ![83, 1280, 2048]⟩
abbrev S83x1 : Shape := ⟨2, ![83, 1]⟩
abbrev S83x2048x4096 : Shape := ⟨3, ![83, 2048, 4096]⟩
abbrev S83x1280x4096 : Shape := ⟨3, ![83, 1280, 4096]⟩
abbrev S83x4096 : Shape := ⟨2, ![83, 4096]⟩
abbrev S83x1x4096 : Shape := ⟨3, ![83, 1, 4096]⟩
abbrev S83x2048x2048 : Shape := ⟨3, ![83, 2048, 2048]⟩
abbrev S83x2048 : Shape := ⟨2, ![83, 2048]⟩
abbrev S83x1x2048 : Shape := ⟨3, ![83, 1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S83, .i32⟩
  | .hbm, ⟨1, _⟩ => ⟨S83, .i32⟩
  | .hbm, ⟨2, _⟩ => ⟨S83, .i32⟩
  | .hbm, ⟨3, _⟩ => ⟨S106240x1024, .i32⟩
  | .hbm, ⟨4, _⟩ => ⟨S32x2048x4096, .f32⟩
  | .hbm, ⟨5, _⟩ => ⟨S32x4096, .f32⟩
  | .hbm, ⟨6, _⟩ => ⟨S32x2048x2048, .f32⟩
  | .hbm, ⟨7, _⟩ => ⟨S32x2048, .f32⟩
  | .hbm, ⟨8, _⟩ => ⟨S_, .i32⟩
  | .hbm, ⟨9, _⟩ => ⟨S106240x1024, .i32⟩
  | .hbm, ⟨10, _⟩ => ⟨S106240x1024, .i32⟩
  | .hbm, ⟨11, _⟩ => ⟨S106240x1024, .f32⟩
  | .hbm, ⟨12, _⟩ => ⟨S_, .i32⟩
  | .hbm, ⟨13, _⟩ => ⟨S106240x1024, .i32⟩
  | .hbm, ⟨14, _⟩ => ⟨S106240x1024, .i32⟩
  | .hbm, ⟨15, _⟩ => ⟨S106240x1024, .f32⟩
  | .hbm, ⟨16, _⟩ => ⟨S106240x2048, .f32⟩
  | .hbm, ⟨17, _⟩ => ⟨S83x1280x2048, .f32⟩
  | .hbm, ⟨18, _⟩ => ⟨S_, .i32⟩
  | .hbm, ⟨19, _⟩ => ⟨S83, .i32⟩
  | .hbm, ⟨20, _⟩ => ⟨S83, .i1⟩
  | .hbm, ⟨21, _⟩ => ⟨S_, .i32⟩
  | .hbm, ⟨22, _⟩ => ⟨S83, .i32⟩
  | .hbm, ⟨23, _⟩ => ⟨S83, .i32⟩
  | .hbm, ⟨24, _⟩ => ⟨S83, .i32⟩
  | .hbm, ⟨25, _⟩ => ⟨S83x1, .i32⟩
  | .hbm, ⟨26, _⟩ => ⟨S83x2048x4096, .f32⟩
  | .hbm, ⟨27, _⟩ => ⟨S83x1280x4096, .f32⟩
  | .hbm, ⟨28, _⟩ => ⟨S_, .i32⟩
  | .hbm, ⟨29, _⟩ => ⟨S83, .i32⟩
  | .hbm, ⟨30, _⟩ => ⟨S83, .i1⟩
  | .hbm, ⟨31, _⟩ => ⟨S_, .i32⟩
  | .hbm, ⟨32, _⟩ => ⟨S83, .i32⟩
  | .hbm, ⟨33, _⟩ => ⟨S83, .i32⟩
  | .hbm, ⟨34, _⟩ => ⟨S83, .i32⟩
  | .hbm, ⟨35, _⟩ => ⟨S83x1, .i32⟩
  | .hbm, ⟨36, _⟩ => ⟨S83x4096, .f32⟩
  | .hbm, ⟨37, _⟩ => ⟨S83x1x4096, .f32⟩
  | .hbm, ⟨38, _⟩ => ⟨S83x1280x4096, .f32⟩
  | .hbm, ⟨39, _⟩ => ⟨S83x1280x4096, .f32⟩
  | .hbm, ⟨40, _⟩ => ⟨S83x1280x2048, .f32⟩
  | .hbm, ⟨41, _⟩ => ⟨S_, .f32⟩
  | .hbm, ⟨42, _⟩ => ⟨S83x1280x2048, .f32⟩
  | .hbm, ⟨43, _⟩ => ⟨S83x1280x2048, .f32⟩
  | .hbm, ⟨44, _⟩ => ⟨S83x1280x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S83x1280x2048, .f32⟩
  | .hbm, ⟨49, _⟩ => ⟨S83x1280x2048, .f32⟩
  | .hbm, ⟨50, _⟩ => ⟨S_, .f32⟩
  | .hbm, ⟨51, _⟩ => ⟨S83x1280x2048, .f32⟩
  | .hbm, ⟨52, _⟩ => ⟨S83x1280x2048, .f32⟩
  | .hbm, ⟨53, _⟩ => ⟨S_, .f32⟩
  | .hbm, ⟨54, _⟩ => ⟨S83x1280x2048, .f32⟩
  | .hbm, ⟨55, _⟩ => ⟨S83x1280x2048, .f32⟩
  | .hbm, ⟨56, _⟩ => ⟨S83x1280x2048, .f32⟩
  | .hbm, ⟨57, _⟩ => ⟨S_, .f32⟩
  | .hbm, ⟨58, _⟩ => ⟨S83x1280x2048, .f32⟩
  | .hbm, ⟨59, _⟩ => ⟨S83x1280x2048, .f32⟩
  | .hbm, ⟨60, _⟩ => ⟨S83x1280x2048, .f32⟩
  | .hbm, ⟨61, _⟩ => ⟨S83x1280x2048, .f32⟩
  | .hbm, ⟨62, _⟩ => ⟨S_, .f32⟩
  | .hbm, ⟨63, _⟩ => ⟨S83x1280x2048, .f32⟩
  | .hbm, ⟨64, _⟩ => ⟨S83x1280x2048, .f32⟩
  | .hbm, ⟨65, _⟩ => ⟨S_, .f32⟩
  | .hbm, ⟨66, _⟩ => ⟨S83x1280x2048, .f32⟩
  | .hbm, ⟨67, _⟩ => ⟨S83x1280x2048, .f32⟩
  | .hbm, ⟨68, _⟩ => ⟨S83x1280x2048, .f32⟩
  | .hbm, ⟨69, _⟩ => ⟨S_, .i32⟩
  | .hbm, ⟨70, _⟩ => ⟨S83, .i32⟩
  | .hbm, ⟨71, _⟩ => ⟨S83, .i1⟩
  | .hbm, ⟨72, _⟩ => ⟨S_, .i32⟩
  | .hbm, ⟨73, _⟩ => ⟨S83, .i32⟩
  | .hbm, ⟨74, _⟩ => ⟨S83, .i32⟩
  | .hbm, ⟨75, _⟩ => ⟨S83, .i32⟩
  | .hbm, ⟨76, _⟩ => ⟨S83x1, .i32⟩
  | .hbm, ⟨77, _⟩ => ⟨S83x2048x2048, .f32⟩
  | .hbm, ⟨78, _⟩ => ⟨S83x1280x2048, .f32⟩
  | .hbm, ⟨79, _⟩ => ⟨S_, .i32⟩
  | .hbm, ⟨80, _⟩ => ⟨S83, .i32⟩
  | .hbm, ⟨81, _⟩ => ⟨S83, .i1⟩
  | .hbm, ⟨82, _⟩ => ⟨S_, .i32⟩
  | .hbm, ⟨83, _⟩ => ⟨S83, .i32⟩
  | .hbm, ⟨84, _⟩ => ⟨S83, .i32⟩
  | .hbm, ⟨85, _⟩ => ⟨S83, .i32⟩
  | .hbm, ⟨86, _⟩ => ⟨S83x1, .i32⟩
  | .hbm, ⟨87, _⟩ => ⟨S83x2048, .f32⟩
  | .hbm, ⟨88, _⟩ => ⟨S83x1x2048, .f32⟩
  | .hbm, ⟨89, _⟩ => ⟨S83x1280x2048, .f32⟩
  | .hbm, ⟨90, _⟩ => ⟨S83x1280x2048, .f32⟩
  | .hbm, ⟨91, _⟩ => ⟨S106240x2048, .f32⟩
  | _, _ => ⟨S83, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]
-- ==== Kernel3.lean ====
abbrev S128 : Shape := ⟨1, ![128]⟩
abbrev S32x2048 : Shape := ⟨2, ![32, 2048]⟩
abbrev S32x128 : Shape := ⟨2, ![32, 128]⟩
abbrev S106240x2048 : Shape := ⟨2, ![106240, 2048]⟩
abbrev S2x4x32x2048 : Shape := ⟨4, ![2, 4, 32, 2048]⟩
abbrev S2 : Shape := ⟨1, ![2]⟩
abbrev S1 : Shape := ⟨1, ![1]⟩
abbrev S_ : Shape := ⟨0, ![]⟩
abbrev S1x1x1x2048 : Shape := ⟨4, ![1, 1, 1, 2048]⟩
abbrev S1x2048 : Shape := ⟨2, ![1, 2048]⟩
abbrev S32x1 : Shape := ⟨2, ![32, 1]⟩
abbrev S1x1x32x2048 : Shape := ⟨4, ![1, 1, 32, 2048]⟩

abbrev nBuf : Space → Nat
  | .hbm => 5
  | .vmem => 4
  | .smem => 2
  | _ => 0

abbrev bufTy : (tb : Table) → Fin (tcTables nBuf tb) → BufTy
  | .hbm, ⟨0, _⟩ => ⟨S128, .i32⟩
  | .hbm, ⟨1, _⟩ => ⟨S32x2048, .f32⟩
  | .hbm, ⟨2, _⟩ => ⟨S32x128, .f32⟩
  | .hbm, ⟨3, _⟩ => ⟨S106240x2048, .f32⟩
  | .hbm, ⟨4, _⟩ => ⟨S32x2048, .f32⟩
  | .local _ .vmem, ⟨0, _⟩ => ⟨S32x2048, .f32⟩
  | .local _ .vmem, ⟨1, _⟩ => ⟨S32x128, .f32⟩
  | .local _ .vmem, ⟨2, _⟩ => ⟨S32x2048, .f32⟩
  | .local _ .vmem, ⟨3, _⟩ => ⟨S2x4x32x2048, .f32⟩
  | .local _ .smem, ⟨0, _⟩ => ⟨S128, .i32⟩
  | .local _ .smem, ⟨1, _⟩ => ⟨S128, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_24 : BitVec 32 := 0#32
  let c32_i32 : BitVec 32 := 32#32
  let v49 : BitVec 32 := Scalar.addi c0_i32_24 c32_i32
  let c1_i32_25 : BitVec 32 := 1#32
  ⟨c0_i32_24, v49, c1_i32_25⟩
def k0_off1 (k0_t1 : Fin k0_t1_loop.trips) : Fin 1 → Nat :=
  let c0_i32_24 : BitVec 32 := 0#32
  let c1_i32_25 : BitVec 32 := 1#32
  let arg9 : BitVec 32 := Scf.iv c0_i32_24 c1_i32_25 k0_t1
  let c4_i32 : BitVec 32 := 4#32
  let v50 : BitVec 32 := Scalar.muli arg9 c4_i32
  let c0_i32_27 : BitVec 32 := 0#32
  let v51 : BitVec 32 := Scalar.addi v50 c0_i32_27
  let v52 : Index := Scalar.indexCast v51
  ![v52.toNat]
def k0_off2 (k0_t1 : Fin k0_t1_loop.trips) : Fin 4 → Nat :=
  let c0_i32_28 : BitVec 32 := 0#32
  let c0_i32_29 : BitVec 32 := 0#32
  let c0_i32_24 : BitVec 32 := 0#32
  let c1_i32_25 : BitVec 32 := 1#32
  let arg9 : BitVec 32 := Scf.iv c0_i32_24 c1_i32_25 k0_t1
  let c0_i32_31 : BitVec 32 := 0#32
  ![0, 0, arg9.toNat, 0]
def k0_off3 (v53 : BitVec 32) : Fin 2 → Nat :=
  let c0_i32_32 : BitVec 32 := 0#32
  ![v53.toNat, 0]

def k0_chk1 (i : grid0.Coords) (v53 : BitVec 32) : Prop :=
  (∀ (k0_h1 : k0_cond1 i = 1#1), ∀ a, (k0_off3 v53) a + S1x2048.size a ≤ S106240x2048.size a)
theorem k0_off3_inb : ∀ (i : grid0.Coords) (v53 : BitVec 32) (k0_hw1 : k0_chk1 i v53), ∀ (k0_h1 : k0_cond1 i = 1#1), ∀ a, (k0_off3 v53) a + S1x2048.size a ≤ S106240x2048.size a := fun i v53 k0_hw1 k0_h1 => k0_hw1 k0_h1

def k0_off4 (k0_t1 : Fin k0_t1_loop.trips) : Fin 1 → Nat :=
  let c0_i32_24 : BitVec 32 := 0#32
  let c1_i32_25 : BitVec 32 := 1#32
  let arg9 : BitVec 32 := Scf.iv c0_i32_24 c1_i32_25 k0_t1
  let c4_i32_33 : BitVec 32 := 4#32
  let v59 : BitVec 32 := Scalar.muli arg9 c4_i32_33
  let c1_i32_34 : BitVec 32 := 1#32
  let v60 : BitVec 32 := Scalar.addi v59 c1_i32_34
  let v61 : Index := Scalar.indexCast v60
  ![v61.toNat]
def k0_off5 (k0_t1 : Fin k0_t1_loop.trips) : Fin 4 → Nat :=
  let c0_i32_35 : BitVec 32 := 0#32
  let c1_i32_36 : BitVec 32 := 1#32
  let c0_i32_24 : BitVec 32 := 0#32
  let c1_i32_25 : BitVec 32 := 1#32
  let arg9 : BitVec 32 := Scf.iv c0_i32_24 c1_i32_25 k0_t1
  let c0_i32_38 : BitVec 32 := 0#32
  ![0, 1, arg9.toNat, 0]
def k0_off6 (v62 : BitVec 32) : Fin 2 → Nat :=
  let c0_i32_39 : BitVec 32 := 0#32
  ![v62.toNat, 0]

def k0_chk2 (i : grid0.Coords) (v62 : BitVec 32) : Prop :=
  (∀ (k0_h1 : k0_cond1 i = 1#1), ∀ a, (k0_off6 v62) a + S1x2048.size a ≤ S106240x2048.size a)
theorem k0_off6_inb : ∀ (i : grid0.Coords) (v62 : BitVec 32) (k0_hw2 : k0_chk2 i v62), ∀ (k0_h1 : k0_cond1 i = 1#1), ∀ a, (k0_off6 v62) a + S1x2048.size a ≤ S106240x2048.size a := fun i v62 k0_hw2 k0_h1 => k0_hw2 k0_h1

def k0_off7 (k0_t1 : Fin k0_t1_loop.trips) : Fin 1 → Nat :=
  let c0_i32_24 : BitVec 32 := 0#32
  let c1_i32_25 : BitVec 32 := 1#32
  let arg9 : BitVec 32 := Scf.iv c0_i32_24 c1_i32_25 k0_t1
  let c4_i32_40 : BitVec 32 := 4#32
  let v68 : BitVec 32 := Scalar.muli arg9 c4_i32_40
  let c2_i32_41 : BitVec 32 := 2#32
  let v69 : BitVec 32 := Scalar.addi v68 c2_i32_41
  let v70 : Index := Scalar.indexCast v69
  ![v70.toNat]
def k0_off8 (k0_t1 : Fin k0_t1_loop.trips) : Fin 4 → Nat :=
  let c0_i32_42 : BitVec 32 := 0#32
  let c2_i32_43 : BitVec 32 := 2#32
  let c0_i32_24 : BitVec 32 := 0#32
  let c1_i32_25 : BitVec 32 := 1#32
  let arg9 : BitVec 32 := Scf.iv c0_i32_24 c1_i32_25 k0_t1
  let c0_i32_45 : BitVec 32 := 0#32
  ![0, 2, arg9.toNat, 0]
def k0_off9 (v71 : BitVec 32) : Fin 2 → Nat :=
  let c0_i32_46 : BitVec 32 := 0#32
  ![v71.toNat, 0]

def k0_chk3 (i : grid0.Coords) (v71 : BitVec 32) : Prop :=
  (∀ (k0_h1 : k0_cond1 i = 1#1), ∀ a, (k0_off9 v71) a + S1x2048.size a ≤ S106240x2048.size a)
theorem k0_off9_inb : ∀ (i : grid0.Coords) (v71 : BitVec 32) (k0_hw3 : k0_chk3 i v71), ∀ (k0_h1 : k0_cond1 i = 1#1), ∀ a, (k0_off9 v71) a + S1x2048.size a ≤ S106240x2048.size a := fun i v71 k0_hw3 k0_h1 => k0_hw3 k0_h1

def k0_off10 (k0_t1 : Fin k0_t1_loop.trips) : Fin 1 → Nat :=
  let c0_i32_24 : BitVec 32 := 0#32
  let c1_i32_25 : BitVec 32 := 1#32
  let arg9 : BitVec 32 := Scf.iv c0_i32_24 c1_i32_25 k0_t1
  let c4_i32_47 : BitVec 32 := 4#32
  let v77 : BitVec 32 := Scalar.muli arg9 c4_i32_47
  let c3_i32 : BitVec 32 := 3#32
  let v78 : BitVec 32 := Scalar.addi v77 c3_i32
  let v79 : Index := Scalar.indexCast v78
  ![v79.toNat]
def k0_off11 (k0_t1 : Fin k0_t1_loop.trips) : Fin 4 → Nat :=
  let c0_i32_48 : BitVec 32 := 0#32
  let c3_i32_49 : BitVec 32 := 3#32
  let c0_i32_24 : BitVec 32 := 0#32
  let c1_i32_25 : BitVec 32 := 1#32
  let arg9 : BitVec 32 := Scf.iv c0_i32_24 c1_i32_25 k0_t1
  let c0_i32_51 : BitVec 32 := 0#32
  ![0, 3, arg9.toNat, 0]
def k0_off12 (v80 : BitVec 32) : Fin 2 → Nat :=
  let c0_i32_52 : BitVec 32 := 0#32
  ![v80.toNat, 0]

def k0_chk4 (i : grid0.Coords) (v80 : BitVec 32) : Prop :=
  (∀ (k0_h1 : k0_cond1 i = 1#1), ∀ a, (k0_off12 v80) a + S1x2048.size a ≤ S106240x2048.size a)
theorem k0_off12_inb : ∀ (i : grid0.Coords) (v80 : BitVec 32) (k0_hw4 : k0_chk4 i v80), ∀ (k0_h1 : k0_cond1 i = 1#1), ∀ a, (k0_off12 v80) a + S1x2048.size a ≤ S106240x2048.size a := fun i v80 k0_hw4 k0_h1 => k0_hw4 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c1_i32_6 : BitVec 32 := 1#32
  let v14 : BitVec 1 := Scalar.cmpi .slt v13 c1_i32_6
  let v15 : BitVec 32 := Scalar.extui v14
  let c0_i32_7 : BitVec 32 := 0#32
  let v16 : BitVec 1 := Scalar.cmpi .ne v15 c0_i32_7
  v16

@[reducible] def k0_t2_loop : Scf.Loop 32 :=
  let c0_i32_25 : BitVec 32 := 0#32
  let c32_i32 : BitVec 32 := 32#32
  let v50 : BitVec 32 := Scalar.addi c0_i32_25 c32_i32
  let c1_i32_26 : BitVec 32 := 1#32
  ⟨c0_i32_25, v50, c1_i32_26⟩
def k0_off13 (k0_t2 : Fin k0_t2_loop.trips) : Fin 1 → Nat :=
  let c0_i32_25 : BitVec 32 := 0#32
  let c1_i32_26 : BitVec 32 := 1#32
  let arg9 : BitVec 32 := Scf.iv c0_i32_25 c1_i32_26 k0_t2
  let c4_i32 : BitVec 32 := 4#32
  let v51 : BitVec 32 := Scalar.muli arg9 c4_i32
  let c0_i32_28 : BitVec 32 := 0#32
  let v52 : BitVec 32 := Scalar.addi v51 c0_i32_28
  let v53 : Index := Scalar.indexCast v52
  ![v53.toNat]
def k0_off14 (i : grid0.Coords) : Fin 1 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  ![v49.toNat]
def k0_off15 (i : grid0.Coords) (k0_t2 : Fin k0_t2_loop.trips) : Fin 4 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  let c0_i32_29 : BitVec 32 := 0#32
  let c0_i32_25 : BitVec 32 := 0#32
  let c1_i32_26 : BitVec 32 := 1#32
  let arg9 : BitVec 32 := Scf.iv c0_i32_25 c1_i32_26 k0_t2
  let c0_i32_30 : BitVec 32 := 0#32
  ![v49.toNat, 0, arg9.toNat, 0]
def k0_off16 (v54 : BitVec 32) : Fin 2 → Nat :=
  let c0_i32_31 : BitVec 32 := 0#32
  ![v54.toNat, 0]

def k0_chk5 (i : grid0.Coords) (v54 : BitVec 32) : Prop :=
  (∀ (k0_h2 : k0_cond2 i = 1#1), ∀ a, (k0_off16 v54) a + S1x2048.size a ≤ S106240x2048.size a)
theorem k0_off16_inb : ∀ (i : grid0.Coords) (v54 : BitVec 32) (k0_hw5 : k0_chk5 i v54), ∀ (k0_h2 : k0_cond2 i = 1#1), ∀ a, (k0_off16 v54) a + S1x2048.size a ≤ S106240x2048.size a := fun i v54 k0_hw5 k0_h2 => k0_hw5 k0_h2

def k0_off17 (k0_t2 : Fin k0_t2_loop.trips) : Fin 1 → Nat :=
  let c0_i32_25 : BitVec 32 := 0#32
  let c1_i32_26 : BitVec 32 := 1#32
  let arg9 : BitVec 32 := Scf.iv c0_i32_25 c1_i32_26 k0_t2
  let c4_i32_32 : BitVec 32 := 4#32
  let v60 : BitVec 32 := Scalar.muli arg9 c4_i32_32
  let c1_i32_33 : BitVec 32 := 1#32
  let v61 : BitVec 32 := Scalar.addi v60 c1_i32_33
  let v62 : Index := Scalar.indexCast v61
  ![v62.toNat]
def k0_off18 (i : grid0.Coords) : Fin 1 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  ![v49.toNat]
def k0_off19 (i : grid0.Coords) (k0_t2 : Fin k0_t2_loop.trips) : Fin 4 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  let c1_i32_34 : BitVec 32 := 1#32
  let c0_i32_25 : BitVec 32 := 0#32
  let c1_i32_26 : BitVec 32 := 1#32
  let arg9 : BitVec 32 := Scf.iv c0_i32_25 c1_i32_26 k0_t2
  let c0_i32_35 : BitVec 32 := 0#32
  ![v49.toNat, 1, arg9.toNat, 0]
def k0_off20 (v63 : BitVec 32) : Fin 2 → Nat :=
  let c0_i32_36 : BitVec 32 := 0#32
  ![v63.toNat, 0]

def k0_chk6 (i : grid0.Coords) (v63 : BitVec 32) : Prop :=
  (∀ (k0_h2 : k0_cond2 i = 1#1), ∀ a, (k0_off20 v63) a + S1x2048.size a ≤ S106240x2048.size a)
theorem k0_off20_inb : ∀ (i : grid0.Coords) (v63 : BitVec 32) (k0_hw6 : k0_chk6 i v63), ∀ (k0_h2 : k0_cond2 i = 1#1), ∀ a, (k0_off20 v63) a + S1x2048.size a ≤ S106240x2048.size a := fun i v63 k0_hw6 k0_h2 => k0_hw6 k0_h2

def k0_off21 (k0_t2 : Fin k0_t2_loop.trips) : Fin 1 → Nat :=
  let c0_i32_25 : BitVec 32 := 0#32
  let c1_i32_26 : BitVec 32 := 1#32
  let arg9 : BitVec 32 := Scf.iv c0_i32_25 c1_i32_26 k0_t2
  let c4_i32_37 : BitVec 32 := 4#32
  let v69 : BitVec 32 := Scalar.muli arg9 c4_i32_37
  let c2_i32_38 : BitVec 32 := 2#32
  let v70 : BitVec 32 := Scalar.addi v69 c2_i32_38
  let v71 : Index := Scalar.indexCast v70
  ![v71.toNat]
def k0_off22 (i : grid0.Coords) : Fin 1 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  ![v49.toNat]
def k0_off23 (i : grid0.Coords) (k0_t2 : Fin k0_t2_loop.trips) : Fin 4 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  let c2_i32_39 : BitVec 32 := 2#32
  let c0_i32_25 : BitVec 32 := 0#32
  let c1_i32_26 : BitVec 32 := 1#32
  let arg9 : BitVec 32 := Scf.iv c0_i32_25 c1_i32_26 k0_t2
  let c0_i32_40 : BitVec 32 := 0#32
  ![v49.toNat, 2, arg9.toNat, 0]
def k0_off24 (v72 : BitVec 32) : Fin 2 → Nat :=
  let c0_i32_41 : BitVec 32 := 0#32
  ![v72.toNat, 0]

def k0_chk7 (i : grid0.Coords) (v72 : BitVec 32) : Prop :=
  (∀ (k0_h2 : k0_cond2 i = 1#1), ∀ a, (k0_off24 v72) a + S1x2048.size a ≤ S106240x2048.size a)
theorem k0_off24_inb : ∀ (i : grid0.Coords) (v72 : BitVec 32) (k0_hw7 : k0_chk7 i v72), ∀ (k0_h2 : k0_cond2 i = 1#1), ∀ a, (k0_off24 v72) a + S1x2048.size a ≤ S106240x2048.size a := fun i v72 k0_hw7 k0_h2 => k0_hw7 k0_h2

def k0_off25 (k0_t2 : Fin k0_t2_loop.trips) : Fin 1 → Nat :=
  let c0_i32_25 : BitVec 32 := 0#32
  let c1_i32_26 : BitVec 32 := 1#32
  let arg9 : BitVec 32 := Scf.iv c0_i32_25 c1_i32_26 k0_t2
  let c4_i32_42 : BitVec 32 := 4#32
  let v78 : BitVec 32 := Scalar.muli arg9 c4_i32_42
  let c3_i32 : BitVec 32 := 3#32
  let v79 : BitVec 32 := Scalar.addi v78 c3_i32
  let v80 : Index := Scalar.indexCast v79
  ![v80.toNat]
def k0_off26 (i : grid0.Coords) : Fin 1 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  ![v49.toNat]
def k0_off27 (i : grid0.Coords) (k0_t2 : Fin k0_t2_loop.trips) : Fin 4 → Nat :=
  let c1_i32_24 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : BitVec 32 := Scalar.subi c1_i32_24 v9
  let c3_i32_43 : BitVec 32 := 3#32
  let c0_i32_25 : BitVec 32 := 0#32
  let c1_i32_26 : BitVec 32 := 1#32
  let arg9 : BitVec 32 := Scf.iv c0_i32_25 c1_i32_26 k0_t2
  let c0_i32_44 : BitVec 32 := 0#32
  ![v49.toNat, 3, arg9.toNat, 0]
def k0_off28 (v81 : BitVec 32) : Fin 2 → Nat :=
  let c0_i32_45 : BitVec 32 := 0#32
  ![v81.toNat, 0]

def k0_chk8 (i : grid0.Coords) (v81 : BitVec 32) : Prop :=
  (∀ (k0_h2 : k0_cond2 i = 1#1), ∀ a, (k0_off28 v81) a + S1x2048.size a ≤ S106240x2048.size a)
theorem k0_off28_inb : ∀ (i : grid0.Coords) (v81 : BitVec 32) (k0_hw8 : k0_chk8 i v81), ∀ (k0_h2 : k0_cond2 i = 1#1), ∀ a, (k0_off28 v81) a + S1x2048.size a ≤ S106240x2048.size a := fun i v81 k0_hw8 k0_h2 => k0_hw8 k0_h2

@[reducible] def k0_t3_loop : Scf.Loop 32 :=
  let c0_i32_8 : BitVec 32 := 0#32
  let c128_i32 : BitVec 32 := 128#32
  let v17 : BitVec 32 := Scalar.addi c0_i32_8 c128_i32
  let c1_i32_9 : BitVec 32 := 1#32
  ⟨c0_i32_8, v17, c1_i32_9⟩
def k0_off29 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off30 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_24 : BitVec 32 := 0#32
  let c0_i32_25 : BitVec 32 := 0#32
  let c0_i32_26 : BitVec 32 := 0#32
  ![v9.toNat, 0, 0, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c0_13 : Index := 0#32
  let c0_14 : Index := 0#32
  let c0_15 : Index := 0#32
  ![v21.toNat, 0, 0, 0]
def k0_off32 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : Index := Scalar.indexCast v9
  let c1 : Index := 1#32
  let c0_16 : Index := 0#32
  let c0_17 : Index := 0#32
  ![v28.toNat, 1, 0, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v35 : Index := Scalar.indexCast v9
  let c2 : Index := 2#32
  let c0_18 : Index := 0#32
  let c0_19 : Index := 0#32
  ![v35.toNat, 2, 0, 0]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c3 : Index := 3#32
  let c0_20 : Index := 0#32
  let c0_21 : Index := 0#32
  ![v42.toNat, 3, 0, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c1_i32 : BitVec 32 := 1#32
  let v0 : BitVec 32 := Scalar.addi arg0 c1_i32
  let c0_i32 : BitVec 32 := 0#32
  let v1 : BitVec 32 := Scalar.minsi v0 c0_i32
  let c0_i32_0 : BitVec 32 := 0#32
  ![v1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .smem S128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference3Ideal.lean ====
abbrev S128 : Shape := ⟨1, ![128]⟩
abbrev S32x2048 : Shape := ⟨2, ![32, 2048]⟩
abbrev S32x128 : Shape := ⟨2, ![32, 128]⟩
abbrev S106240x2048 : Shape := ⟨2, ![106240, 2048]⟩
abbrev S32x4 : Shape := ⟨2, ![32, 4]⟩
abbrev S_ : Shape := ⟨0, ![]⟩
abbrev S32x4x1 : Shape := ⟨3, ![32, 4, 1]⟩
abbrev S32x4x2048 : Shape := ⟨3, ![32, 4, 2048]⟩

abbrev nBuf : Space → Nat
  | .hbm => 21
  | .vmem => 0
  | .smem => 0
  | _ => 0

abbrev bufTy : (tb : Table) → Fin (tcTables nBuf tb) → BufTy
  | .hbm, ⟨0, _⟩ => ⟨S128, .i32⟩
  | .hbm, ⟨1, _⟩ => ⟨S32x2048, .f32⟩
  | .hbm, ⟨2, _⟩ => ⟨S32x128, .f32⟩
  | .hbm, ⟨3, _⟩ => ⟨S106240x2048, .f32⟩
  | .hbm, ⟨4, _⟩ => ⟨S32x4, .i32⟩
  | .hbm, ⟨5, _⟩ => ⟨S_, .i32⟩
  | .hbm, ⟨6, _⟩ => ⟨S32x4, .i32⟩
  | .hbm, ⟨7, _⟩ => ⟨S32x4, .i1⟩
  | .hbm, ⟨8, _⟩ => ⟨S_, .i32⟩
  | .hbm, ⟨9, _⟩ => ⟨S32x4, .i32⟩
  | .hbm, ⟨10, _⟩ => ⟨S32x4, .i32⟩
  | .hbm, ⟨11, _⟩ => ⟨S32x4, .i32⟩
  | .hbm, ⟨12, _⟩ => ⟨S32x4x1, .i32⟩
  | .hbm, ⟨13, _⟩ => ⟨S32x4x2048, .f32⟩
  | .hbm, ⟨14, _⟩ => ⟨S32x4, .f32⟩
  | .hbm, ⟨15, _⟩ => ⟨S32x4x1, .f32⟩
  | .hbm, ⟨16, _⟩ => ⟨S32x4x2048, .f32⟩
  | .hbm, ⟨17, _⟩ => ⟨S32x4x2048, .f32⟩
  | .hbm, ⟨18, _⟩ => ⟨S_, .f32⟩
  | .hbm, ⟨19, _⟩ => ⟨S32x2048, .f32⟩
  | .hbm, ⟨20, _⟩ => ⟨S32x2048, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Proof.Rows.lean ====
/-
  One grid point of the token dispatch: 2048 row copies started on one semaphore and drained by 2048 one-row waits,
  as a batch whose deliveries are the destination rows at the result's contents and the source rows back.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Batch
public import Idealize.ShloMosaic.Lib.ShareLeaves
public import Idealize.ShloMosaic.Lib.Exec
public import Idealize.ShloMosaic.Lib.Tactic

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-! ## The rows -/

/-- A slot that names a row of the result. -/
abbrev InRows (v : BitVec 32) : Prop := ∀ a, (![v.toNat, 0] : Fin 2 → ℕ) a + S1x1024.size a ≤ S106240x1024.size a

theorem inRows_of_lt {v : BitVec 32} (h : v.toNat < 106240) : InRows v :=
  Rect.inb₂ (d := ![106240, 1024]) (size := ![1, 1024]) (show v.toNat + 1 ≤ 106240 from h) (show 0 + 1024 ≤ 1024 from le_rfl)

theorem inTile {i : ℕ} (h : i < 512) : ∀ a, (![i, 0] : Fin 2 → ℕ) a + S1x1024.size a ≤ S512x1024.size a :=
  Rect.inb₂ (d := ![512, 1024]) (size := ![1, 1024]) (show i + 1 ≤ 512 from h) (show 0 + 1024 ≤ 1024 from le_rfl)

/-- The result, and one row of it. -/
abbrev hbM : Memref sig .tc .hbm S106240x1024 .i32 := Memref.whole main_v0
abbrev dstM (v : BitVec 32) (h : InRows v) : Memref sig .tc .hbm S1x1024 .i32 :=
  hbM.slice (Rect.unit (s := S106240x1024) ![v.toNat, 0] S1x1024.size h) (fun _ => rfl)
/-- Row `i` of the staged tile. -/
abbrev srcM (arg2 : Memref sig .tc .vmem S512x1024 .i32) (i : ℕ) (h : i < 512) : Memref sig .tc .vmem S1x1024 .i32 :=
  arg2.slice (Rect.unit (s := S512x1024) ![i, 0] S1x1024.size (inTile h)) (fun _ => rfl)

/-- The units one row's copy credits. -/
abbrev rowUnits : ℕ := hbM.view.ref.dmaCredit S1x1024 .i32

/-- The word an index of the slot list names. -/
def ix1 (j : Fin 2048) : S2048.Idx := fun | 0 => j

/-! ## One issue -/

/-- One of the four copies of a trip, with what follows it: load the slot, take it to name a row, start the copy. -/
def issueP (arg1 : Memref sig .tc .smem S2048 .i32) (arg2 : Memref sig .tc .vmem S512x1024 .i32)
    (o1 : Fin 1 → ℕ) (h1 : ∀ a, o1 a + S1.size a ≤ S2048.size a)
    (o3 : Fin 2 → ℕ) (h3 : ∀ a, o3 a + S1x1024.size a ≤ S512x1024.size a)
    (chk : BitVec 32 → Prop) (dec : ∀ v, Decidable (chk v)) (hchk : ∀ v, chk v → InRows v)
    (k : Prog (TpuEff nD τ sig (Elt F) Λ₀ .tc) Unit) : Prog (TpuEff nD τ sig (Elt F) Λ₀ .tc) Unit :=
  smemLoadElt arg1 (Rect.unit (s := S2048) o1 S1.size h1) (View.loads_smem_one rfl numel1_S1)
    (Shape.Idx.first (numel1_S1.symm ▸ Nat.one_pos)) fun (v : BitVec 32) =>
      .op (.assume (chk v) (dec v)) fun h =>
        .op (.enqueueDma (arg2.slice (Rect.unit (s := S512x1024) o3 S1x1024.size h3) (fun _ => rfl))
          (.here (dstM v (hchk v h.down))) (.dma cc0_scratch0.sem)
          (View.wordExact_bits rfl) (View.wordExact_bits rfl) ⟨Or.inl rfl, trivial⟩) fun _ => k

/-- A trip of the first loop is four issues. -/
theorem trip1_eq (i : grid0.Coords) (arg1 : Memref sig .tc .smem S2048 .i32) (harg1 : arg1.IsWhole)
    (arg2 : Memref sig .tc .vmem S512x1024 .i32) (harg2 : arg2.IsWhole) (t : Fin k0_t1_loop.trips) (u : Unit) :
    k0_t1_body (F := F) i arg1 harg1 arg2 harg2 hbM (Memref.isWhole_whole _) cc0_scratch0 t u
      = issueP arg1 arg2 (k0_off1 t) (k0_off1_inb t) (k0_off3 t) (k0_off3_inb t) k0_chk1 k0_chk1.dec (fun _ h => h)
        (issueP arg1 arg2 (k0_off4 t) (k0_off4_inb t) (k0_off6 t) (k0_off6_inb t) k0_chk2 k0_chk2.dec (fun _ h => h)
          (issueP arg1 arg2 (k0_off7 t) (k0_off7_inb t) (k0_off9 t) (k0_off9_inb t) k0_chk3 k0_chk3.dec (fun _ h => h)
            (issueP arg1 arg2 (k0_off10 t) (k0_off10_inb t) (k0_off12 t) (k0_off12_inb t) k0_chk4 k0_chk4.dec (fun _ h => h)
              (.ret ⟨⟩)))) := rfl

variable (c : Dev nD) (arg1 : Memref sig .tc .smem S2048 .i32) (arg2 : Memref sig .tc .vmem S512x1024 .i32)
  (f1 : Buf (Elt F) (arg1.view.loc (c : Thread nD τ))) (f2 : Buf (Elt F) (arg2.view.loc (c : Thread nD τ)))
  (sl : Fin 2048 → BitVec 32) (hsl : ∀ j, (sl j).toNat < 106240)
  (f G : Buf (Elt F) (hbM.view.loc (c : Thread nD τ)))

theorem row_lt (j : Fin 2048) : j.val / 4 < 512 := by omega

/-- The share of a source row its four copies take: the `j % 4`-th quarter. -/
def quarter (j : Fin 2048) : PosShare TreeShare := ShareLeaves.leaf 2 fullShare ⟨j.val % 4, Nat.mod_lt _ (by decide)⟩

/-- What copy `j` moves: its destination row at contents `g`, its source row at a quarter. -/
def rowsAt (g : Buf (Elt F) (hbM.view.loc (c : Thread nD τ))) (j : Fin 2048) : sProp 𝕄 :=
  iprop((hbM.view.loc (c : Thread nD τ) ↦[(dstM (sl j) (inRows_of_lt (hsl j))).view.set]{fullShare} g)
    ∗ (arg2.view.loc (c : Thread nD τ) ↦[(srcM arg2 (j.val / 4) (row_lt j)).view.set]{quarter j} f2))

instance rowsAt_storable (g) (j : Fin 2048) : Storable (upEmb : UEmb _ 𝕄) (rowsAt c arg2 f2 sl hsl g j) := by
  unfold rowsAt; infer_instance

/-- The kernel's counters. -/
abbrev EC : UEmb Counters 𝕄 := countersEmb (U := Pipeline.UC sig nD τ)

/-- Before copy `j` is started: the slot list, the rows of the copies to come, the batch. -/
def issuing (j : ℕ) : sProp 𝕄 :=
  iprop((arg1.view.loc (c : Thread nD τ) ↦[arg1.view.set]{fullShare} f1)
    ∗ bigSep (Transfers.pending j) (rowsAt c arg2 f2 sl hsl f)
    ∗ Transfers.Batch (EC (F := F)) (c : Thread nD τ) (.dma cc0_scratch0.sem) () rowUnits (rowsAt c arg2 f2 sl hsl G) j 0)

/-- One issue: the copy `j` is started. -/
theorem issue_step (j : ℕ) (hj : j < 2048)
    (hf1 : ∀ j, arg1.view.read (Elt F) f1 (ix1 j) = sl j)
    (hG : ∀ (j : Fin 2048) (x : S1x1024.Idx), G ((dstM (sl j) (inRows_of_lt (hsl j))).view.emb x)
      = (srcM arg2 (j.val / 4) (row_lt j)).view.read (Elt F) f2 x)
    (o1 : Fin 1 → ℕ) (h1 : ∀ a, o1 a + S1.size a ≤ S2048.size a) (ho1 : o1 = ![j])
    (o3 : Fin 2 → ℕ) (h3 : ∀ a, o3 a + S1x1024.size a ≤ S512x1024.size a) (ho3 : o3 = ![j / 4, 0])
    (chk : BitVec 32 → Prop) (dec : ∀ v, Decidable (chk v)) (hchk : ∀ v, chk v → InRows v) (hchk' : ∀ v, InRows v → chk v)
    (k : Prog (TpuEff nD τ sig (Elt F) Λ₀ .tc) Unit) (Q : Unit → sProp 𝕄) :
    issuing c arg1 arg2 f1 f2 sl hsl f G j
      ⊢ iprop((issuing c arg1 arg2 f1 f2 sl hsl f G (j + 1) -∗ wp frame (wpE (defs₀ (F := F)) Variants.none (c : Thread nD τ) none) Set.univ k Q)
        -∗ wp frame (wpE (defs₀ (F := F)) Variants.none (c : Thread nD τ) none) Set.univ (issueP arg1 arg2 o1 h1 o3 h3 chk dec hchk k) Q) := by
  subst ho1 ho3
  unfold issuing issueP
  iintro ⟨H1, Hp, HB⟩ Hk
  iapply (wp_smemLoadElt_named Variants.none (c : Thread nD τ) none Set.univ (m := arg1) (r := Rect.unit (s := S2048) ![j] S1.size h1)
    (x := Shape.Idx.first (numel1_S1.symm ▸ Nat.one_pos)) (S := arg1.view.set) (q := fullShare) (f := f1) (View.set_slice_subset _ _)) $$ H1
  iintro H1
  have hv : (arg1.access (Rect.unit (s := S2048) ![j] S1.size h1)).read (Elt F) f1 (Shape.Idx.first (numel1_S1.symm ▸ Nat.one_pos)) = sl ⟨j, hj⟩ := by
    rw [← hf1]
    show arg1.view.read (Elt F) f1 ((Rect.unit (s := S2048) ![j] S1.size h1).emb _) = _
    congr 1
    exact funext fun | 0 => Fin.ext (by
      show j + 1 * ((Shape.Idx.first (s := S1) (numel1_S1.symm ▸ Nat.one_pos)) 0).val = j
      have := ((Shape.Idx.first (s := S1) (numel1_S1.symm ▸ Nat.one_pos)) 0).isLt
      have h' : ((Shape.Idx.first (s := S1) (numel1_S1.symm ▸ Nat.one_pos)) 0).val < 1 := this
      omega)
  rw [hv]
  iintro %w %hw
  subst hw
  iapply (wp_assume (𝒱 := Variants.none) (c := (c : Thread nD τ)) (bd := none) (E := Set.univ) (hchk' _ (inRows_of_lt (hsl ⟨j, hj⟩))))
  ihave Hp' := (show bigSep (Transfers.pending j) (rowsAt c arg2 f2 sl hsl f)
      ⊢ iprop(rowsAt c arg2 f2 sl hsl f ⟨j, hj⟩ ∗ bigSep (Transfers.pending (j + 1)) (rowsAt c arg2 f2 sl hsl f))
    from Entails.of_eq (Transfers.bigSep_pending_step _ j hj)) $$ Hp
  unfold rowsAt
  icases Hp' with ⟨⟨Hd, Hs⟩, Hp⟩
  have hD : iprop(((dstM (sl ⟨j, hj⟩) (inRows_of_lt (hsl ⟨j, hj⟩))).view.loc (c : Thread nD τ) ↦[(dstM (sl ⟨j, hj⟩) (inRows_of_lt (hsl ⟨j, hj⟩))).view.set]{fullShare}
        ((dstM (sl ⟨j, hj⟩) (inRows_of_lt (hsl ⟨j, hj⟩))).view.write (Elt F) f (ReadAs.same.apply ((srcM arg2 (j / 4) (row_lt ⟨j, hj⟩)).view.read (Elt F) f2)) Finset.univ))
      ∗ ((srcM arg2 (j / 4) (row_lt ⟨j, hj⟩)).view.loc (c : Thread nD τ) ↦[(srcM arg2 (j / 4) (row_lt ⟨j, hj⟩)).view.set]{quarter ⟨j, hj⟩} f2))
      ⊢ rowsAt c arg2 f2 sl hsl G ⟨j, hj⟩ := by
    unfold rowsAt
    refine sep_mono (Entails.of_eq (pointsTo_congr fun i hi => ?_)) .rfl
    obtain ⟨x, -, rfl⟩ := Finset.mem_map.mp hi
    rw [View.write_emb_of_mem _ _ (Finset.mem_univ x), hG ⟨j, hj⟩ x]
    rfl
  iapply (Transfers.wp_dmaBatch (EC (F := F)) Variants.none (c : Thread nD τ) none (Q := Q) (src := srcM arg2 (j / 4) (row_lt ⟨j, hj⟩))
    (dst := dstM (sl ⟨j, hj⟩) (inRows_of_lt (hsl ⟨j, hj⟩))) (via := .same) (sm := .dma cc0_scratch0.sem)
    (Sd := (dstM (sl ⟨j, hj⟩) (inRows_of_lt (hsl ⟨j, hj⟩))).view.set) (D := rowsAt c arg2 f2 sl hsl G) (j := j) (u := 0) () rowUnits rfl
    (Finset.Subset.refl _) hj (Nat.zero_le _) hD) $$ [Hd Hs HB]
  · isplitl [Hs]; · iexact Hs
    isplitl [Hd]; · iexact Hd
    iexact HB
  iintro HB
  iapply Hk
  isplitl [H1]; · iexact H1
  isplitl [Hp]; · iexact Hp
  iexact HB

theorem trips1 : k0_t1_loop.trips = 512 := by decide
theorem trips2 : k0_t2_loop.trips = 2048 := by decide

/-- A trip of the first loop: four issues. -/
theorem trip1 (i : grid0.Coords) (harg1 : arg1.IsWhole) (harg2 : arg2.IsWhole)
    (hf1 : ∀ j, arg1.view.read (Elt F) f1 (ix1 j) = sl j)
    (hG : ∀ (j : Fin 2048) (x : S1x1024.Idx), G ((dstM (sl j) (inRows_of_lt (hsl j))).view.emb x)
      = (srcM arg2 (j.val / 4) (row_lt j)).view.read (Elt F) f2 x)
    (t : Fin k0_t1_loop.trips) (u : Unit) :
    issuing c arg1 arg2 f1 f2 sl hsl f G (4 * t.val)
      ⊢ wp frame (wpE (defs₀ (F := F)) Variants.none (c : Thread nD τ) none) Set.univ
          (k0_t1_body (F := F) i arg1 harg1 arg2 harg2 hbM (Memref.isWhole_whole _) cc0_scratch0 t u)
          (fun _ => issuing c arg1 arg2 f1 f2 sl hsl f G (4 * (t.val + 1))) := by
  have ht : t.val < 512 := trips1 ▸ t.isLt
  rw [trip1_eq]
  iintro H
  iapply (issue_step c arg1 arg2 f1 f2 sl hsl f G (4 * t.val) (by omega) hf1 hG _ _ (k0_off1_eq t) _ _ (by rw [k0_off3_eq, show 4 * t.val / 4 = t.val by omega]) _ _ _ (fun _ h => h)) $$ H
  iintro H
  iapply (issue_step c arg1 arg2 f1 f2 sl hsl f G (4 * t.val + 1) (by omega) hf1 hG _ _ (k0_off4_eq t) _ _ (by rw [k0_off6_eq, show (4 * t.val + 1) / 4 = t.val by omega]) _ _ _ (fun _ h => h)) $$ H
  iintro H
  iapply (issue_step c arg1 arg2 f1 f2 sl hsl f G (4 * t.val + 2) (by omega) hf1 hG _ _ (k0_off7_eq t) _ _ (by rw [k0_off9_eq, show (4 * t.val + 2) / 4 = t.val by omega]) _ _ _ (fun _ h => h)) $$ H
  iintro H
  iapply (issue_step c arg1 arg2 f1 f2 sl hsl f G (4 * t.val + 3) (by omega) hf1 hG _ _ (k0_off10_eq t) _ _ (by rw [k0_off12_eq, show (4 * t.val + 3) / 4 = t.val by omega]) _ _ _ (fun _ h => h)) $$ H
  iintro H
  sl_step
  iexact H

/-- Between the waits: what is left of the batch, and the core's waits recorded. -/
def draining (k : ℕ) : sProp 𝕄 :=
  iprop(Transfers.Batch (EC (F := F)) (c : Thread nD τ) (.dma cc0_scratch0.sem) () rowUnits (rowsAt c arg2 f2 sl hsl G) 2048 (rowUnits * k)
    ∗ ∃ W, owes (c : Thread nD τ) 0 W)

/-- A trip of the second loop is one wait. -/
theorem trip2_eq (i : grid0.Coords) (harg1 : arg1.IsWhole) (harg2 : arg2.IsWhole) (t : Fin k0_t2_loop.trips) (u : Unit) :
    k0_t2_body (F := F) i arg1 harg1 arg2 harg2 hbM (Memref.isWhole_whole _) cc0_scratch0 t u
      = .op (.waitDma2 cc0_scratch0.sem
          (arg2.slice (Rect.unit (s := S512x1024) ![0, 0] S1x1024.size inb_S512x1024_S1x1024_0_0) (fun _ => rfl))
          (hbM.slice (Rect.unit (s := S106240x1024) ![0, 0] S1x1024.size inb_S106240x1024_S1x1024_0_0) (fun _ => rfl))
          (View.wordExact_bits rfl) (View.wordExact_bits rfl)) fun _ => .ret ⟨⟩ := rfl

/-- A trip of the second loop: one row's units waited for. -/
theorem trip2 (i : grid0.Coords) (harg1 : arg1.IsWhole) (harg2 : arg2.IsWhole) (t : Fin k0_t2_loop.trips) (u : Unit) :
    draining c arg2 f2 sl hsl G t.val
      ⊢ wp frame (wpE (defs₀ (F := F)) Variants.none (c : Thread nD τ) none) Set.univ
          (k0_t2_body (F := F) i arg1 harg1 arg2 harg2 hbM (Memref.isWhole_whole _) cc0_scratch0 t u)
          (fun _ => draining c arg2 f2 sl hsl G (t.val + 1)) := by
  have ht : t.val < 2048 := trips2 ▸ t.isLt
  rw [trip2_eq]
  unfold draining
  iintro ⟨HB, ⟨%W, HW⟩⟩
  iapply (Transfers.wp_waitBatchMul (EC (F := F)) Variants.none (c : Thread nD τ) none (D := rowsAt c arg2 f2 sl hsl G) (W := W) (N := rowUnits)
    (j := 2048) (u := rowUnits * t.val) () 1 (Nat.one_mul _).symm (by rw [Nat.one_mul, ← Nat.mul_succ]; exact Nat.mul_le_mul_left _ ht)) $$ [HB HW]
  · isplitl [HB] <;> iassumption
  rw [Nat.one_mul, ← Nat.mul_succ]
  iintro ⟨HB, HW⟩
  sl_step
  isplitl [HB]; · iexact HB
  iexists _; iexact HW

/-- The kernel is its two loops. -/
theorem point_eq (i : grid0.Coords) (harg1 : arg1.IsWhole) (harg2 : arg2.IsWhole) :
    cc0_moe_dispatch (F := F) i arg1 harg1 arg2 harg2 hbM (Memref.isWhole_whole _) cc0_scratch0
      = (Scf.for k0_t1_loop.lb k0_t1_loop.ub k0_t1_loop.st k0_t1_ok ()
          (k0_t1_body (F := F) i arg1 harg1 arg2 harg2 hbM (Memref.isWhole_whole _) cc0_scratch0)
        >>= fun _ => Scf.for k0_t2_loop.lb k0_t2_loop.ub k0_t2_loop.st k0_t2_ok ()
          (k0_t2_body (F := F) i arg1 harg1 arg2 harg2 hbM (Memref.isWhole_whole _) cc0_scratch0)
        >>= fun _ => .ret ⟨⟩) := by
  rw [cc0_moe_dispatch_eq_skeleton]; rfl

theorem rowUnits_pos : 0 < rowUnits := View.dmaCredit_pos (v := (dstM 0#32 (inRows_of_lt (by decide))).view) (by decide)

/-- A grid point over its rows one by one: the slot list, the rows of all its copies and the semaphore at zero go in;
    they come back with the destination rows at `G`. -/
theorem point (i : grid0.Coords) (harg1 : arg1.IsWhole) (harg2 : arg2.IsWhole)
    (hf1 : ∀ j, arg1.view.read (Elt F) f1 (ix1 j) = sl j)
    (hG : ∀ (j : Fin 2048) (x : S1x1024.Idx), G ((dstM (sl j) (inRows_of_lt (hsl j))).view.emb x)
      = (srcM arg2 (j.val / 4) (row_lt j)).view.read (Elt F) f2 x)
    (W : Waits sig Unit) :
    iprop((arg1.view.loc (c : Thread nD τ) ↦[arg1.view.set]{fullShare} f1)
        ∗ bigSep Finset.univ (rowsAt c arg2 f2 sl hsl f)
        ∗ semVal ((c : Thread nD τ), .dma cc0_scratch0.sem) 0 ∗ owes (c : Thread nD τ) 0 W)
      ⊢ wp frame (wpE (defs₀ (F := F)) Variants.none (c : Thread nD τ) none) Set.univ
          (cc0_moe_dispatch (F := F) i arg1 harg1 arg2 harg2 hbM (Memref.isWhole_whole _) cc0_scratch0)
          (fun _ => iprop((arg1.view.loc (c : Thread nD τ) ↦[arg1.view.set]{fullShare} f1)
            ∗ bigSep Finset.univ (rowsAt c arg2 f2 sl hsl G)
            ∗ semVal ((c : Thread nD τ), .dma cc0_scratch0.sem) 0 ∗ ∃ W', owes (c : Thread nD τ) 0 W')) := by
  rw [point_eq]
  iintro ⟨H1, Hp, Hq, HW⟩
  imod (Transfers.batch_alloc' (Lvl := ℕ) (EC (F := F)) (c : Thread nD τ) () rowUnits (rowsAt c arg2 f2 sl hsl G)
    (sm := .dma cc0_scratch0.sem) (E := Set.univ)) $$ Hq with HB
  iapply (Scf.wp_for_bind frame (wpE (defs₀ (F := F)) Variants.none (c : Thread nD τ) none) Set.univ k0_t1_loop.lb k0_t1_loop.ub k0_t1_loop.st
    k0_t1_ok () (k0_t1_body (F := F) i arg1 harg1 arg2 harg2 hbM (Memref.isWhole_whole _) cc0_scratch0)
    (fun t _ => issuing c arg1 arg2 f1 f2 sl hsl f G (4 * t))
    (fun t u => trip1 c arg1 arg2 f1 f2 sl hsl f G i harg1 harg2 hf1 hG t u)) $$ [H1 Hp HB]
  · unfold issuing
    isplitl [H1]; · iexact H1
    isplitl [Hp]; · rw [← Transfers.bigSep_pending_zero]; iexact Hp
    iexact HB
  iintro %u H
  rw [show Scf.trips k0_t1_loop.lb k0_t1_loop.ub k0_t1_loop.st = 512 from trips1]
  unfold issuing
  icases H with ⟨H1, -, HB⟩
  iapply (Scf.wp_for_bind frame (wpE (defs₀ (F := F)) Variants.none (c : Thread nD τ) none) Set.univ k0_t2_loop.lb k0_t2_loop.ub k0_t2_loop.st
    k0_t2_ok () (k0_t2_body (F := F) i arg1 harg1 arg2 harg2 hbM (Memref.isWhole_whole _) cc0_scratch0)
    (fun t _ => draining c arg2 f2 sl hsl G t)
    (fun t u => trip2 c arg1 arg2 f2 sl hsl G i harg1 harg2 t u)) $$ [HB HW]
  · unfold draining
    isplitl [HB]; · iexact HB
    iexists _; iexact HW
  iintro %u' H
  rw [show Scf.trips k0_t2_loop.lb k0_t2_loop.ub k0_t2_loop.st = 2048 from trips2]
  unfold draining
  icases H with ⟨HB, HW⟩
  imod (Transfers.batch_collect' (EC (F := F)) (c : Thread nD τ) rowUnits_pos) $$ HB with ⟨HD, Hq⟩
  sl_step
  isplitl [H1]; · iexact H1
  isplitl [HD]; · iexact HD
  isplitl [Hq] <;> iassumption

end Cert.KernelIdeal.Dispatch

end
-- ==== Proof.Point.lean ====
/-
  One grid point of the token dispatch, over whole buffers: the rows of `Rows.lean` cut out of the result and the tile and
  put back.
-/
module

public import proofs.«01_k».proof.Proof.Rows

@[expose] public section

set_option maxRecDepth 16384

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

variable (c : Dev nD) (arg1 : Memref sig .tc .smem S2048 .i32) (arg2 : Memref sig .tc .vmem S512x1024 .i32)
  (f2 : Buf (Elt F) (arg2.view.loc (c : Thread nD τ)))
  (sl : Fin 2048 → BitVec 32) (hsl : ∀ j, (sl j).toNat < 106240)
  (hinj : ∀ j j', (sl j).toNat = (sl j').toNat → j = j')

/-- The elements of the result copy `j` writes. -/
def dstRow (j : Fin 2048) : Finset (Idx (hbM.view.loc (c : Thread nD τ))) := (dstM (sl j) (inRows_of_lt (hsl j))).view.set

theorem mem_dstRow (j : Fin 2048) (i : S106240x1024.Idx) : i ∈ dstRow c sl hsl j ↔ (i 0).val = (sl j).toNat := by
  unfold dstRow
  rw [show (dstM (sl j) (inRows_of_lt (hsl j))).view.set = (Rect.unit (s := S106240x1024) ![(sl j).toNat, 0] S1x1024.size (inRows_of_lt (hsl j))).set
    from View.set_slice_whole _ _, Rect.mem_set_unit, Fin.forall_fin_two]
  have h1 : (i 1).val < 1024 := (i 1).isLt
  show ((sl j).toNat ≤ (i 0).val ∧ (i 0).val < (sl j).toNat + 1) ∧ (0 ≤ (i 1).val ∧ (i 1).val < 0 + 1024) ↔ _
  omega

include hinj in
theorem dstRow_disjoint (j j' : Fin 2048) (h : j ≠ j') : Disjoint (dstRow c sl hsl j) (dstRow c sl hsl j') :=
  Finset.disjoint_left.mpr fun i hi hi' => h (hinj j j' (((mem_dstRow c sl hsl j i).mp hi).symm.trans ((mem_dstRow c sl hsl j' i).mp hi')))

/-- The elements of row `r` of the tile. -/
def srcRow (r : Fin 512) : Finset (Idx (arg2.view.loc (c : Thread nD τ))) := (srcM arg2 r.val r.isLt).view.set

theorem mem_srcRow (r : Fin 512) (x : S512x1024.Idx) : arg2.view.emb x ∈ srcRow c arg2 r ↔ (x 0).val = r.val := by
  unfold srcRow
  rw [show (srcM arg2 r.val r.isLt).view.set = (Rect.unit (s := S512x1024) ![r.val, 0] S1x1024.size (inTile r.isLt)).set.map arg2.view.emb
    from View.set_slice _ _, Finset.mem_map', Rect.mem_set_unit, Fin.forall_fin_two]
  have h1 : (x 1).val < 1024 := (x 1).isLt
  show (r.val ≤ (x 0).val ∧ (x 0).val < r.val + 1) ∧ (0 ≤ (x 1).val ∧ (x 1).val < 0 + 1024) ↔ _
  omega

theorem srcRow_sub (r : Fin 512) : srcRow c arg2 r ⊆ arg2.view.set := View.set_slice_subset _ _

theorem srcRow_disjoint (r r' : Fin 512) (h : r ≠ r') : Disjoint (srcRow c arg2 r) (srcRow c arg2 r') :=
  Finset.disjoint_left.mpr fun i hi hi' => by
    obtain ⟨x, -, rfl⟩ := Finset.mem_map.mp (srcRow_sub c arg2 r hi)
    exact h (Fin.ext (((mem_srcRow c arg2 r x).mp hi).symm.trans ((mem_srcRow c arg2 r' x).mp hi')))

theorem srcRow_cover : (Finset.univ.biUnion (srcRow c arg2) : Finset (Idx (arg2.view.loc (c : Thread nD τ)))) = arg2.view.set := by
  ext i
  constructor
  · intro hi
    obtain ⟨r, -, hr⟩ := Finset.mem_biUnion.mp hi
    exact srcRow_sub c arg2 r hr
  · intro hi
    obtain ⟨x, -, rfl⟩ := Finset.mem_map.mp hi
    exact Finset.mem_biUnion.mpr ⟨x 0, Finset.mem_univ _, (mem_srcRow c arg2 (x 0) x).mpr rfl⟩

/-- The copies, as a row of the tile and which of its four copies. -/
def copyEquiv : Fin 512 × Fin (2 ^ 2) ≃ Fin 2048 where
  toFun p := ⟨p.1.val * 4 + p.2.val, by have := p.1.isLt; have h : p.2.val < 4 := p.2.isLt; omega⟩
  invFun j := (⟨j.val / 4, row_lt j⟩, ⟨j.val % 4, Nat.mod_lt _ (by decide)⟩)
  left_inv p := by
    have h : p.2.val < 4 := p.2.isLt
    refine Prod.ext (Fin.ext ?_) (Fin.ext ?_)
    · show (p.1.val * 4 + p.2.val) / 4 = p.1.val
      omega
    · show (p.1.val * 4 + p.2.val) % 4 = p.2.val
      omega
  right_inv j := Fin.ext (by
    show j.val / 4 * 4 + j.val % 4 = j.val
    omega)

/-- What copy `j` holds of the tile. -/
def tilePart (j : Fin 2048) : sProp 𝕄 :=
  arg2.view.loc (c : Thread nD τ) ↦[(srcM arg2 (j.val / 4) (row_lt j)).view.set]{quarter j} f2

theorem tilePart_copy (p : Fin 512 × Fin (2 ^ 2)) :
    (tilePart c arg2 f2 (copyEquiv p) : sProp 𝕄) = (arg2.view.loc (c : Thread nD τ) ↦[srcRow c arg2 p.1]{ShareLeaves.leaf 2 fullShare p.2} f2) := by
  have h4 : p.2.val < 4 := p.2.isLt
  have hr : (copyEquiv p).val / 4 = p.1.val := by
    show (p.1.val * 4 + p.2.val) / 4 = p.1.val
    omega
  have hm : (copyEquiv p).val % 4 = p.2.val := by
    show (p.1.val * 4 + p.2.val) % 4 = p.2.val
    omega
  have hq : quarter (copyEquiv p) = ShareLeaves.leaf 2 fullShare p.2 := by
    unfold quarter
    exact congrArg _ (Fin.ext hm)
  unfold tilePart srcRow
  rw [hq]
  congr 2
  congr 1
  simp only [hr]

/-- The tile whole is its rows, each at four quarters, copy by copy. -/
theorem tile_rows :
    (bigSep Finset.univ (tilePart c arg2 f2) : sProp 𝕄) = (arg2.view.loc (c : Thread nD τ) ↦[arg2.view.set]{fullShare} f2) := by
  rw [← srcRow_cover c arg2, pointsTo_biUnion _ _ fun r _ r' _ h => srcRow_disjoint c arg2 r r' h,
    BI.bigSep_univ_equiv copyEquiv (tilePart c arg2 f2),
    BI.bigSep_congr (fun p _ => tilePart_copy c arg2 f2 p), BI.bigSep_univ_prod]
  exact BI.bigSep_congr fun r _ => (ShareLeaves.pointsTo_leaves (srcRow c arg2 r) f2 2 fullShare).symm

/-- The elements of the result some copy writes. -/
def dstRows : Finset (Idx (hbM.view.loc (c : Thread nD τ))) := Finset.univ.biUnion (dstRow c sl hsl)

theorem not_mem_dstRows (i : Idx (hbM.view.loc (c : Thread nD τ))) (h : i ∉ dstRows c sl hsl) (j : Fin 2048) :
    ((i : S106240x1024.Idx) 0).val ≠ (sl j).toNat := by
  intro hj
  unfold dstRows at h
  rw [Finset.mem_biUnion] at h
  exact h ⟨j, Finset.mem_univ j, (mem_dstRow c sl hsl j i).mpr hj⟩

include hinj in
/-- The rows of all the copies, beside the rest of the result, are the result and the tile whole. -/
theorem rows_whole (g : Buf (Elt F) (hbM.view.loc (c : Thread nD τ))) :
    iprop(bigSep Finset.univ (rowsAt c arg2 f2 sl hsl g) ∗ (hbM.view.loc (c : Thread nD τ) ↦[Finset.univ \ dstRows c sl hsl]{fullShare} g))
      ⊣⊢ (iprop((hbM.view.loc (c : Thread nD τ) ↦{fullShare} g) ∗ (arg2.view.loc (c : Thread nD τ) ↦[arg2.view.set]{fullShare} f2)) : sProp 𝕄) := by
  have e1 : (bigSep Finset.univ (rowsAt c arg2 f2 sl hsl g) : sProp 𝕄)
      = iprop((hbM.view.loc (c : Thread nD τ) ↦[dstRows c sl hsl]{fullShare} g) ∗ (arg2.view.loc (c : Thread nD τ) ↦[arg2.view.set]{fullShare} f2)) := by
    have e0 : (bigSep Finset.univ (rowsAt c arg2 f2 sl hsl g) : sProp 𝕄)
        = iprop(bigSep Finset.univ (fun j => (hbM.view.loc (c : Thread nD τ) ↦[dstRow c sl hsl j]{fullShare} g : sProp 𝕄)) ∗ bigSep Finset.univ (tilePart c arg2 f2)) :=
      BI.bigSep_sep _ _ _
    rw [e0, tile_rows]
    unfold dstRows
    rw [pointsTo_biUnion _ _ fun j _ j' _ h => dstRow_disjoint c sl hsl hinj j j' h]
  have e2 : (hbM.view.loc (c : Thread nD τ) ↦{fullShare} g : sProp 𝕄) ⊣⊢ iprop((hbM.view.loc (c : Thread nD τ) ↦[dstRows c sl hsl]{fullShare} g)
      ∗ (hbM.view.loc (c : Thread nD τ) ↦[Finset.univ \ dstRows c sl hsl]{fullShare} g)) := pointsTo_split_subset (Finset.subset_univ _)
  rw [e1]
  constructor
  · iintro ⟨⟨H, H2⟩, Hr⟩
    isplitr [H2]
    · iapply e2.2
      isplitl [H] <;> iassumption
    · iexact H2
  · iintro ⟨H, H2⟩
    ihave H := e2.1 $$ H
    icases H with ⟨H, Hr⟩
    isplitr [Hr]
    · isplitl [H] <;> iassumption
    · iexact Hr

include hsl hinj in
/-- A grid point: from the slot list `d1` (distinct slots naming rows), the tile `d2`, the result at `f` and the semaphore at
    zero, the kernel ends with the result at `G` — row `d1 j` at the tile's row `j / 4`, the other rows as they were. -/
theorem point_whole (i : grid0.Coords) (harg1 : arg1.IsWhole) (harg2 : arg2.IsWhole)
    (d1 : S2048.Idx → Elt F .i32) (d2 : S512x1024.Idx → Elt F .i32)
    (f G : Buf (Elt F) (hbM.view.loc (c : Thread nD τ)))
    (hd1 : ∀ j, d1 (ix1 j) = sl j)
    (hG : ∀ (j : Fin 2048) (x : S106240x1024.Idx) (y : S512x1024.Idx), (x 0).val = (sl j).toNat → (y 0).val = j.val / 4 → (y 1).val = (x 1).val
      → (G : S106240x1024.Idx → Elt F .i32) x = d2 y)
    (hGf : ∀ x : S106240x1024.Idx, (∀ j, (x 0).val ≠ (sl j).toNat) → G x = f x)
    (W : Waits sig Unit) :
    (iprop(owns (c : Thread nD τ) arg1 fullShare d1 ∗ owns (c : Thread nD τ) arg2 fullShare d2
        ∗ (hbM.view.loc (c : Thread nD τ) ↦{fullShare} f)
        ∗ semVal ((c : Thread nD τ), .dma cc0_scratch0.sem) 0 ∗ owes (c : Thread nD τ) 0 W) : sProp 𝕄)
      ⊢ wp frame (wpE (defs₀ (F := F)) Variants.none (c : Thread nD τ) none) Set.univ
          (cc0_moe_dispatch (F := F) i arg1 harg1 arg2 harg2 hbM (Memref.isWhole_whole _) cc0_scratch0)
          (fun _ => iprop(owns (c : Thread nD τ) arg1 fullShare d1 ∗ owns (c : Thread nD τ) arg2 fullShare d2
            ∗ (hbM.view.loc (c : Thread nD τ) ↦{fullShare} G)
            ∗ semVal ((c : Thread nD τ), .dma cc0_scratch0.sem) 0 ∗ ∃ W', owes (c : Thread nD τ) 0 W')) := by
  unfold owns
  iintro ⟨⟨%f1, %hf1, H1⟩, ⟨%f2, %hf2, H2⟩, H, Hq, HW⟩
  ihave Hr := (rows_whole c arg2 f2 sl hsl hinj f).2 $$ [H H2]
  · isplitl [H] <;> iassumption
  icases Hr with ⟨Hp, Hr⟩
  iapply (Idealize.SL.Sem.wp_wand_r _ _ _)
  isplitl [H1 Hp Hq HW]
  · iapply (point c arg1 arg2 f1 f2 sl hsl f G i harg1 harg2 (fun j => by rw [hf1, hd1]) (fun j x => by
      have h0 : (x 0).val < 1 := (x 0).isLt
      have e : (srcM arg2 (j.val / 4) (row_lt j)).view.read (Elt F) f2 x
        = arg2.view.read (Elt F) f2 ((Rect.unit (s := S512x1024) ![j.val / 4, 0] S1x1024.size (inTile (row_lt j))).emb x) := rfl
      rw [e, hf2]
      refine hG j _ _ ?_ ?_ ?_
      · show (sl j).toNat + 1 * (x 0).val = _
        omega
      · show j.val / 4 + 1 * (x 0).val = _
        omega
      · rfl) W)
    isplitl [H1]; · iexact H1
    isplitl [Hp]; · iexact Hp
    isplitl [Hq] <;> iassumption
  iintro %u ⟨H1, Hp, Hq, HW⟩
  have er : (hbM.view.loc (c : Thread nD τ) ↦[Finset.univ \ dstRows c sl hsl]{fullShare} f : sProp 𝕄)
      = (hbM.view.loc (c : Thread nD τ) ↦[Finset.univ \ dstRows c sl hsl]{fullShare} G) :=
    pointsTo_congr fun x hx => by
      rw [Finset.mem_sdiff] at hx
      have hx2 := hx.2
      exact (hGf x (not_mem_dstRows c sl hsl x hx2)).symm
  ihave Hr := (Entails.of_eq er) $$ Hr
  ihave Hw := (rows_whole c arg2 f2 sl hsl hinj G).1 $$ [Hp Hr]
  · isplitl [Hp] <;> iassumption
  icases Hw with ⟨H, H2⟩
  isplitl [H1]
  · iexists f1; isplitr; · ipureintro; exact hf1
    iexact H1
  isplitl [H2]
  · iexists f2; isplitr; · ipureintro; exact hf2
    iexact H2
  isplitl [H]; · iexact H
  isplitl [Hq] <;> iassumption

end Cert.KernelIdeal.Dispatch

end
-- ==== Proof.Run.lean ====
/-
  The token dispatch, run: on every device the result ends with row `slots k` at the token row `k / 4`, its other rows as they
  were, the arguments unchanged and every counter at zero, when the slots are distinct rows of the result.
-/
module

public import proofs.«01_k».proof.Proof.Point
public import proofs.«01_k».proof.Proof.Gen.KernelIdeal.Frame
public import Idealize.ShloMosaic.Lib.Pipeline.ValueKit
public import Idealize.ShloMosaic.Lib.Pipeline.Routed
public import Idealize.ShloMosaic.Lib.Pointwise.Index

@[expose] public section

noncomputable section

namespace Cert.KernelIdeal.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## What the result holds -/

/-- The slots are distinct rows of the result. -/
def SlotsOk (s : S65536.Idx → BitVec 32) : Prop :=
  (∀ k : Fin 65536, (s (ValueIdx.ix1 k)).toNat < 106240)
    ∧ ∀ k k' : Fin 65536, (s (ValueIdx.ix1 k)).toNat = (s (ValueIdx.ix1 k')).toNat → k = k'

theorem tok_lt (k : Fin 65536) : k.val / 4 < 16384 := by omega

/-- The result after the first `n` copies, over contents `o`. -/
def rowsTo (s : S65536.Idx → BitVec 32) (x : S16384x1024.Idx → BitVec 32) (o : S106240x1024.Idx → BitVec 32) (n : ℕ)
    (i : S106240x1024.Idx) : BitVec 32 :=
  open Classical in
  if h : ∃ k : Fin 65536, k.val < n ∧ (s (ValueIdx.ix1 k)).toNat = (i 0).val then
    x (ValueIdx.ix2 ⟨h.choose.val / 4, tok_lt _⟩ (i 1))
  else o i

variable {s : S65536.Idx → BitVec 32} {x : S16384x1024.Idx → BitVec 32} {o : S106240x1024.Idx → BitVec 32}

theorem rowsTo_hit (hs : SlotsOk s) (n : ℕ) (i : S106240x1024.Idx) (k : Fin 65536) (hk : k.val < n)
    (hki : (s (ValueIdx.ix1 k)).toNat = (i 0).val) : rowsTo s x o n i = x (ValueIdx.ix2 ⟨k.val / 4, tok_lt k⟩ (i 1)) := by
  have h : ∃ k : Fin 65536, k.val < n ∧ (s (ValueIdx.ix1 k)).toNat = (i 0).val := ⟨k, hk, hki⟩
  have e : h.choose = k := hs.2 _ _ (h.choose_spec.2.trans hki.symm)
  unfold rowsTo
  rw [dif_pos h]
  simp only [e]

theorem rowsTo_miss (n : ℕ) (i : S106240x1024.Idx) (h : ∀ k : Fin 65536, k.val < n → (s (ValueIdx.ix1 k)).toNat ≠ (i 0).val) :
    rowsTo s x o n i = o i := by
  unfold rowsTo
  exact dif_neg fun ⟨k, hk, hki⟩ => h k hk hki

theorem rowsTo_zero : rowsTo s x o 0 = o := funext fun i => rowsTo_miss 0 i fun k hk => absurd hk (Nat.not_lt_zero _)

/-- A copy that does not write row `i 0` leaves it. -/
theorem rowsTo_stay (hs : SlotsOk s) (n n' : ℕ) (hn : n ≤ n') (i : S106240x1024.Idx)
    (h : ∀ k : Fin 65536, n ≤ k.val → k.val < n' → (s (ValueIdx.ix1 k)).toNat ≠ (i 0).val) : rowsTo s x o n' i = rowsTo s x o n i := by
  by_cases hex : ∃ k : Fin 65536, k.val < n ∧ (s (ValueIdx.ix1 k)).toNat = (i 0).val
  · obtain ⟨k, hk, hki⟩ := hex
    rw [rowsTo_hit hs n' i k (by omega) hki, rowsTo_hit hs n i k hk hki]
  · rw [rowsTo_miss n i fun k hk hki => hex ⟨k, hk, hki⟩, rowsTo_miss n' i fun k hk hki => ?_]
    by_cases hkn : k.val < n
    · exact hex ⟨k, hkn, hki⟩
    · exact h k (by omega) hk hki

/-! ## The blocks -/

variable (m : (ℓ : Loc nD τ sig) → Buf (Elt F) ℓ) (ρ : Dev nD → PrngReg)

theorem index0 : ∀ t : Fin cfg0.N, win0_0.index t = ![t.val] := by decide +kernel
theorem index1 : ∀ t : Fin cfg0.N, win0_1.index t = ![t.val, 0] := by decide +kernel

theorem pt_lt (t : Fin cfg0.N) : t.val < 32 := Nat.lt_of_lt_of_eq t.isLt N_0

/-- The number of slot `j` of point `t`. -/
def slotIx (t : Fin cfg0.N) (j : Fin 2048) : Fin 65536 := ⟨2048 * t.val + j.val, by have := pt_lt t; omega⟩
def tokIx (t : Fin cfg0.N) (r : Fin 512) : Fin 16384 := ⟨512 * t.val + r.val, by have := pt_lt t; omega⟩

theorem iblk0_apply (c : Dev nD) (t : Fin cfg0.N) (j : Fin 2048) :
    iblk m c 0 t (ix1 j) = (m ((c : Thread nD τ).loc main_arg0) : S65536.Idx → BitVec 32) (ValueIdx.ix1 (slotIx t j)) := by
  have h := index0 t
  have e : (ix1 j : S2048.Idx) = ValueIdx.ix1 j := funext fun a => by
    match a with
    | ⟨0, _⟩ => rfl
  rw [e]
  unfold slotIx
  blk_ext [iblk, V, h]
  show t.val * 2048 + j.val = 2048 * t.val + j.val
  omega

theorem iblk1_apply (c : Dev nD) (t : Fin cfg0.N) (r : Fin 512) (y : Fin 1024) :
    iblk m c 1 t (ValueIdx.ix2 r y) = (m ((c : Thread nD τ).loc main_arg1) : S16384x1024.Idx → BitVec 32) (ValueIdx.ix2 (tokIx t r) y) := by
  have h := index1 t
  unfold tokIx
  blk_ext [iblk, V, h]
  show t.val * 512 + r.val = 512 * t.val + r.val
  omega

/-! ## The proof data -/

/-- The slots, the token rows and the result's first contents on core `c`. -/
abbrev slots (c : Dev nD) : S65536.Idx → BitVec 32 := m ((c : Thread nD τ).loc main_arg0)
abbrev toks (c : Dev nD) : S16384x1024.Idx → BitVec 32 := m ((c : Thread nD τ).loc main_arg1)
abbrev res (c : Dev nD) : S106240x1024.Idx → BitVec 32 := m ((c : Thread nD τ).loc main_v0)

/-- The result after `n` grid points. -/
def outAt (c : Dev nD) (n : ℕ) : S106240x1024.Idx → BitVec 32 := rowsTo (slots m c) (toks m c) (res m c) (2048 * n)

abbrev osem0 : Fin 1 → SemLoc sig := ![SemLoc.dma cc0_scratch0.sem]
theorem ownSemFacts0 : Pipeline.OwnSemFacts spec0 osem0 := by decide

theorem ownSems00_eq (c : Dev nD) :
    (Pipeline.ownSems0 (Ix := Unit) (Name := ℕ) (U := Pipeline.UC sig nD τ) (Lvl := ℕ) (Val := Elt F) (τ := τ) osem0 c : sProp 𝕄)
      = semVal ((c : Thread nD τ), .dma cc0_scratch0.sem) 0 := by
  rw [Pipeline.ownSems0_eq_of_list c osem0 [0] (by decide) (by decide)]; rfl

/-- The result, the semaphore at zero and the generator register. -/
def inv (c : Dev nD) (n : ℕ) : sProp 𝕄 :=
  iprop((hbM.view.loc (c : Thread nD τ) ↦{fullShare} outAt m c n) ∗ semVal ((c : Thread nD τ), .dma cc0_scratch0.sem) 0
    ∗ ∃ r, prngReg (c : Dev nD) r)

/-- The proof data: the windows' blocks are left in place, the result is carried through `inv`. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := inv m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

/-! ## The body -/

variable (hs : ∀ c : Dev nD, SlotsOk (slots m c))

include hs in
/-- Grid point `t` takes the result from `outAt t` to `outAt (t + 1)`. -/
theorem body_wp (c : Dev nD) (t : Fin cfg0.N) (W : Waits sig Unit) :
    (iprop(owns (c : Thread nD τ) (st0_0 t) fullShare (iblk m c 0 t) ∗ owns (c : Thread nD τ) (st0_1 t) fullShare (iblk m c 1 t)
        ∗ (hbM.view.loc (c : Thread nD τ) ↦{fullShare} outAt m c t.val)
        ∗ semVal ((c : Thread nD τ), .dma cc0_scratch0.sem) 0 ∗ owes (c : Thread nD τ) 0 W) : sProp 𝕄)
      ⊢ wp frame (wpE (defs₀ (F := F)) Variants.none (c : Thread nD τ) none) Set.univ (bodyAt0 t)
          (fun _ => iprop(owns (c : Thread nD τ) (st0_0 t) fullShare (iblk m c 0 t) ∗ owns (c : Thread nD τ) (st0_1 t) fullShare (iblk m c 1 t)
            ∗ (hbM.view.loc (c : Thread nD τ) ↦{fullShare} outAt m c (t.val + 1))
            ∗ semVal ((c : Thread nD τ), .dma cc0_scratch0.sem) 0 ∗ ∃ W', owes (c : Thread nD τ) 0 W')) := by
  have ht := pt_lt t
  refine point_whole c _ _ (fun j => slots m c (ValueIdx.ix1 (slotIx t j))) (fun j => (hs c).1 _)
    (fun j j' h => ?_) (grid0.coords t) _ _ (iblk m c 0 t) (iblk m c 1 t) (outAt m c t.val) (outAt m c (t.val + 1))
    (fun j => iblk0_apply m c t j) (fun j x y h0 h1 h2 => ?_) (fun x hx => ?_) W
  · have e := congrArg Fin.val ((hs c).2 _ _ h)
    exact Fin.ext (by simp only [slotIx] at e; omega)
  · have hj := j.isLt
    have e1 : outAt m c (t.val + 1) x = toks m c (ValueIdx.ix2 ⟨(slotIx t j).val / 4, tok_lt _⟩ (x 1)) :=
      rowsTo_hit (hs c) _ x (slotIx t j) (by simp only [slotIx]; omega) h0.symm
    have ey : y = ValueIdx.ix2 ⟨j.val / 4, row_lt j⟩ (x 1) := by
      funext a
      match a with
      | ⟨0, _⟩ => exact Fin.ext h1
      | ⟨1, _⟩ => exact Fin.ext h2
    rw [e1, ey]
    refine Eq.trans ?_ (iblk1_apply m c t ⟨j.val / 4, row_lt j⟩ (x 1)).symm
    refine congrArg (fun r => toks m c (ValueIdx.ix2 r (x 1))) (Fin.ext ?_)
    simp only [slotIx, tokIx]
    omega
  · refine rowsTo_stay (hs c) _ _ (by omega) x fun k h1 h2 hk => ?_
    have hj : k.val - 2048 * t.val < 2048 := by omega
    have ek : slotIx t ⟨k.val - 2048 * t.val, hj⟩ = k := Fin.ext (by simp only [slotIx]; omega)
    exact hx ⟨k.val - 2048 * t.val, hj⟩ (by rw [ek]; exact hk.symm)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

include hs in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = inv m c (t.val + 1) from rfl, after0, after1]
  rw [show (dats m 0 c).Φ t.castSucc = inv m c t.val from rfl]
  simp only [before0, before1]
  unfold inv Dat.owesAt Pipeline.owesWithin
  rw [show (dats m 0 c).owed t.castSucc = 0 from rfl, show (dats m 0 c).owed t.succ = 0 from rfl]
  iintro ⟨⟨H, Hq, Hg⟩, ⟨%W, -, HW⟩, ⟨%d0, H0⟩, ⟨%d1, H1⟩⟩
  iapply (Idealize.SL.Sem.wp_wand_r _ _ _)
  isplitl [H0 H1 H Hq HW]
  · iapply (body_wp m hs c t W)
    isplitl [H0]; · iexact H0
    isplitl [H1]; · iexact H1
    isplitl [H]; · iexact H
    isplitl [Hq] <;> iassumption
  iintro %u ⟨H0, H1, H, Hq, ⟨%W', HW'⟩⟩
  isplitl [H Hq Hg]
  · isplitl [H]; · iexact H
    isplitl [Hq] <;> iassumption
  isplitl [HW']
  · iexists W'; isplitr; · ipureintro; exact fun _ _ => Or.inl trivial
    iexact HW'
  isplitl [H0] <;> iassumption

theorem defs₀_row (t : Fin cfg0.N) :
    defs₀ (F := F) .tc cfg0.body (cfg0.bodyArgs t (cfg0.slots t)) = bodyAt0 t := by
  unfold defs₀; rw [Defs.onTc_tc]

include hs in
theorem body_obligation (c : Dev nD) : BodyObligation (dats (F := F) m 0 c) (defs₀ (F := F)) Variants.none () Set.univ := fun t => by
  rw [bigSep_W0, bigSep_W0, defs₀_row]
  exact triple_restated (sound_body m hs c t) rfl .rfl fun _ => .rfl

/-! ## The run -/

theorem ends_eq (c : Dev nD) (W : (b : Ref sig .tc) → Buf (Elt F) ((c.tc : Thread nD τ).loc b)) :
    (Pipeline.Ends (Val := Elt F) (cfgs 0).spec osem0 {main_v0} c W : sProp 𝕄)
      = iprop((((c.tc : Thread nD τ).loc main_v0) ↦{fullShare} W main_v0) ∗ semVal ((c : Thread nD τ), .dma cc0_scratch0.sem) 0
        ∗ BI.emp ∗ ∃ r, prngReg (c : Dev nD) r) := by
  unfold Pipeline.Ends
  rw [Pipeline.routed_singleton, ownSems00_eq, show (Pipeline.scopedRest (Ix := Unit) (Name := ℕ) (U := Pipeline.UC sig nD τ) (Lvl := ℕ) (Val := Elt F) (cfgs 0).spec c : sProp 𝕄) = BI.emp from scopedRest0_eq c]

/-- The buffers at the end: the result at its last contents. -/
def Yof (c : Dev nD) (b : Ref sig .tc) : Buf (Elt F) ((c.tc : Thread nD τ).loc b) :=
  if h : main_v0 = b then h ▸ (outAt m c 32 : Buf (Elt F) ((c.tc : Thread nD τ).loc main_v0)) else V m c b

theorem Yof_v0 (c : Dev nD) : Yof m c main_v0 = (outAt m c 32 : Buf (Elt F) ((c.tc : Thread nD τ).loc main_v0)) := by
  unfold Yof
  rw [dif_pos rfl]

theorem hmainC : Pipeline.HMain (Ix := Unit) (Name := ℕ) (U := Pipeline.UC sig nD τ) (Lvl := ℕ) cfgs 0 defs₀ Variants.none m (main (F := F)) (V m) :=
  Pipeline.hmain_region cfgs 0 defs₀ Variants.none m main fun c => (main_chain c).trans rfl

include hs in
set_option backward.isDefEq.respectTransparency.types false in
theorem run_main : θ_run defs (onTc (τ := τ) (main (F := F))) (s₀ m ρ) (fun r => (∀ c : Dev nD,
      r.2.mem ((c.tc : Thread nD τ).loc main_v0) = outAt m c 32
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_routed cfgs (dats m) (0 : Fin 1) launch0 ownSemFacts0 defs₀ Variants.none m ρ main
    (hbody := fun c => (body_obligation m hs c).loose) (hshare := fun c => (dats m 0 c).share_full fun _ => rfl)
    (howed := fun _ _ => rfl) (V := V m) (hmain := hmainC m) (hA := A_eq m)
    (R := {main_v0}) (hR := by decide) (Y := Yof m)
    (hin := fun c => by
      rw [ends_eq, show (dats m 0 c).Φ 0 = inv m c 0 from rfl]
      unfold inv
      rw [show outAt m c 0 = res m c from rowsTo_zero]
      iintro ⟨H, Hq, -, Hg⟩
      isplitl [H]; · iexact H
      isplitl [Hq] <;> iassumption)
    (hout := fun c => by
      rw [ends_eq, show (dats m 0 c).Φ (Fin.last (cfgs 0).N) = inv m c 32 from rfl, Yof_v0]
      unfold inv
      iintro ⟨H, Hq, Hg⟩
      isplitl [H]; · iexact H
      isplitl [Hq]; · iexact Hq
      isplitr; · iempintro
      iexact Hg)
    (Q' := _) (hQ' := fun r h => ⟨fun c => ⟨((h.1 c).2.1 main_v0 (Finset.mem_singleton_self _)).trans (Yof_v0 m c),
      ((h.1 c).1 0).trans (((dats m 0 c).arrAt_in 0 rfl _).trans (A_eq m c 0)),
      ((h.1 c).1 1).trans (((dats m 0 c).arrAt_in 1 rfl _).trans (A_eq m c 1))⟩, h.2⟩)

/-- What the result holds at the end, at row `slots k`. -/
theorem outAt_row (c : Dev nD) (i : S106240x1024.Idx) (k : Fin 65536) (hk : (slots m c (ValueIdx.ix1 k)).toNat = (i 0).val)
    (h : SlotsOk (slots m c)) : outAt m c 32 i = toks m c (ValueIdx.ix2 ⟨k.val / 4, tok_lt k⟩ (i 1)) :=
  rowsTo_hit h _ i k (by have := k.isLt; omega) hk

end Cert.KernelIdeal.Dispatch

end
-- ==== Proof.Spec.lean ====
/-
  What the precondition, the mask and the plain program say of the slots: the precondition makes them distinct rows, the mask
  selects the rows some slot names, the plain program writes the token row `k / 4` there.
-/
module

public import proofs.«01_k».proof.Defs
public import proofs.«01_k».proof.Proof.Run
public import proofs.«01_k».proof.Proof.Gen.Pre_slots_ok
public import proofs.«01_k».proof.Proof.Gen.On_routed
public import proofs.«01_k».proof.Proof.Gen.ReferenceIdeal.Run
public import Idealize.ShloMosaic.Lib.Routing.OpsSet
public import Idealize.ShloMosaic.Lib.Routing.OpsSearch
public import Idealize.ShloMosaic.Lib.Routing.OpsPair

@[expose] public section

set_option maxRecDepth 4096

noncomputable section

namespace Cert.Dispatch

open Idealize.ShloMosaic hiding ix0 ix1 ix2
open Idealize.ShloMosaic.ValueIdx Idealize.ShloMosaic.Routing Idealize.ShloMosaic.StableHlo.Predicate
open Cert.KernelIdeal.Dispatch (SlotsOk)

/-! ## Reading the printed operations -/

/-- The column of start indices: a negative index has the extent `A` added. -/
def wrapCol {n : ℕ} (h0 : shape0.BroadcastsInDim (shape1 n) (![] : Fin 0 → Fin (shape1 n).rank))
    (h1 : (shape1 n).BroadcastsInDim (shape2 n 1) (![0] : Fin 1 → Fin (shape2 n 1).rank)) (v : IVec (shape1 n) 32) (A : BitVec 32) : IVec (shape2 n 1) 32 :=
  broadcastInDim (shape2 n 1) ![0] h1 (select (cmpi .slt v (broadcastInDim (shape1 n) ![] h0 (constantI shape0 32 0#32)))
    (addi v (broadcastInDim (shape1 n) ![] h0 (constantI shape0 32 A))) v)

/-- A wrapped index column reads the index, when it is not negative. -/
theorem wrap_at {n : ℕ} (h0 : shape0.BroadcastsInDim (shape1 n) (![] : Fin 0 → Fin (shape1 n).rank))
    (h1 : (shape1 n).BroadcastsInDim (shape2 n 1) (![0] : Fin 1 → Fin (shape2 n 1).rank)) (v : IVec (shape1 n) 32) (A : BitVec 32)
    (k : Fin n) (hv : (v (ix1 k)).toNat < 2 ^ 31) : wrapCol h0 h1 v A (ix2 k (0 : Fin 1)) = v (ix1 k) := by
  unfold wrapCol
  rw [bcCol]
  show Scalar.select (IntOp.cmpi .slt (v (ix1 k)) (broadcastInDim (shape1 n) ![] h0 (constantI shape0 32 0#32) (ix1 k))) _ _ = _
  rw [bc0]
  exact wrap_of_lt _ _ hv

theorem eta1 {n : ℕ} (k : (shape1 n).Idx) : ix1 (k 0) = k := funext fun a => by
  match a with
  | ⟨0, _⟩ => rfl
theorem eta2 {a b : ℕ} (k : (shape2 a b).Idx) : ix2 (k 0) (k 1) = k := funext fun a => by
  match a with
  | ⟨0, _⟩ => rfl
  | ⟨1, _⟩ => rfl

theorem toInt_eq_iff {b : BitVec 32} (hb : b.toNat < 2 ^ 31) (r : ℕ) : b.toInt = (r : ℤ) ↔ b.toNat = r := by
  rw [toInt_eq_toNat_of_lt hb]
  omega

theorem eq_one {a b : BitVec 32} (h : IntOp.cmpi .eq a b = 1#1) : a = b := cmpi_eq_iff.mp h

theorem andi_one {a b : BitVec 1} : a &&& b = 1#1 ↔ a = 1#1 ∧ b = 1#1 := by
  revert a b
  decide

/-! ## The precondition -/

theorem pre_at {n : ℕ} (h0 : shape0.BroadcastsInDim (shape1 n) (![] : Fin 0 → Fin (shape1 n).rank)) (s g : IVec (shape1 n) 32) (k : Fin n)
    (e : andi (andi (cmpi .sge s (broadcastInDim (shape1 n) ![] h0 (constantI shape0 32 0#32)))
        (cmpi .slt s (broadcastInDim (shape1 n) ![] h0 (constantI shape0 32 106240#32))))
      (cmpi .eq g (iotaInDim (shape1 n) 32 0)) (ix1 k) = 1#1) :
    (s (ix1 k)).toNat < 106240 ∧ g (ix1 k) = BitVec.ofNat 32 k.val := by
  obtain ⟨e1, e2⟩ := andi_one.mp e
  obtain ⟨e3, e4⟩ := andi_one.mp e1
  refine ⟨?_, eq_one e2⟩
  have e3' : IntOp.cmpi .sge (s (ix1 k)) 0#32 = 1#1 := by
    rw [← e3]
    show _ = IntOp.cmpi .sge (s (ix1 k)) _
    rw [bc0]
    rfl
  have e4' : IntOp.cmpi .slt (s (ix1 k)) 106240#32 = 1#1 := by
    rw [← e4]
    show _ = IntOp.cmpi .slt (s (ix1 k)) _
    rw [bc0]
    rfl
  simp only [IntOp.cmpi, ofBool_eq_one_iff, BitVec.sle, BitVec.slt, decide_eq_true_eq, BitVec.toInt, BitVec.toNat_ofNat] at e3' e4'
  omega

theorem pre_slots {F : FTy → Type} [FloatOps F] (s : IVec Pre_slots_ok.S65536 32) (x : IVec Pre_slots_ok.S16384x1024 32)
    (h : Pre_slots_ok.fn (F := F) s x = fun _ => 1#1) : SlotsOk s := by
  obtain ⟨T, h'⟩ : ∃ T : IVec Pre_slots_ok.S106240 32,
      andi (andi (cmpi .sge s (broadcastInDim (shape1 65536) ![] Pre_slots_ok.Facts.bcast_S_S65536 (constantI shape0 32 0#32)))
        (cmpi .slt s (broadcastInDim (shape1 65536) ![] Pre_slots_ok.Facts.bcast_S_S65536 (constantI shape0 32 106240#32))))
      (cmpi .eq (Host.gather Pre_slots_ok.gather_S106240_S65536x1_S65536_n_0_n_n_0_1_1 T
          (wrapCol Pre_slots_ok.Facts.bcast_S_S65536 Pre_slots_ok.Facts.bcast_S65536_S65536x1_0 s 106240#32)) (iotaInDim (shape1 65536) 32 0)) = fun _ => 1#1 := by
    unfold wrapCol
    exact ⟨_, h⟩
  have key := fun k : Fin 65536 => pre_at _ s _ k (congrFun h' (ix1 k))
  refine ⟨fun k => (key k).1, fun k k' hkk => ?_⟩
  have val : ∀ q : Fin 65536, ∀ r : Fin 106240, (s (ix1 q)).toNat = r.val → T (ix1 r) = BitVec.ofNat 32 q.val := fun q r hr => by
    have e := (key q).2
    rw [gather_take1 _ rfl rfl rfl rfl _ _ q r (by
      rw [wrap_at _ _ s _ q (by have := (key q).1; omega), ← hr]; simp) (by decide)] at e
    exact e
  have e1 := val k ⟨(s (ix1 k)).toNat, (key k).1⟩ rfl
  have e2 := val k' ⟨(s (ix1 k)).toNat, (key k).1⟩ hkk.symm
  have e3 := congrArg BitVec.toNat (e1.symm.trans e2)
  simp only [BitVec.toNat_ofNat] at e3
  exact Fin.ext (by omega)

/-! ## Where an update lands -/

/-- Update `k` of a scatter of scalars into a vector, one index word each, starts at that word. -/
theorem start_vec {N n : ℕ} (d : ScatterDims (shape1 N) (shape2 n 1) (shape1 n)) (hiw : d.insertedWindowDims = [0])
    (hsd : d.scatterDimsToOperandDims = [0]) (hivd : d.indexVectorDim = 1) (idx : IVec (shape2 n 1) 32) (k : (shape1 n).Idx) :
    d.start k idx 0 + (d.window k 0 : ℤ) = (idx (ix2 (k 0) (0 : Fin 1))).toInt := by
  have hm : (0 : Fin 1) ∈ d.scatterDimsToOperandDims := by rw [hsd]; exact List.mem_singleton.2 rfl
  have hw : d.window k 0 = 0 := by
    unfold ScatterDims.window
    rw [dif_neg fun h => (of_decide_eq_true (List.mem_filter.1 h).2) (by rw [hiw]; exact List.mem_singleton.2 rfl)]
  have hs : d.start k idx 0 = (idx (ix2 (k 0) (0 : Fin 1))).toInt := by
    unfold ScatterDims.start
    rw [dif_pos hm]
    refine congrArg (fun j => (idx j).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      exact congrArg (fun X : Fin 1 => (k X).val) (Subsingleton.elim _ _)
    | ⟨1, _⟩ =>
      unfold ScatterDims.siIdx
      rw [dif_pos (by rw [hivd])]
      show List.idxOf (0 : Fin 1) d.scatterDimsToOperandDims = 0
      rw [hsd]; simp
  rw [hs, hw]
  simp

/-! ## The mask -/

theorem mask_at {n m : ℕ} (h1 : (shape1 n).BroadcastsInDim (shape2 n 1) (![0] : Fin 1 → Fin (shape2 n 1).rank))
    (h2 : (shape2 n 1).BroadcastsInDim (shape2 n m) (![0, 1] : Fin 2 → Fin (shape2 n m).rank)) (a b : IVec (shape1 n) 32) (i : (shape2 n m).Idx)
    (h : broadcastInDim (shape2 n m) ![0, 1] h2 (broadcastInDim (shape2 n 1) ![0] h1 (cmpi .eq a b)) i = 1#1) : a (ix1 (i 0)) = b (ix1 (i 0)) := by
  have e := bcRows h1 h2 (cmpi .eq a b) (i 0) (i 1)
  rw [show (ix2 (i 0) (i 1) : (shape2 n m).Idx) = i from eta2 i, h] at e
  exact eq_one e.symm

theorem mask_slot {F : FTy → Type} [FloatOps F] (s : IVec On_routed.S65536 32) (x : IVec On_routed.S16384x1024 32) (hs : SlotsOk s)
    (i : (shape2 106240 1024).Idx) (h : On_routed.fn (F := F) s x i = 1#1) : ∃ k : Fin 65536, (s (ix1 k)).toNat = (i 0).val := by
  by_contra hn
  push Not at hn
  have e' : Host.scatter On_routed.scatter_S106240_S65536x1_S65536_n_0_0_1 (fun _ b => b)
      (broadcastInDim (shape1 106240) ![] On_routed.Facts.bcast_S_S106240 (constantI shape0 32 0#32))
      (wrapCol On_routed.Facts.bcast_S_S65536 On_routed.Facts.bcast_S65536_S65536x1_0 s 106240#32)
      (broadcastInDim (shape1 65536) ![] On_routed.Facts.bcast_S_S65536 (constantI shape0 32 1#32)) (ix1 (i 0))
      = broadcastInDim (shape1 106240) ![] On_routed.Facts.bcast_S_S106240 (constantI shape0 32 1#32) (ix1 (i 0)) := by
    unfold wrapCol
    exact mask_at On_routed.Facts.bcast_S106240_S106240x1_0 On_routed.Facts.bcast_S106240x1_S106240x1024_0_1 _ _ i h
  rw [scatter_set_miss] at e'
  · rw [bc0, bc0] at e'
    exact absurd e' (by decide)
  · intro k hk
    have hk' := (resultIdx?_ix1 _ _ _ _).mp hk
    rw [start_vec _ rfl rfl rfl, wrap_at _ _ s _ (k 0) (by have := hs.1 (k 0); omega), toInt_eq_iff (by have := hs.1 (k 0); omega)] at hk'
    exact hn (k 0) hk'

/-! ## The plain program -/

variable (h0 : shape0.BroadcastsInDim (shape1 65536) (![] : Fin 0 → Fin (shape1 65536).rank))
  (h1 : (shape1 65536).BroadcastsInDim (shape2 65536 1) (![0] : Fin 1 → Fin (shape2 65536 1).rank))

/-- Which token each pair belongs to: its number over 4. -/
def tokOf : IVec (shape1 65536) 32 := pyDiv h0 (iotaInDim (shape1 65536) 32 0) (id (constantI shape0 32 4#32))

/-- The rows of tokens scattered to their slots: the row some slot names holds that pair's token row. -/
theorem plain_row (d : ScatterDims (shape2 106240 1024) (shape2 65536 1) (shape2 65536 1024)) (hd : d = ReferenceIdeal.scatter_S106240x1024_S65536x1_S65536x1024_1_0_0_1)
    (s : IVec (shape1 65536) 32) (x : IVec (shape2 16384 1024) 32) (hs : SlotsOk s) (z : IVec (shape2 106240 1024) 32)
    (i : (shape2 106240 1024).Idx) (k : Fin 65536) (hk : (s (ix1 k)).toNat = (i 0).val) :
    Host.scatter d (fun _ b => b) z (wrapCol h0 h1 s 106240#32)
      (Host.gather ReferenceIdeal.gather_S16384x1024_S65536x1_S65536x1024_1_0_n_n_0_1_11024 x (wrapCol h0 h1 (tokOf h0) 16384#32)) i
      = x (ix2 ⟨k.val / 4, KernelIdeal.Dispatch.tok_lt k⟩ (i 1)) := by
  have tokv : ∀ q : Fin 65536, tokOf h0 (ix1 q) = BitVec.ofNat 32 (q.val / 4) := fun q =>
    pyDiv_ap _ _ _ _ (iota1_ap q) rfl (by omega) (by decide) (by decide)
  have row : ∀ (q : Fin 65536) (y : Fin 1024), Host.gather ReferenceIdeal.gather_S16384x1024_S65536x1_S65536x1024_1_0_n_n_0_1_11024 x
        (wrapCol h0 h1 (tokOf h0) 16384#32) (ix2 q y) = x (ix2 ⟨q.val / 4, KernelIdeal.Dispatch.tok_lt q⟩ y) := fun q y =>
    gather_row _ rfl rfl rfl rfl rfl x _ q y ⟨q.val / 4, KernelIdeal.Dispatch.tok_lt q⟩
      (by rw [wrap_at _ _ _ _ q (by rw [tokv, BitVec.toNat_ofNat]; omega)]; exact tokv q) (by decide)
  have st0 : ∀ (k' : (shape2 65536 1024).Idx) (w : IVec (shape2 65536 1) 32), d.start k' w 0 + (d.window k' 0 : ℤ) = (w (ix2 (k' 0) (0 : Fin 1))).toInt := fun k' w => by
    subst hd
    have e : (w (ix2 (k' 0) (0 : Fin 1))) = w (ReferenceIdeal.scatter_S106240x1024_S65536x1_S65536x1024_1_0_0_1.siIdx k' ⟨0, by decide⟩) :=
      congrArg w (funext fun b => by
        match b with
        | ⟨0, _⟩ => rfl
        | ⟨1, _⟩ => rfl)
    rw [e]
    exact add_zero _
  have st1 : ∀ (k' : (shape2 65536 1024).Idx) (w : IVec (shape2 65536 1) 32), d.start k' w 1 + (d.window k' 1 : ℤ) = ((k' 1).val : ℤ) := fun k' w => by
    subst hd
    exact zero_add _
  have lands : ∀ k' : (shape2 65536 1024).Idx, d.resultIdx? k' (wrapCol h0 h1 s 106240#32) = some i ↔ (s (ix1 (k' 0))).toNat = (i 0).val ∧ (k' 1).val = (i 1).val := by
    intro k'
    have e := resultIdx?_ix2 d k' (wrapCol h0 h1 s 106240#32) (i 0) (i 1)
    rw [st0, st1, wrap_at _ _ s _ (k' 0) (by have := hs.1 (k' 0); omega), toInt_eq_iff (by have := hs.1 (k' 0); omega), Nat.cast_inj] at e
    rw [← e]
    exact iff_of_eq (congrArg (fun j => d.resultIdx? k' (wrapCol h0 h1 s 106240#32) = some j) (eta2 i).symm)
  refine scatter_set_hit d z _ _ i _ (fun k' hk' => ?_) (ix2 k (i 1)) ((lands _).mpr ⟨hk, rfl⟩)
  obtain ⟨g0, g1⟩ := (lands k').mp hk'
  have e0 : k' 0 = k := hs.2 _ _ (g0.trans hk.symm)
  refine (congrArg _ (eta2 k').symm).trans ((row (k' 0) (k' 1)).trans ?_)
  rw [e0, show k' 1 = i 1 from Fin.ext g1]

end Cert.Dispatch

end
-- ==== Proof.ExpertsTables.lean ====
/-
  The work list of the experts' call: what the precondition says of it, and the blocks each grid point takes.
-/
module

public import proofs.«01_k».proof.Proof.Gen.Kernel2Ideal.Launch
public import Idealize.ShloMosaic.Lib.ValueIdx

@[expose] public section

set_option maxRecDepth 65536

noncomputable section

namespace Cert.Kernel2Ideal.Experts

open Cert.Kernel2Ideal Cert.Kernel2Ideal.Gen
open Idealize.ShloMosaic

variable {F : FTy → Type} [FloatOps F]

/-- The work list: each item's expert is one of 32 and has at most 1280 rows; its block is its own number, up to a last
    one, and items after that have no rows. -/
structure ListOk (e r b : S83.Idx → BitVec 32) : Prop where
  expert : ∀ w : Fin 83, (e (ValueIdx.ix1 w)).toNat < 32
  rows : ∀ w : Fin 83, (r (ValueIdx.ix1 w)).toInt ≤ 1280
  last : (b (ValueIdx.ix1 (82 : Fin 83))).toNat < 83
  block : ∀ w : Fin 83, (b (ValueIdx.ix1 w)).toNat = min w.val (b (ValueIdx.ix1 (82 : Fin 83))).toNat
  none : ∀ w : Fin 83, w.val ≤ (b (ValueIdx.ix1 (82 : Fin 83))).toNat ∨ (r (ValueIdx.ix1 w)).toInt ≤ 0

theorem ListOk.block_lt {e r b : S83.Idx → BitVec 32} (h : ListOk e r b) (w : Fin 83) : (b (ValueIdx.ix1 w)).toNat < 83 := by
  have := h.block w
  have := h.last
  omega

/-- The column chunk a grid point takes: its own where its item has rows, the last one elsewhere. -/
def chunk (r : BitVec 32) (c : Fin 8) : ℕ := if 0 < r.toInt then c.val else 7

theorem chunk_lt (r : BitVec 32) (c : Fin 8) : chunk r c < 8 := by
  unfold chunk
  split <;> omega

/-- A grid point's item and column chunk. -/
def item (i : grid0.Coords) : Fin 83 := i 0
def col (i : grid0.Coords) : Fin 8 := i 1

/-- The index a scalar load at an item's number reads at. -/
theorem at_eq (i : grid0.Coords) (off : Fin 1 → ℕ) (ho : off = k0_off1 i) (inb : ∀ a, off a + S1.size a ≤ S83.size a) (h1 : S1.numel = 1) :
    (Rect.unit (s := S83) off S1.size inb).emb (Shape.Idx.first (h1.symm ▸ Nat.one_pos)) = ValueIdx.ix1 (item i) := by
  subst ho
  funext a
  match a with
  | ⟨0, _⟩ =>
    refine Fin.ext ?_
    have e : k0_off1 i 0 = (i 0).val := congrFun (k0_off1_eq i) (0 : Fin 1)
    have hz : ((Shape.Idx.first (h1.symm ▸ Nat.one_pos) : S1.Idx) 0).val < 1 := Fin.isLt _
    show k0_off1 i 0 + 1 * ((Shape.Idx.first (h1.symm ▸ Nat.one_pos) : S1.Idx) 0).val = (i 0).val
    omega

/-- The kernel's choice of a chunk. -/
theorem chunk_word (r : BitVec 32) (c : Fin 8) :
    (Scalar.select (Scalar.cmpi .sgt r 0#32) (BitVec.ofNat 32 c.val) 7#32 : BitVec 32) = BitVec.ofNat 32 (chunk r c) := by
  unfold chunk
  split <;> rename_i h
  · have hs : Scalar.cmpi .sgt r 0#32 = 1#1 := by
      show BitVec.ofBool _ = _
      simp [BitVec.slt, h]
    rw [hs]; rfl
  · have hs : Scalar.cmpi .sgt r 0#32 = 0#1 := by
      show BitVec.ofBool _ = _
      simp [BitVec.slt, h]
    rw [hs]; rfl

theorem chunk_toNat (r : BitVec 32) (c : Fin 8) : (BitVec.ofNat 32 (chunk r c)).toNat = chunk r c := by
  have := chunk_lt r c
  rw [BitVec.toNat_ofNat]; omega

theorem chunk_toNat8 (r : BitVec 32) (c : Fin 8) : (Scalar.addi 8#32 (BitVec.ofNat 32 (chunk r c))).toNat = 8 + chunk r c := by
  have := chunk_lt r c
  show (8#32 + BitVec.ofNat 32 (chunk r c)).toNat = _
  rw [BitVec.toNat_add, BitVec.toNat_ofNat]
  show (8 + _ % _) % _ = _
  omega

/-! ## The printed index maps -/

variable (pf : pre0.Contents (Elt F)) (i : grid0.Coords)

/-- The three tables' words at an item. -/
abbrev wE (w : Fin 83) : BitVec 32 := (pf 0 : S83.Idx → BitVec 32) (ValueIdx.ix1 w)
abbrev wR (w : Fin 83) : BitVec 32 := (pf 1 : S83.Idx → BitVec 32) (ValueIdx.ix1 w)
abbrev wB (w : Fin 83) : BitVec 32 := (pf 2 : S83.Idx → BitVec 32) (ValueIdx.ix1 w)

theorem readE (off : Fin 1 → ℕ) (ho : off = k0_off1 i) (inb : ∀ a, off a + S1.size a ≤ S83.size a) (h1 : S1.numel = 1) :
    pf.at 0 (Rect.unit (s := S83) off S1.size inb) h1 = wE pf (item i) := congrArg (pf 0 : S83.Idx → BitVec 32) (at_eq i off ho inb h1)
theorem readR (off : Fin 1 → ℕ) (ho : off = k0_off1 i) (inb : ∀ a, off a + S1.size a ≤ S83.size a) (h1 : S1.numel = 1) :
    pf.at 1 (Rect.unit (s := S83) off S1.size inb) h1 = wR pf (item i) := congrArg (pf 1 : S83.Idx → BitVec 32) (at_eq i off ho inb h1)
theorem readB (off : Fin 1 → ℕ) (ho : off = k0_off1 i) (inb : ∀ a, off a + S1.size a ≤ S83.size a) (h1 : S1.numel = 1) :
    pf.at 2 (Rect.unit (s := S83) off S1.size inb) h1 = wB pf (item i) := congrArg (pf 2 : S83.Idx → BitVec 32) (at_eq i off ho inb h1)

theorem chunkR : (Scalar.select (Scalar.cmpi .sgt (pf.at 1 (Rect.unit (s := S83) (k0_off1 i) S1.size (k0_off1_inb i)) numel1_S1 : BitVec 32) 0#32) (BitVec.ofNat 32 (i 1).val) 7#32 : BitVec 32)
    = BitVec.ofNat 32 (chunk (wR pf (item i)) (col i)) :=
  (congrArg (fun r : BitVec 32 => (Scalar.select (Scalar.cmpi .sgt r 0#32) (BitVec.ofNat 32 (i 1).val) 7#32 : BitVec 32)) (readR pf i _ rfl (k0_off1_inb i) numel1_S1)).trans
    (chunk_word _ (col i))

theorem toE : (pf.at 0 (Rect.unit (s := S83) (k0_off1 i) S1.size (k0_off1_inb i)) numel1_S1 : BitVec 32).toNat = (wE pf (item i)).toNat :=
  congrArg BitVec.toNat (readE pf i _ rfl (k0_off1_inb i) numel1_S1)
theorem toB : (pf.at 2 (Rect.unit (s := S83) (k0_off1 i) S1.size (k0_off1_inb i)) numel1_S1 : BitVec 32).toNat = (wB pf (item i)).toNat :=
  congrArg BitVec.toNat (readB pf i _ rfl (k0_off1_inb i) numel1_S1)
theorem toC : (Scalar.select (Scalar.cmpi .sgt (pf.at 1 (Rect.unit (s := S83) (k0_off1 i) S1.size (k0_off1_inb i)) numel1_S1 : BitVec 32) 0#32) (BitVec.ofNat 32 (i 1).val) 7#32 : BitVec 32).toNat
    = chunk (wR pf (item i)) (col i) := (congrArg BitVec.toNat (chunkR pf i)).trans (chunk_toNat _ _)
theorem toC8 : (Scalar.addi 8#32 (Scalar.select (Scalar.cmpi .sgt (pf.at 1 (Rect.unit (s := S83) (k0_off1 i) S1.size (k0_off1_inb i)) numel1_S1 : BitVec 32) 0#32) (BitVec.ofNat 32 (i 1).val) 7#32 : BitVec 32)).toNat
    = 8 + chunk (wR pf (item i)) (col i) := (congrArg (fun x : BitVec 32 => (Scalar.addi 8#32 x).toNat) (chunkR pf i)).trans (chunk_toNat8 _ _)

theorem vec2 {a a' b b' : ℕ} (ha : a = a') (hb : b = b') : (![a, b] : Fin 2 → ℕ) = ![a', b'] := by rw [ha, hb]
theorem vec3 {a a' b b' c c' : ℕ} (ha : a = a') (hb : b = b') (hc : c = c') : (![a, b, c] : Fin 3 → ℕ) = ![a', b', c'] := by rw [ha, hb, hc]

theorem transform0 : cc0_transform_0 k0_off1_inb numel1_S1 pf i = ![(wB pf (item i)).toNat, 0] :=
  vec2 (toB pf i) rfl

theorem transform1 : cc0_transform_1 k0_off1_inb numel1_S1 pf i = ![(wE pf (item i)).toNat, 0, chunk (wR pf (item i)) (col i)] :=
  vec3 (toE pf i) rfl (toC pf i)

theorem transform2 : cc0_transform_2 k0_off1_inb numel1_S1 pf i = ![(wE pf (item i)).toNat, 0, 8 + chunk (wR pf (item i)) (col i)] :=
  vec3 (toE pf i) rfl (toC8 pf i)

theorem transform3 : cc0_transform_3 k0_off1_inb numel1_S1 pf i = ![(wE pf (item i)).toNat, 0, chunk (wR pf (item i)) (col i)] :=
  vec3 (toE pf i) rfl (toC pf i)

theorem transform4 : cc0_transform_4 k0_off1_inb numel1_S1 pf i = ![(wE pf (item i)).toNat, 0, 8 + chunk (wR pf (item i)) (col i)] :=
  vec3 (toE pf i) rfl (toC8 pf i)

theorem transform5 : cc0_transform_5 k0_off1_inb numel1_S1 pf i = ![(wE pf (item i)).toNat, chunk (wR pf (item i)) (col i), 0] :=
  vec3 (toE pf i) (toC pf i) rfl

theorem transform6 : cc0_transform_6 k0_off1_inb numel1_S1 pf i = ![(wE pf (item i)).toNat, 0, 0] :=
  vec3 (toE pf i) rfl rfl

theorem transform7 : cc0_transform_7 k0_off1_inb numel1_S1 pf i = ![(wB pf (item i)).toNat, 0] :=
  vec2 (toB pf i) rfl

/-- Under a good work list every block lies inside its array. -/
theorem ok0_of (h : ListOk (pf 0) (pf 1) (pf 2)) : ok0 pf := by
  refine ⟨?_, ?_, ?_, ?_, ?_, ?_, ?_, ?_⟩ <;> intro i <;> refine ⟨fun a => ?_, .inl rfl⟩
  · have e := transform0 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wB pf (item i)).toNat + 1) * 1280 ≤ 106240; omega
    | ⟨1, _⟩ => show (0 + 1) * 1024 ≤ 1024; omega
  · have e := transform1 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (0 + 1) * 2048 ≤ 2048; omega
    | ⟨2, _⟩ => show (chunk (wR pf (item i)) (col i) + 1) * 256 ≤ 4096; omega
  · have e := transform2 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (0 + 1) * 2048 ≤ 2048; omega
    | ⟨2, _⟩ => show (8 + chunk (wR pf (item i)) (col i) + 1) * 256 ≤ 4096; omega
  · have e := transform3 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (0 + 1) * 1 ≤ 1; omega
    | ⟨2, _⟩ => show (chunk (wR pf (item i)) (col i) + 1) * 256 ≤ 4096; omega
  · have e := transform4 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (0 + 1) * 1 ≤ 1; omega
    | ⟨2, _⟩ => show (8 + chunk (wR pf (item i)) (col i) + 1) * 256 ≤ 4096; omega
  · have e := transform5 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (chunk (wR pf (item i)) (col i) + 1) * 256 ≤ 2048; omega
    | ⟨2, _⟩ => show (0 + 1) * 2048 ≤ 2048; omega
  · have e := transform6 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wE pf (item i)).toNat + 1) * 1 ≤ 32; omega
    | ⟨1, _⟩ => show (0 + 1) * 1 ≤ 1; omega
    | ⟨2, _⟩ => show (0 + 1) * 2048 ≤ 2048; omega
  · have e := transform7 pf i
    have hb : (wB pf (item i)).toNat < 83 := h.block_lt (item i)
    have he : (wE pf (item i)).toNat < 32 := h.expert (item i)
    have hc := chunk_lt (wR pf (item i)) (col i)
    rw [e]
    match a with
    | ⟨0, _⟩ => show ((wB pf (item i)).toNat + 1) * 1280 ≤ 106240; omega
    | ⟨1, _⟩ => show (0 + 1) * 2048 ≤ 2048; omega

end Cert.Kernel2Ideal.Experts
-- ==== Proof.ExpertsOpen.lean ====
/-
  One grid point of the experts' call: its opening, and the names of what its tiles do.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.VecWindow
public import Idealize.ShloMosaic.Lib.ValueIdx
public import Idealize.ShloMosaic.Lib.Exec
public import Idealize.ShloMosaic.Lib.Tactic

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S83 .i32) (harg2 : arg2.IsWhole) (arg3 : Memref sig .tc .smem S83 .i32) (harg3 : arg3.IsWhole) (arg4 : Memref sig .tc .smem S83 .i32) (harg4 : arg4.IsWhole) (arg5 : Memref sig .tc .vmem S1280x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x2048 .f32) (harg10 : arg10.IsWhole) (arg11 : Memref sig .tc .vmem S1x1x2048 .f32) (harg11 : arg11.IsWhole) (arg12 : Memref sig .tc .vmem S1280x2048 .f32) (harg12 : arg12.IsWhole) (arg13 : Memref sig .tc .vmem S1280x2048 .bf16) (harg13 : arg13.IsWhole)
  (v1 : BitVec 32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The buffers a grid point touches, held. -/
def held : sProp 𝕄 :=
  iprop((arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13))

/-- What a store of whole rows leaves at the rows it names. -/
theorem win_hit {κ : Kind} {sp : Space} {e : EltTy} (v : View sig κ sp S1280x2048 e) (f : v.ty.Contents (Elt F)) (st R : ℕ)
    (inb : ∀ a, ![st, 0] a + ![R, 2048] a ≤ S1280x2048.size a) (w : (Rect.unit (s := S1280x2048) ![st, 0] ![R, 2048] inb).shape.Idx → Elt F e)
    (L : List (View.Piece (Elt F) S1280x2048 e)) :
    VecWindow.window (v.read (Elt F) (v.writes (Elt F) f (⟨Rect.unit ![st, 0] ![R, 2048] inb, w⟩ :: L))) ![st, 0] ![R, 2048] inb = w :=
  funext fun y => View.read_writes_cons_unit_of_mem v f inb w L _ y rfl fun a => congrArg (![st, 0] a + ·) (Nat.one_mul _)

/-- A store of other rows leaves these. -/
theorem win_miss {κ : Kind} {sp : Space} {e : EltTy} (v : View sig κ sp S1280x2048 e) (f : v.ty.Contents (Elt F)) (st R st' R' : ℕ)
    (inb : ∀ a, ![st, 0] a + ![R, 2048] a ≤ S1280x2048.size a) (inb' : ∀ a, ![st', 0] a + ![R', 2048] a ≤ S1280x2048.size a)
    (w : (Rect.unit (s := S1280x2048) ![st, 0] ![R, 2048] inb).shape.Idx → Elt F e) (h : st' + R' ≤ st)
    (L : List (View.Piece (Elt F) S1280x2048 e)) :
    VecWindow.window (v.read (Elt F) (v.writes (Elt F) f (⟨Rect.unit ![st, 0] ![R, 2048] inb, w⟩ :: L))) ![st', 0] ![R', 2048] inb'
      = VecWindow.window (v.read (Elt F) (v.writes (Elt F) f L)) ![st', 0] ![R', 2048] inb' :=
  funext fun y => View.read_writes_cons_unit_of_not_mem v f inb w L _ rfl (0 : Fin 2) (.inl (by
    have h2 : (y (0 : Fin 2)).val < R' := (y (0 : Fin 2)).isLt
    show st' + 1 * (y (0 : Fin 2)).val < st
    omega))

/-- The rows from `st` on, 128 of them, take in the point's chunk of the hidden units. -/
def Tile128 (wg wu : Vec F S1x2048x256 .f32) (wd : Vec F S1x256x2048 .f32) (bg bu : Vec F S1x1x256 .f32) (s : Vec F S1280x2048 .bf16)
    (o o' : Vec F S1280x2048 .f32) (st : ℕ) (inb : ∀ a, ![st, 0] a + ![128, 2048] a ≤ S1280x2048.size a) : Prop :=
  VecWindow.window o' ![st, 0] ![128, 2048] inb = k0_pay1 (k0_pay8 wg) (k0_pay9 wu) (k0_pay10 wd) (VecWindow.window s ![st, 0] ![128, 2048] inb) bg bu
    (VecWindow.window o ![st, 0] ![128, 2048] inb)

/-- The same of 256 rows. -/
def Tile256 (wg wu : Vec F S1x2048x256 .f32) (wd : Vec F S1x256x2048 .f32) (bg bu : Vec F S1x1x256 .f32) (s : Vec F S1280x2048 .bf16)
    (o o' : Vec F S1280x2048 .f32) (st : ℕ) (inb : ∀ a, ![st, 0] a + ![256, 2048] a ≤ S1280x2048.size a) : Prop :=
  VecWindow.window o' ![st, 0] ![256, 2048] inb = k0_pay3 (k0_pay8 wg) (k0_pay9 wu) (k0_pay10 wd) (VecWindow.window s ![st, 0] ![256, 2048] inb) bg bu
    (VecWindow.window o ![st, 0] ![256, 2048] inb)

/-- The same of 512 rows. -/
def Tile512 (wg wu : Vec F S1x2048x256 .f32) (wd : Vec F S1x256x2048 .f32) (bg bu : Vec F S1x1x256 .f32) (s : Vec F S1280x2048 .bf16)
    (o o' : Vec F S1280x2048 .f32) (st : ℕ) (inb : ∀ a, ![st, 0] a + ![512, 2048] a ≤ S1280x2048.size a) : Prop :=
  VecWindow.window o' ![st, 0] ![512, 2048] inb = k0_pay39 (k0_pay8 wg) (k0_pay9 wu) (k0_pay10 wd) (VecWindow.window s ![st, 0] ![512, 2048] inb) bg bu
    (VecWindow.window o ![st, 0] ![512, 2048] inb)

/-- What a point does to the result's rows when its rows fill the tiles of count `n`. -/
def Tiles (wg wu : Vec F S1x2048x256 .f32) (wd : Vec F S1x256x2048 .f32) (bg bu : Vec F S1x1x256 .f32) (s : Vec F S1280x2048 .bf16)
    (o o' : Vec F S1280x2048 .f32) : ℕ → Prop
  | 1 => Tile128 wg wu wd bg bu s o o' 0 (by decide)
  | 2 => Tile256 wg wu wd bg bu s o o' 0 (by decide)
  | 3 => Tile256 wg wu wd bg bu s o o' 0 (by decide) ∧ Tile128 wg wu wd bg bu s o o' 256 (by decide)
  | 4 => Tile512 wg wu wd bg bu s o o' 0 (by decide)
  | 5 => Tile512 wg wu wd bg bu s o o' 0 (by decide) ∧ Tile128 wg wu wd bg bu s o o' 512 (by decide)
  | 6 => Tile512 wg wu wd bg bu s o o' 0 (by decide) ∧ Tile256 wg wu wd bg bu s o o' 512 (by decide)
  | 7 => Tile512 wg wu wd bg bu s o o' 0 (by decide) ∧ Tile256 wg wu wd bg bu s o o' 512 (by decide) ∧ Tile128 wg wu wd bg bu s o o' 768 (by decide)
  | 8 => Tile512 wg wu wd bg bu s o o' 0 (by decide) ∧ Tile512 wg wu wd bg bu s o o' 512 (by decide)
  | 9 => Tile512 wg wu wd bg bu s o o' 0 (by decide) ∧ Tile512 wg wu wd bg bu s o o' 512 (by decide) ∧ Tile128 wg wu wd bg bu s o o' 1024 (by decide)
  | 10 => Tile512 wg wu wd bg bu s o o' 0 (by decide) ∧ Tile512 wg wu wd bg bu s o o' 512 (by decide) ∧ Tile256 wg wu wd bg bu s o o' 1024 (by decide)
  | _ => True

/-- The scratch once a block's words are unpacked. -/
def unpacked (v1 : BitVec 32) (x : Vec F S1280x1024 .i32) : Vec F S1280x2048 .bf16 := fun y =>
  if h : (y (1 : Fin 2)).val < 1024 then k0_pay53 v1 x (ValueIdx.ix2 (y (0 : Fin 2)) ⟨(y (1 : Fin 2)).val, h⟩)
  else k0_pay54 v1 x (ValueIdx.ix2 (y (0 : Fin 2)) ⟨(y (1 : Fin 2)).val - 1024, by have h2 : (y (1 : Fin 2)).val < 2048 := (y (1 : Fin 2)).isLt; omega⟩)

/-- What a point's opening leaves in the result's rows and in the scratch. -/
def Opens (i : grid0.Coords) (v1 : BitVec 32) (x : Vec F S1280x1024 .i32) (bd : Vec F S1x1x2048 .f32) (o : Vec F S1280x2048 .f32)
    (s : Vec F S1280x2048 .bf16) (o1 : Vec F S1280x2048 .f32) (s1 : Vec F S1280x2048 .bf16) : Prop :=
  (k0_cond2 i = 1#1 → s1 = unpacked v1 x ∧ o1 = k0_pay55 bd) ∧ (¬ k0_cond2 i = 1#1 → s1 = s ∧ o1 = o)
/-- A grid point past the first of its block. -/
def iLater : grid0.Coords := grid0.coords ⟨1, by decide⟩

theorem iLater_cond : ¬ k0_cond2 iLater = 1#1 := by decide +kernel

/-- The first point of a block: the words unpacked into the scratch, the result's rows at the bias. -/
def initP : Prog (TpuEff nD τ sig (Elt F) Λ₀ .tc) PUnit :=
  if k0_cond2 i = 1#1 then do
    let v60 : Vec F S1280x1024 .i32 ← Prog.lift (.load arg5 (Rect.unit (s := S1280x1024) ![0, 0] S1280x1024.size inb_S1280x1024_S1280x1024_0_0).toLoadRect (View.loadsAt_vmem h_S1280x1024))
    let _ : Vec F S1280x1024 .bf16 ← Prog.lift (.load arg13 (Rect.unit (s := S1280x2048) ![0, 0] S1280x1024.size inb_S1280x2048_S1280x1024_0_0).toLoadRect (View.loadsAt_vmem h_S1280x1024))
    Prog.lift (.store arg13 (Rect.unit (s := S1280x2048) ![0, 0] S1280x1024.size inb_S1280x2048_S1280x1024_0_0) (k0_pay53 v1 v60) Finset.univ (View.stores_vmem h_S1280x1024 (harg13.storeExact_slice rfl _ packedbf16_S1280x2048_S1280x1024_0_0) (fun _ => rfl)) (.inl rfl))
    let _ : Vec F S1280x1024 .bf16 ← Prog.lift (.load arg13 (Rect.unit (s := S1280x2048) ![0, 1024] S1280x1024.size inb_S1280x2048_S1280x1024_0_1024).toLoadRect (View.loadsAt_vmem h_S1280x1024))
    Prog.lift (.store arg13 (Rect.unit (s := S1280x2048) ![0, 1024] S1280x1024.size inb_S1280x2048_S1280x1024_0_1024) (k0_pay54 v1 v60) Finset.univ (View.stores_vmem h_S1280x1024 (harg13.storeExact_slice rfl _ packedbf16_S1280x2048_S1280x1024_0_1024) (fun _ => rfl)) (.inl rfl))
    let v83 : Vec F S1x1x2048 .f32 ← Prog.lift (.load arg11 (Rect.unit (s := S1x1x2048) ![0, 0, 0] S1x1x2048.size inb_S1x1x2048_S1x1x2048_0_0_0).toLoadRect (View.loadsAt_vmem h_S1x1x2048))
    let _ : Vec F S1280x2048 .f32 ← Prog.lift (.load arg12 (Rect.unit (s := S1280x2048) ![0, 0] S1280x2048.size inb_S1280x2048_S1280x2048_0_0).toLoadRect (View.loadsAt_vmem h_S1280x2048))
    Prog.lift (.store arg12 (Rect.unit (s := S1280x2048) ![0, 0] S1280x2048.size inb_S1280x2048_S1280x2048_0_0) (k0_pay55 v83) Finset.univ (View.stores_vmem_bits_univ h_S1280x2048 rfl) (.inl rfl))
    pure ⟨⟩
  else pure ⟨⟩

/-- The first part of a point is its opening followed by the part of a later point. -/
theorem part18_eq :
    k0_part18 (F := F) i arg2 harg2 arg3 harg3 arg4 harg4 arg5 harg5 arg6 harg6 arg7 harg7 arg8 harg8 arg9 harg9 arg10 harg10 arg11 harg11 arg12 harg12 arg13 harg13 (BitVec.ofNat 32 (i 1).val) v1
      = initP i arg5 arg11 arg12 arg13 harg13 v1 >>= fun _ =>
        k0_part18 (F := F) iLater arg2 harg2 arg3 harg3 arg4 harg4 arg5 harg5 arg6 harg6 arg7 harg7 arg8 harg8 arg9 harg9 arg10 harg10 arg11 harg11 arg12 harg12 arg13 harg13 (BitVec.ofNat 32 (iLater 1).val) v1 := by
  rw [k0_part18_eq_skeleton]
  unfold initP
  by_cases h : k0_cond2 i = 1#1
  · rw [if_pos h]
    unfold k0_part18_skel
    rw [dif_pos h, dif_neg iLater_cond]
    rfl
  · rw [if_neg h]
    unfold k0_part18_skel
    rw [dif_neg h, dif_neg iLater_cond]
    rfl

/-- What the opening leaves. -/
theorem initP_wp (K : PUnit → sProp 𝕄) :
    (iprop(held c arg5 arg6 arg7 arg8 arg9 arg10 arg11 arg12 arg13 f5 f6 f7 f8 f9 f10 f11 f12 f13
        ∗ ∀ o1 s1, held c arg5 arg6 arg7 arg8 arg9 arg10 arg11 arg12 arg13 f5 f6 f7 f8 f9 f10 f11 o1 s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝ -∗ K ⟨⟩) : sProp 𝕄)
      ⊢ wp frame (wpE (defs₀ (F := F)) Variants.none (c : Thread nD τ) none) Set.univ (initP i arg5 arg11 arg12 arg13 harg13 v1) K := by
  unfold initP held
  iintro ⟨⟨H5, H6, H7, H8, H9, H10, H11, H12, H13⟩, Hk⟩
  by_cases h : k0_cond2 i = 1#1
  · rw [if_pos h]
    sl_exec
    rw [wp_ret]
    imodintro
    iapply Hk $$ [H5 H6 H7 H8 H9 H10 H11 H12 H13] []
    · isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · ipureintro
      refine ⟨fun _ => ⟨?_, ?_⟩, fun h' => absurd h h'⟩
      · funext y
        have h2 : (y (1 : Fin 2)).val < 2048 := (y (1 : Fin 2)).isLt
        unfold unpacked
        rw [View.readAt_full]
        by_cases hy : (y (1 : Fin 2)).val < 1024
        · rw [dif_pos hy]
          refine (View.read_writes_cons_unit_of_not_mem _ _ _ _ _ y rfl (1 : Fin 2) (.inl hy)).trans ?_
          refine View.read_writes_cons_unit_of_mem _ _ _ _ _ y (ValueIdx.ix2 (y (0 : Fin 2)) ⟨(y (1 : Fin 2)).val, hy⟩) rfl ?_
          exact Fin.forall_fin_two.mpr ⟨(Nat.zero_add _).symm, (Nat.zero_add _).symm⟩
        · rw [dif_neg hy]
          refine View.read_writes_cons_unit_of_mem _ _ _ _ _ y (ValueIdx.ix2 (y (0 : Fin 2)) ⟨(y (1 : Fin 2)).val - 1024, by omega⟩) rfl ?_
          exact Fin.forall_fin_two.mpr ⟨(Nat.zero_add _).symm, (by show (y (1 : Fin 2)).val = 1024 + ((y (1 : Fin 2)).val - 1024); omega)⟩
      · refine (View.read_writes_full _ _ _ _ _).trans ?_
        rw [View.readAt_full]
  · rw [if_neg h, wp_pure]
    imodintro
    iapply Hk $$ [H5 H6 H7 H8 H9 H10 H11 H12 H13] []
    · isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · ipureintro
      exact ⟨fun h' => absurd h' h, fun _ => ⟨rfl, rfl⟩⟩

end Cert.Kernel2Ideal.Experts

end
-- ==== Proof.ExpertsTilesA.lean ====
/-
  One grid point of the experts' call, for each count of 128-row tiles its block fills.
-/
module

public import proofs.«01_k».proof.Proof.Gen.Kernel2Ideal.Launch
public import proofs.«01_k».proof.Proof.Gen.Kernel2Ideal.Skeleton
public import proofs.«01_k».proof.Proof.ExpertsOpen
public import Idealize.ShloMosaic.Lib.Pipeline.FrameBody
public import Idealize.ShloMosaic.Lib.VecWindow
public import Idealize.ShloMosaic.Lib.ValueIdx
public import Idealize.ShloMosaic.Lib.Exec
public import Idealize.ShloMosaic.Lib.Tactic

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S83 .i32) (harg2 : arg2.IsWhole) (arg3 : Memref sig .tc .smem S83 .i32) (harg3 : arg3.IsWhole) (arg4 : Memref sig .tc .smem S83 .i32) (harg4 : arg4.IsWhole) (arg5 : Memref sig .tc .vmem S1280x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x2048 .f32) (harg10 : arg10.IsWhole) (arg11 : Memref sig .tc .vmem S1x1x2048 .f32) (harg11 : arg11.IsWhole) (arg12 : Memref sig .tc .vmem S1280x2048 .f32) (harg12 : arg12.IsWhole) (arg13 : Memref sig .tc .vmem S1280x2048 .bf16) (harg13 : arg13.IsWhole)
  (v1 : BitVec 32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The point whose block fills one of the 128-row tiles. -/
theorem point1 (h1 : k0_cond1 v1 = 1#1) (h3 : k0_cond3 v1 = 1#1) (h4 : ¬ k0_cond4 v1 = 1#1) (h5 : ¬ k0_cond5 v1 = 1#1) (h6 : ¬ k0_cond6 v1 = 1#1) (h7 : ¬ k0_cond7 v1 = 1#1) (h8 : ¬ k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 1⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part1_eq_skeleton]
  unfold k0_part1_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact (win_hit _ _ _ _ _ _ _).trans rfl

/-- The point whose block fills two of the 128-row tiles. -/
theorem point2 (h1 : k0_cond1 v1 = 1#1) (h3 : ¬ k0_cond3 v1 = 1#1) (h4 : k0_cond4 v1 = 1#1) (h5 : ¬ k0_cond5 v1 = 1#1) (h6 : ¬ k0_cond6 v1 = 1#1) (h7 : ¬ k0_cond7 v1 = 1#1) (h8 : ¬ k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 2⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part2_eq_skeleton]
  unfold k0_part2_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact (win_hit _ _ _ _ _ _ _).trans rfl

/-- The point whose block fills three of the 128-row tiles. -/
theorem point3 (h1 : k0_cond1 v1 = 1#1) (h3 : ¬ k0_cond3 v1 = 1#1) (h4 : ¬ k0_cond4 v1 = 1#1) (h5 : k0_cond5 v1 = 1#1) (h6 : ¬ k0_cond6 v1 = 1#1) (h7 : ¬ k0_cond7 v1 = 1#1) (h8 : ¬ k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 3⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part3_eq_skeleton, k0_part4_eq_skeleton]
  unfold k0_part3_skel k0_part4_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans (win_hit _ _ _ _ _ _ _)).trans rfl, (win_hit _ _ _ _ _ _ _).trans rfl⟩

/-- The point whose block fills four of the 128-row tiles. -/
theorem point4 (h1 : k0_cond1 v1 = 1#1) (h3 : ¬ k0_cond3 v1 = 1#1) (h4 : ¬ k0_cond4 v1 = 1#1) (h5 : ¬ k0_cond5 v1 = 1#1) (h6 : k0_cond6 v1 = 1#1) (h7 : ¬ k0_cond7 v1 = 1#1) (h8 : ¬ k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 4⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part5_eq_skeleton]
  unfold k0_part5_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact (win_hit _ _ _ _ _ _ _).trans rfl

/-- The point whose block fills five of the 128-row tiles. -/
theorem point5 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : k0_cond7 v1 = 1#1) (h8 : ¬ k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 5⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part6_eq_skeleton, k0_part7_eq_skeleton]
  unfold k0_part6_skel k0_part7_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans (win_hit _ _ _ _ _ _ _)).trans rfl, (win_hit _ _ _ _ _ _ _).trans rfl⟩

/-- The point whose block fills six of the 128-row tiles. -/
theorem point6 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : ¬ k0_cond7 v1 = 1#1) (h8 : k0_cond8 v1 = 1#1) (h9 : ¬ k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 6⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part8_eq_skeleton, k0_part9_eq_skeleton]
  unfold k0_part8_skel k0_part9_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans (win_hit _ _ _ _ _ _ _)).trans rfl, (win_hit _ _ _ _ _ _ _).trans rfl⟩

end Cert.Kernel2Ideal.Experts

end
-- ==== Proof.ExpertsTilesB.lean ====
/-
  One grid point of the experts' call, for each count of 128-row tiles its block fills.
-/
module

public import proofs.«01_k».proof.Proof.Gen.Kernel2Ideal.Launch
public import proofs.«01_k».proof.Proof.Gen.Kernel2Ideal.Skeleton
public import proofs.«01_k».proof.Proof.ExpertsOpen
public import Idealize.ShloMosaic.Lib.Pipeline.FrameBody
public import Idealize.ShloMosaic.Lib.VecWindow
public import Idealize.ShloMosaic.Lib.ValueIdx
public import Idealize.ShloMosaic.Lib.Exec
public import Idealize.ShloMosaic.Lib.Tactic

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S83 .i32) (harg2 : arg2.IsWhole) (arg3 : Memref sig .tc .smem S83 .i32) (harg3 : arg3.IsWhole) (arg4 : Memref sig .tc .smem S83 .i32) (harg4 : arg4.IsWhole) (arg5 : Memref sig .tc .vmem S1280x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x2048 .f32) (harg10 : arg10.IsWhole) (arg11 : Memref sig .tc .vmem S1x1x2048 .f32) (harg11 : arg11.IsWhole) (arg12 : Memref sig .tc .vmem S1280x2048 .f32) (harg12 : arg12.IsWhole) (arg13 : Memref sig .tc .vmem S1280x2048 .bf16) (harg13 : arg13.IsWhole)
  (v1 : BitVec 32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The point whose block fills seven of the 128-row tiles. -/
theorem point7 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : ¬ k0_cond7 v1 = 1#1) (h8 : ¬ k0_cond8 v1 = 1#1) (h9 : k0_cond9 v1 = 1#1) (h10 : ¬ k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 7⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part10_eq_skeleton, k0_part11_eq_skeleton]
  unfold k0_part10_skel k0_part11_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans ((win_miss _ _ _ _ _ _ _ _ _ (by decide) _).trans (win_hit _ _ _ _ _ _ _))).trans rfl, ((win_miss _ _ _ _ _ _ _ _ _ (by decide) _).trans (win_hit _ _ _ _ _ _ _)).trans rfl, (win_hit _ _ _ _ _ _ _).trans rfl⟩

/-- The point whose block fills eight of the 128-row tiles. -/
theorem point8 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : ¬ k0_cond7 v1 = 1#1) (h8 : ¬ k0_cond8 v1 = 1#1) (h9 : ¬ k0_cond9 v1 = 1#1) (h10 : k0_cond10 v1 = 1#1) (h11 : ¬ k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 8⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part12_eq_skeleton, k0_part13_eq_skeleton]
  unfold k0_part12_skel k0_part13_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans (win_hit _ _ _ _ _ _ _)).trans rfl, (win_hit _ _ _ _ _ _ _).trans rfl⟩

/-- The point whose block fills nine of the 128-row tiles. -/
theorem point9 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : ¬ k0_cond7 v1 = 1#1) (h8 : ¬ k0_cond8 v1 = 1#1) (h9 : ¬ k0_cond9 v1 = 1#1) (h10 : ¬ k0_cond10 v1 = 1#1) (h11 : k0_cond11 v1 = 1#1) (h12 : ¬ k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 9⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part14_eq_skeleton, k0_part15_eq_skeleton]
  unfold k0_part14_skel k0_part15_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans ((win_miss _ _ _ _ _ _ _ _ _ (by decide) _).trans (win_hit _ _ _ _ _ _ _))).trans rfl, ((win_miss _ _ _ _ _ _ _ _ _ (by decide) _).trans (win_hit _ _ _ _ _ _ _)).trans rfl, (win_hit _ _ _ _ _ _ _).trans rfl⟩

/-- The point whose block fills ten of the 128-row tiles. -/
theorem point10 (h1 : k0_cond1 v1 = 1#1) (h3 : ¬ k0_cond3 v1 = 1#1) (h4 : ¬ k0_cond4 v1 = 1#1) (h5 : ¬ k0_cond5 v1 = 1#1) (h6 : ¬ k0_cond6 v1 = 1#1) (h7 : ¬ k0_cond7 v1 = 1#1) (h8 : ¬ k0_cond8 v1 = 1#1) (h9 : ¬ k0_cond9 v1 = 1#1) (h10 : ¬ k0_cond10 v1 = 1#1) (h11 : ¬ k0_cond11 v1 = 1#1) (h12 : k0_cond12 v1 = 1#1)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ o1 s1 o', (arg3.view.loc (c : Thread nD τ) ↦[arg3.view.set]{q} f3) -∗ held c arg5 arg6 arg7 arg8 arg9 arg10 arg11 arg12 arg13 f5 f6 f7 f8 f9 f10 f11 o' s1
            -∗ ⌜Opens i v1 (arg5.view.read (Elt F) f5) (arg11.view.read (Elt F) f11) (arg12.view.read (Elt F) f12) (arg13.view.read (Elt F) f13)
              (arg12.view.read (Elt F) o1) (arg13.view.read (Elt F) s1)⌝
            -∗ ⌜Tiles (View.readAt (Elt F) arg6.view (Rect.unit (s := S1x2048x256) ![0, 0, 0] S1x2048x256.size inb_S1x2048x256_S1x2048x256_0_0_0).toLoadRect f6) (View.readAt (Elt F) arg7.view (Rect.unit (s := S1x2048x256) ![0, 0, 0] S1x2048x256.size inb_S1x2048x256_S1x2048x256_0_0_0).toLoadRect f7) (View.readAt (Elt F) arg10.view (Rect.unit (s := S1x256x2048) ![0, 0, 0] S1x256x2048.size inb_S1x256x2048_S1x256x2048_0_0_0).toLoadRect f10) (View.readAt (Elt F) arg8.view (Rect.unit (s := S1x1x256) ![0, 0, 0] S1x1x256.size inb_S1x1x256_S1x1x256_0_0_0).toLoadRect f8) (View.readAt (Elt F) arg9.view (Rect.unit (s := S1x1x256) ![0, 0, 0] S1x1x256.size inb_S1x1x256_S1x1x256_0_0_0).toLoadRect f9)
                (arg13.view.read (Elt F) s1) (arg12.view.read (Elt F) o1) (arg12.view.read (Elt F) o') 10⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  rw [cc0_moe_experts_eq_skeleton]
  unfold cc0_moe_experts_skel smemLoad
  iintro ⟨H3, Hh, Hk⟩
  rw [wp_bind]
  iapply (wp_smemLoadElt_named Variants.none (c : Thread nD τ) none Set.univ (m := arg3) (r := Rect.unit (s := S83) (k0_off1 i) S1.size (k0_off1_inb i))
    (x := Shape.Idx.first (numel1_S1.symm ▸ Nat.one_pos)) (S := arg3.view.set) (q := q) (f := f3) (View.set_slice_subset _ _)) $$ H3
  iintro H3 %w %hw
  rw [hv] at hw
  subst hw
  rw [wp_ret]
  imodintro
  rw [dif_pos h1, part18_eq]
  rw [wp_bind, wp_bind]
  iapply (initP_wp _ _ _ _ _ _ _ _ _ _ _ _ _ _ _ _ _ _ _ _ _ _ _) $$ [$Hh H3 Hk]
  iintro %o1 %s1 Hh %hop
  rw [← wp_bind]
  have h2 := iLater_cond
  unfold held
  icases Hh with ⟨H5, H6, H7, H8, H9, H10, H11, H12, H13⟩
  rw [k0_part18_eq_skeleton]
  unfold k0_part18_skel
  rw [k0_part16_eq_skeleton, k0_part17_eq_skeleton]
  unfold k0_part16_skel k0_part17_skel
  sl_exec
  rw [wp_ret]
  imodintro
  iapply Hk $$ H3 [H5 H6 H7 H8 H9 H10 H11 H12 H13] [] []
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · ipureintro
    exact hop
  · ipureintro
    exact ⟨((win_miss _ _ _ _ _ _ _ _ _ (by decide) _).trans ((win_miss _ _ _ _ _ _ _ _ _ (by decide) _).trans (win_hit _ _ _ _ _ _ _))).trans rfl, ((win_miss _ _ _ _ _ _ _ _ _ (by decide) _).trans (win_hit _ _ _ _ _ _ _)).trans rfl, (win_hit _ _ _ _ _ _ _).trans rfl⟩

end Cert.Kernel2Ideal.Experts

end
-- ==== Proof.ExpertsPoint.lean ====
/-
  One grid point of the experts' call, whatever rows its block has.
-/
module

public import proofs.«01_k».proof.Proof.Gen.Kernel2Ideal.Launch
public import proofs.«01_k».proof.Proof.Gen.Kernel2Ideal.Skeleton
public import proofs.«01_k».proof.Proof.ExpertsTilesA
public import proofs.«01_k».proof.Proof.ExpertsTilesB
public import Idealize.ShloMosaic.Lib.Pipeline.FrameBody
public import Idealize.ShloMosaic.Lib.VecWindow
public import Idealize.ShloMosaic.Lib.ValueIdx
public import Idealize.ShloMosaic.Lib.Exec
public import Idealize.ShloMosaic.Lib.Tactic

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg2 : Memref sig .tc .smem S83 .i32) (harg2 : arg2.IsWhole) (arg3 : Memref sig .tc .smem S83 .i32) (harg3 : arg3.IsWhole) (arg4 : Memref sig .tc .smem S83 .i32) (harg4 : arg4.IsWhole) (arg5 : Memref sig .tc .vmem S1280x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x2048 .f32) (harg10 : arg10.IsWhole) (arg11 : Memref sig .tc .vmem S1x1x2048 .f32) (harg11 : arg11.IsWhole) (arg12 : Memref sig .tc .vmem S1280x2048 .f32) (harg12 : arg12.IsWhole) (arg13 : Memref sig .tc .vmem S1280x2048 .bf16) (harg13 : arg13.IsWhole)
  (v1 : BitVec 32)
  (f5 : Buf (Elt F) (arg5.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- Which count of tiles a block's rows fill, as the kernel tests it. -/
theorem conds : ∀ v : Fin 1281, 0 < v.val → (k0_cond3 (BitVec.ofNat 32 v.val) = 1#1 ↔ (v.val + 127) / 128 = 1) ∧ (k0_cond4 (BitVec.ofNat 32 v.val) = 1#1 ↔ (v.val + 127) / 128 = 2) ∧ (k0_cond5 (BitVec.ofNat 32 v.val) = 1#1 ↔ (v.val + 127) / 128 = 3) ∧ (k0_cond6 (BitVec.ofNat 32 v.val) = 1#1 ↔ (v.val + 127) / 128 = 4) ∧ (k0_cond7 (BitVec.ofNat 32 v.val) = 1#1 ↔ (v.val + 127) / 128 = 5) ∧ (k0_cond8 (BitVec.ofNat 32 v.val) = 1#1 ↔ (v.val + 127) / 128 = 6) ∧ (k0_cond9 (BitVec.ofNat 32 v.val) = 1#1 ↔ (v.val + 127) / 128 = 7) ∧ (k0_cond10 (BitVec.ofNat 32 v.val) = 1#1 ↔ (v.val + 127) / 128 = 8) ∧ (k0_cond11 (BitVec.ofNat 32 v.val) = 1#1 ↔ (v.val + 127) / 128 = 9) ∧ (k0_cond12 (BitVec.ofNat 32 v.val) = 1#1 ↔ (v.val + 127) / 128 = 10) := by decide +kernel

/-- A word not above 0 is no block's rows. -/
theorem cond1_iff (v : BitVec 32) : k0_cond1 v = 1#1 ↔ 0 < v.toInt := by
  unfold k0_cond1
  by_cases h : 0 < v.toInt
  · have hs : Scalar.cmpi .sgt v 0#32 = 1#1 := by
      show BitVec.ofBool _ = _
      simp [BitVec.slt, h]
    simp only [hs]
    exact ⟨fun _ => h, fun _ => by decide⟩
  · have hs : Scalar.cmpi .sgt v 0#32 = 0#1 := by
      show BitVec.ofBool _ = _
      simp [BitVec.slt, h]
    simp only [hs]
    exact ⟨fun h' => absurd h' (by decide), fun h' => absurd h' h⟩

/-- What a point leaves in the result's rows and in the scratch. -/
def Step (i : grid0.Coords) (v1 : BitVec 32) (x : Vec F S1280x1024 .i32) (wg wu : Vec F S1x2048x256 .f32) (wd : Vec F S1x256x2048 .f32)
    (bg bu : Vec F S1x1x256 .f32) (bd : Vec F S1x1x2048 .f32) (o : Vec F S1280x2048 .f32) (s : Vec F S1280x2048 .bf16)
    (o' : Vec F S1280x2048 .f32) (s' : Vec F S1280x2048 .bf16) : Prop :=
  (¬ k0_cond1 v1 = 1#1 → o' = o ∧ s' = s)
  ∧ (k0_cond1 v1 = 1#1 → ∃ o1, Opens i v1 x bd o s o1 s' ∧ Tiles wg wu wd bg bu s' o1 o' ((v1.toNat + 127) / 128))

/-- A grid point, whatever rows its block has up to 1280. -/
theorem point (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (hle : v1.toInt ≤ 1280) (K : PUnit → sProp 𝕄) :
    (iprop((arg3.view.loc (c : Thread nD τ) ↦[arg3.view.set]{q} f3) ∗ held c arg5 arg6 arg7 arg8 arg9 arg10 arg11 arg12 arg13 f5 f6 f7 f8 f9 f10 f11 f12 f13
        ∗ ∀ s' o', (arg3.view.loc (c : Thread nD τ) ↦[arg3.view.set]{q} f3) -∗ held c arg5 arg6 arg7 arg8 arg9 arg10 arg11 arg12 arg13 f5 f6 f7 f8 f9 f10 f11 o' s'
            -∗ ⌜Step i v1 (arg5.view.read (Elt F) f5) (arg6.view.read (Elt F) f6) (arg7.view.read (Elt F) f7) (arg10.view.read (Elt F) f10) (arg8.view.read (Elt F) f8) (arg9.view.read (Elt F) f9) (arg11.view.read (Elt F) f11) (arg12.view.read (Elt F) f12) (arg13.view.read (Elt F) f13)
                (arg12.view.read (Elt F) o') (arg13.view.read (Elt F) s')⌝ -∗ K ⟨⟩) : sProp 𝕄)
      ⊢ wp frame (wpE (defs₀ (F := F)) Variants.none (c : Thread nD τ) none) Set.univ
          (cc0_moe_experts i arg2 harg2 arg3 harg3 arg4 harg4 arg5 harg5 arg6 harg6 arg7 harg7 arg8 harg8 arg9 harg9 arg10 harg10 arg11 harg11 arg12 harg12 arg13 harg13) K := by
  by_cases h1 : k0_cond1 v1 = 1#1
  swap
  · rw [cc0_moe_experts_eq_skeleton]
    unfold cc0_moe_experts_skel smemLoad
    iintro ⟨H3, Hh, Hk⟩
    rw [wp_bind]
    iapply (wp_smemLoadElt_named Variants.none (c : Thread nD τ) none Set.univ (m := arg3) (r := Rect.unit (s := S83) (k0_off1 i) S1.size (k0_off1_inb i))
      (x := Shape.Idx.first (numel1_S1.symm ▸ Nat.one_pos)) (S := arg3.view.set) (q := q) (f := f3) (View.set_slice_subset _ _)) $$ H3
    iintro H3 %w %hw
    rw [hv] at hw
    subst hw
    rw [wp_ret]
    imodintro
    rw [dif_neg h1, wp_pure]
    imodintro
    iapply Hk $$ H3 Hh []
    ipureintro
    exact ⟨fun _ => ⟨rfl, rfl⟩, fun h => absurd h h1⟩
  have hpos := (cond1_iff v1).mp h1
  have hnat : v1.toInt = (v1.toNat : ℤ) := by
    rw [BitVec.toInt_eq_toNat_cond] at hpos ⊢
    split at hpos
    · rename_i h; rw [if_pos h]
    · have := v1.isLt; omega
  have hb : v1.toNat < 1281 := by omega
  have hp : 0 < v1.toNat := by omega
  have hof : BitVec.ofNat 32 v1.toNat = v1 := by simp
  have hc := conds ⟨v1.toNat, hb⟩ hp
  simp only [hof] at hc
  obtain ⟨e3, e4, e5, e6, e7, e8, e9, e10, e11, e12⟩ := hc
  have hn1 : 1 ≤ (v1.toNat + 127) / 128 := by omega
  have hn2 : (v1.toNat + 127) / 128 ≤ 10 := by omega
  have r6 := View.readAt_full arg6.view f6 inb_S1x2048x256_S1x2048x256_0_0_0
  have r7 := View.readAt_full arg7.view f7 inb_S1x2048x256_S1x2048x256_0_0_0
  have r8 := View.readAt_full arg8.view f8 inb_S1x1x256_S1x1x256_0_0_0
  have r9 := View.readAt_full arg9.view f9 inb_S1x1x256_S1x1x256_0_0_0
  have r10 := View.readAt_full arg10.view f10 inb_S1x256x2048_S1x256x2048_0_0_0
  obtain hn | hn | hn | hn | hn | hn | hn | hn | hn | hn : (v1.toNat + 127) / 128 = 1 ∨ (v1.toNat + 127) / 128 = 2 ∨ (v1.toNat + 127) / 128 = 3 ∨ (v1.toNat + 127) / 128 = 4 ∨ (v1.toNat + 127) / 128 = 5 ∨ (v1.toNat + 127) / 128 = 6 ∨ (v1.toNat + 127) / 128 = 7 ∨ (v1.toNat + 127) / 128 = 8 ∨ (v1.toNat + 127) / 128 = 9 ∨ (v1.toNat + 127) / 128 = 10 := by omega

  · refine (sep_mono_right (sep_mono_right ?_)).trans (point1 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (e3.mpr hn) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point2 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (e4.mpr hn) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point3 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (e5.mpr hn) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point4 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (e6.mpr hn) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point5 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (e7.mpr hn) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point6 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (e8.mpr hn) (fun h => absurd ((e9.mp h).symm.trans hn) (by decide)) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point7 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (e9.mpr hn) (fun h => absurd ((e10.mp h).symm.trans hn) (by decide)) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point8 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (e10.mpr hn) (fun h => absurd ((e11.mp h).symm.trans hn) (by decide)) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point9 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (e11.mpr hn) (fun h => absurd ((e12.mp h).symm.trans hn) (by decide)) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht
  · refine (sep_mono_right (sep_mono_right ?_)).trans (point10 c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 h1 (fun h => absurd ((e3.mp h).symm.trans hn) (by decide)) (fun h => absurd ((e4.mp h).symm.trans hn) (by decide)) (fun h => absurd ((e5.mp h).symm.trans hn) (by decide)) (fun h => absurd ((e6.mp h).symm.trans hn) (by decide)) (fun h => absurd ((e7.mp h).symm.trans hn) (by decide)) (fun h => absurd ((e8.mp h).symm.trans hn) (by decide)) (fun h => absurd ((e9.mp h).symm.trans hn) (by decide)) (fun h => absurd ((e10.mp h).symm.trans hn) (by decide)) (fun h => absurd ((e11.mp h).symm.trans hn) (by decide)) (e12.mpr hn) q f3 hv K)
    iintro Hk %o1 %s1 %o' H3 Hh %hop %ht
    iapply Hk $$ %s1 %o' H3 Hh []
    ipureintro
    rw [r6, r7, r10, r8, r9] at ht
    refine ⟨fun h => absurd h1 h, fun _ => ⟨_, hop, ?_⟩⟩
    rw [hn]
    exact ht

end Cert.Kernel2Ideal.Experts

end
-- ==== Proof.ExpertsOwns.lean ====
/-
  One grid point of the experts' call, over what its windows hold.
-/
module

public import proofs.«01_k».proof.Proof.ExpertsPoint
public import Idealize.ShloMosaic.Lib.Pipeline.Frame

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

/-- One grid point, over its windows' contents. -/
theorem point_owns (c : Dev nD) (i : grid0.Coords) (arg2 : Memref sig .tc .smem S83 .i32) (harg2 : arg2.IsWhole) (arg3 : Memref sig .tc .smem S83 .i32) (harg3 : arg3.IsWhole) (arg4 : Memref sig .tc .smem S83 .i32) (harg4 : arg4.IsWhole) (arg5 : Memref sig .tc .vmem S1280x1024 .i32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x256x2048 .f32) (harg10 : arg10.IsWhole) (arg11 : Memref sig .tc .vmem S1x1x2048 .f32) (harg11 : arg11.IsWhole) (arg12 : Memref sig .tc .vmem S1280x2048 .f32) (harg12 : arg12.IsWhole) (arg13 : Memref sig .tc .vmem S1280x2048 .bf16) (harg13 : arg13.IsWhole) (v1 : BitVec 32)
    (x : S1280x1024.Idx → Elt F .i32) (wg : S1x2048x256.Idx → Elt F .f32) (wu : S1x2048x256.Idx → Elt F .f32) (bg : S1x1x256.Idx → Elt F .f32) (bu : S1x1x256.Idx → Elt F .f32) (wd : S1x256x2048.Idx → Elt F .f32) (bd : S1x1x2048.Idx → Elt F .f32) (o : S1280x2048.Idx → Elt F .f32) (s : S1280x2048.Idx → Elt F .bf16)
    (q : PosShare TreeShare) (f3 : Buf (Elt F) (arg3.view.loc (c : Thread nD τ)))
    (hv : (arg3.access (Rect.unit (s := S83) (k0_off1 i) S1.size (k0_off1_inb i))).read (Elt F) f3 (Shape.Idx.first (numel1_S1.symm ▸ Nat.one_pos)) = v1)
    (hle : v1.toInt ≤ 1280) :
    (iprop((arg3.view.loc (c : Thread nD τ) ↦[arg3.view.set]{q} f3) ∗ owns (c : Thread nD τ) arg5 fullShare x ∗ owns (c : Thread nD τ) arg6 fullShare wg ∗ owns (c : Thread nD τ) arg7 fullShare wu ∗ owns (c : Thread nD τ) arg8 fullShare bg ∗ owns (c : Thread nD τ) arg9 fullShare bu ∗ owns (c : Thread nD τ) arg10 fullShare wd ∗ owns (c : Thread nD τ) arg11 fullShare bd ∗ owns (c : Thread nD τ) arg12 fullShare o ∗ owns (c : Thread nD τ) arg13 fullShare s) : sProp 𝕄)
      ⊢ wp frame (wpE (defs₀ (F := F)) Variants.none (c : Thread nD τ) none) Set.univ (cc0_moe_experts i arg2 harg2 arg3 harg3 arg4 harg4 arg5 harg5 arg6 harg6 arg7 harg7 arg8 harg8 arg9 harg9 arg10 harg10 arg11 harg11 arg12 harg12 arg13 harg13) fun _ =>
        iprop((arg3.view.loc (c : Thread nD τ) ↦[arg3.view.set]{q} f3) ∗ owns (c : Thread nD τ) arg5 fullShare x ∗ owns (c : Thread nD τ) arg6 fullShare wg ∗ owns (c : Thread nD τ) arg7 fullShare wu ∗ owns (c : Thread nD τ) arg8 fullShare bg ∗ owns (c : Thread nD τ) arg9 fullShare bu ∗ owns (c : Thread nD τ) arg10 fullShare wd ∗ owns (c : Thread nD τ) arg11 fullShare bd
          ∗ ∃ o' s', ⌜Step i v1 x wg wu wd bg bu bd o s o' s'⌝ ∗ owns (c : Thread nD τ) arg12 fullShare o' ∗ owns (c : Thread nD τ) arg13 fullShare s') := by
  unfold owns
  iintro ⟨H3, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩⟩
  iapply (point c i arg2 harg2 arg3 harg3 arg4 harg4 arg5 harg5 arg6 harg6 arg7 harg7 arg8 harg8 arg9 harg9 arg10 harg10 arg11 harg11 arg12 harg12 arg13 harg13 v1 f5 f6 f7 f8 f9 f10 f11 f12 f13 q f3 hv hle)
  isplitl [H3]; · iexact H3
  isplitl [H5 H6 H7 H8 H9 H10 H11 H12 H13]
  · unfold held
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro %s' %o' H3 Hh %hs
  unfold held
  icases Hh with ⟨H5, H6, H7, H8, H9, H10, H11, H12, H13⟩
  isplitl [H3]; · iexact H3
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  iexists (arg12.view.read (Elt F) o'), (arg13.view.read (Elt F) s')
  isplitr
  · ipureintro
    rw [e5, e6, e7, e8, e9, e10, e11, e12, e13] at hs
    exact hs
  isplitl [H12]
  · iexists o'; isplitr; · ipureintro; rfl
    iexact H12
  iexists s'; isplitr; · ipureintro; rfl
  iexact H13

end Cert.Kernel2Ideal.Experts
-- ==== Proof.ExpertsRun.lean ====
/-
  The experts' call, run: whatever is kept of its output block and of its scratch by every grid point holds of what its result
  ends with, the other buffers unchanged and every counter at zero.
-/
module

public import proofs.«01_k».proof.Proof.ExpertsTables
public import proofs.«01_k».proof.Proof.ExpertsOwns
public import Idealize.ShloMosaic.Lib.StableHlo.RunRead
public import Idealize.ShloMosaic.Lib.Pipeline.Frame

@[expose] public section

set_option maxRecDepth 65536

noncomputable section

namespace Cert.Kernel2Ideal.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer as the call finds it. -/
abbrev V (c : Dev nD) (b : Ref sig .tc) : Buf (Elt F) ((c : Thread nD τ).loc b) := StableHlo.after (hostOps0 (F := F)) (fun b => m (c, b)) b

theorem V_unwritten (c : Dev nD) (b : Ref sig .tc) (h : b ∉ [main_v0, main_v1]) : V m c b = m ((c : Thread nD τ).loc b) :=
  StableHlo.after_of_writes_sub (W := [main_v0, main_v1]) hostOps0 _ ⟨by simp, by simp⟩ h
theorem V_v0 (c : Dev nD) : V m c main_v0 = broadcastInDim S32x1x4096 ![0, 2] bcast_S32x4096_S32x1x4096_0_2 (m ((c : Thread nD τ).loc main_arg5) : S32x4096.Idx → Elt F .f32) := by
  refine (StableHlo.after_last_write (i := 0) (ops := hostOps0 (F := F)) [main_v1] (r := main_v0) rfl rfl (by decide) _).trans ?_
  rw [StableHlo.unary_result']
  rfl
theorem V_v1 (c : Dev nD) : V m c main_v1 = broadcastInDim S32x1x2048 ![0, 2] bcast_S32x2048_S32x1x2048_0_2 (m ((c : Thread nD τ).loc main_arg7) : S32x2048.Idx → Elt F .f32) := by
  refine (StableHlo.after_last_write (i := 1) (ops := hostOps0 (F := F)) [] (r := main_v1) rfl rfl (by decide) _).trans ?_
  rw [StableHlo.unary_result']
  rfl

theorem hfresh : (hostOps0 : List (HloOp τ sig (Elt F))).Forall fun op => op.fresh = ∅ := ⟨rfl, rfl⟩

theorem hmain : Pipeline.HMainP (Ix := Unit) (Name := ℕ) (U := UR sig nD τ) (Lvl := ℕ) pcfgs 0 (defs₀ (F := F)) Variants.none m (main (F := F)) (V m) :=
  Pipeline.hmainP_prefix pcfgs 0 defs₀ Variants.none m main hostOps0 hostOps0_sub hfresh main_chain

/-- The work list as the call finds it. -/
def pf : pre0.Contents (Elt F) := fun k => V m 0 (pre0.ref k)

theorem pf0 : (pf m 0 : S83.Idx → BitVec 32) = m (((0 : Dev nD) : Thread nD τ).loc main_arg0) := V_unwritten m 0 main_arg0 (by decide)
theorem pf1 : (pf m 1 : S83.Idx → BitVec 32) = m (((0 : Dev nD) : Thread nD τ).loc main_arg1) := V_unwritten m 0 main_arg1 (by decide)
theorem pf2 : (pf m 2 : S83.Idx → BitVec 32) = m (((0 : Dev nD) : Thread nD τ).loc main_arg2) := V_unwritten m 0 main_arg2 (by decide)

variable (hL : ListOk (pf m 0) (pf m 1) (pf m 2))

def adm (_ : Fin 1) : (pcfgs (F := F) 0).Adm := ⟨pf m, ok0_of (pf m) hL⟩

abbrev cfg : Cfg sig Λ₀ := Pipeline.pin (pcfgs (F := F)) (fun p => match p with | 0 => adm m hL 0) 0

theorem cfg_N : (cfg m hL).N = 664 := N_0

/-- Window `w`'s block at point `t`, as the call finds its array. -/
def iblk (c : Dev nD) (w : Fin (cfg m hL).W) (t : Fin (cfg m hL).N) : (((cfg m hL).win w).xblock ((cfg m hL).grid.coords t)).Idx → Elt F ((cfg m hL).win w).elt :=
  (((cfg m hL).win w).blk t).view.read (Elt F) (V m c (Pipeline.arrRef spec0 w))

variable (L : Dev nD → ℕ → (S1280x2048.Idx → Elt F .f32) → Prop) (S : Dev nD → ℕ → (S1280x2048.Idx → Elt F .bf16) → Prop)

/-- The proof data: the inputs' blocks are left in place, the output's block is left at `L`, the scratch at `S`. -/
def rdat (c : Dev nD) : RDat τ (Elt F) Unit ℕ (UR sig nD τ) ℕ (cfg m hL) c where
  A w := V m c (Pipeline.arrRef spec0 w)
  after w t Y X := match w with
    | ⟨7, _⟩ => L c t.val X
    | _ => X = Y
  Φ t := iprop(Pipeline.ΦT pre0 (pf m) c ∗ (∃ r, prngReg (c : Dev nD) r)
    ∗ ∃ s : S1280x2048.Idx → Elt F .bf16, ⌜S c t.val s⌝ ∗ (((c : Thread nD τ).loc cc0_scratch0) ↦{fullShare} s))
  q w := Pipeline.shareOf spec0 w
  owed _ := 0

/-- The kernel body at point `t`, on what the pipeline calls it with. -/
abbrev bodyAt (t : Fin (cfg m hL).N) : Prog (TpuEff nD τ sig (Elt F) Λ₀ .tc) PUnit :=
  cc0_moe_experts (grid0.coords t) (Memref.whole main_arg0) (Memref.isWhole_whole _) (Memref.whole main_arg1) (Memref.isWhole_whole _) (Memref.whole main_arg2) (Memref.isWhole_whole _) (spec0_0.stage ((cfg m hL).slots t 0)) (hstage0_0 (((cfg m hL).slots t 0).cast nbuf0_0)) (spec0_1.stage ((cfg m hL).slots t 1)) (hstage0_1 (((cfg m hL).slots t 1).cast nbuf0_1)) (spec0_2.stage ((cfg m hL).slots t 2)) (hstage0_2 (((cfg m hL).slots t 2).cast nbuf0_2)) (spec0_3.stage ((cfg m hL).slots t 3)) (hstage0_3 (((cfg m hL).slots t 3).cast nbuf0_3)) (spec0_4.stage ((cfg m hL).slots t 4)) (hstage0_4 (((cfg m hL).slots t 4).cast nbuf0_4)) (spec0_5.stage ((cfg m hL).slots t 5)) (hstage0_5 (((cfg m hL).slots t 5).cast nbuf0_5)) (spec0_6.stage ((cfg m hL).slots t 6)) (hstage0_6 (((cfg m hL).slots t 6).cast nbuf0_6)) (spec0_7.stage ((cfg m hL).slots t 7)) (hstage0_7 (((cfg m hL).slots t 7).cast nbuf0_7)) (Memref.whole cc0_scratch0) (Memref.isWhole_whole _)

theorem defs₀_row (t : Fin (cfg m hL).N) : defs₀ (F := F) .tc (cfg m hL).body ((cfg m hL).bodyArgs t ((cfg m hL).slots t)) = bodyAt m hL t := by
  unfold defs₀
  rw [Defs.onTc_tc]

theorem found0 (c : Dev nD) (t : Fin (cfg m hL).N) (Y) (h : (rdat m hL L S c).Finds 0 t Y) : Y = iblk m hL c 0 t := by
  obtain ⟨d, h⟩ := (rdat m hL L S c).finds_in_eq_fetched 0 rfl (fun _ _ _ => rfl) (fun _ _ _ h => h) t Y h
  exact h.trans rfl
theorem found1 (c : Dev nD) (t : Fin (cfg m hL).N) (Y) (h : (rdat m hL L S c).Finds 1 t Y) : Y = iblk m hL c 1 t := by
  obtain ⟨d, h⟩ := (rdat m hL L S c).finds_in_eq_fetched 1 rfl (fun _ _ _ => rfl) (fun _ _ _ h => h) t Y h
  exact h.trans rfl
theorem found2 (c : Dev nD) (t : Fin (cfg m hL).N) (Y) (h : (rdat m hL L S c).Finds 2 t Y) : Y = iblk m hL c 2 t := by
  obtain ⟨d, h⟩ := (rdat m hL L S c).finds_in_eq_fetched 2 rfl (fun _ _ _ => rfl) (fun _ _ _ h => h) t Y h
  exact h.trans rfl
theorem found3 (c : Dev nD) (t : Fin (cfg m hL).N) (Y) (h : (rdat m hL L S c).Finds 3 t Y) : Y = iblk m hL c 3 t := by
  obtain ⟨d, h⟩ := (rdat m hL L S c).finds_in_eq_fetched 3 rfl (fun _ _ _ => rfl) (fun _ _ _ h => h) t Y h
  exact h.trans rfl
theorem found4 (c : Dev nD) (t : Fin (cfg m hL).N) (Y) (h : (rdat m hL L S c).Finds 4 t Y) : Y = iblk m hL c 4 t := by
  obtain ⟨d, h⟩ := (rdat m hL L S c).finds_in_eq_fetched 4 rfl (fun _ _ _ => rfl) (fun _ _ _ h => h) t Y h
  exact h.trans rfl
theorem found5 (c : Dev nD) (t : Fin (cfg m hL).N) (Y) (h : (rdat m hL L S c).Finds 5 t Y) : Y = iblk m hL c 5 t := by
  obtain ⟨d, h⟩ := (rdat m hL L S c).finds_in_eq_fetched 5 rfl (fun _ _ _ => rfl) (fun _ _ _ h => h) t Y h
  exact h.trans rfl
theorem found6 (c : Dev nD) (t : Fin (cfg m hL).N) (Y) (h : (rdat m hL L S c).Finds 6 t Y) : Y = iblk m hL c 6 t := by
  obtain ⟨d, h⟩ := (rdat m hL L S c).finds_in_eq_fetched 6 rfl (fun _ _ _ => rfl) (fun _ _ _ h => h) t Y h
  exact h.trans rfl

/-- What a point finds in the output's block, if the point before it was not its block's last: what that one left. -/
theorem found7 (c : Dev nD) (t : Fin (cfg m hL).N) (Y) (h : (rdat m hL L S c).Finds 7 t Y) (u : Fin (cfg m hL).N) (hu : u.val + 1 = t.val)
    (hf : ((cfg m hL).win 7).flush u = false) : L c u.val Y := by
  have ho : ((cfg m hL).win 7).fetch t = false := rfl
  have e : (⟨t.val - 1, Nat.lt_of_le_of_lt (Nat.sub_le _ _) t.isLt⟩ : Fin (cfg m hL).N) = u := Fin.ext (by show t.val - 1 = u.val; omega)
  rcases ((rdat m hL L S c).finds_of_pos ho (by omega) Y).mp h with h | ⟨Y', -, h⟩
  · rw [e, hf] at h
    exact absurd h (by decide)
  · rw [e] at h
    exact h

/-- What every grid point does of what is kept. -/
def Keeps : Prop := ∀ (c : Dev nD) (t : Fin (cfg m hL).N) o s o' s', S c t.val s →
  (∀ u : Fin (cfg m hL).N, u.val + 1 = t.val → ((cfg m hL).win 7).flush u = false → L c u.val o) →
  Step (F := F) (grid0.coords t) (wR (pf m) (item (grid0.coords t))) (iblk m hL c 0 t) (iblk m hL c 1 t) (iblk m hL c 2 t) (iblk m hL c 5 t)
    (iblk m hL c 3 t) (iblk m hL c 4 t) (iblk m hL c 6 t) o s o' s' → L c t.val o' ∧ S c (t.val + 1) s'

variable (hK : Keeps m hL L S)

theorem whole_pts (c : Dev nD) (b : Ref sig .tc) (q : PosShare TreeShare) (f : b.ty.Contents (Elt F)) :
    ((((c : Thread nD τ).loc b) ↦{q} f) : sProp 𝕄) = ((Memref.whole b).view.loc (c : Thread nD τ) ↦[(Memref.whole b).view.set]{q} f) := by
  simp only [Memref.view_whole, View.set_whole]

theorem tables_eq (c : Dev nD) : (Pipeline.ΦT pre0 (pf m) c : sProp 𝕄)
    = iprop((((c : Thread nD τ).loc main_arg0) ↦{fullShare.right} (pf m 0)) ∗ (((c : Thread nD τ).loc main_arg1) ↦{fullShare.right} (pf m 1))
      ∗ (((c : Thread nD τ).loc main_arg2) ↦{fullShare.right} (pf m 2))) :=
  bigSep_univ_eq_bigSepL [(0 : Fin 3), (1 : Fin 3), (2 : Fin 3)] (by decide) (by decide) _

theorem rows_read (t : Fin (cfg m hL).N) :
    ((Memref.whole main_arg1 : Memref sig .tc .smem S83 .i32).access (Rect.unit (s := S83) (k0_off1 (grid0.coords t)) S1.size (k0_off1_inb (grid0.coords t)))).read (Elt F) (pf m 1)
      (Shape.Idx.first (numel1_S1.symm ▸ Nat.one_pos)) = wR (pf m) (item (grid0.coords t)) :=
  readR (pf m) (grid0.coords t) _ rfl (k0_off1_inb _) numel1_S1

include hK in
theorem sound_body (c : Dev nD) (t : Fin (cfg m hL).N) (Y : (w : Fin (cfg m hL).W) → ((cfg m hL).win w).block.Idx → Elt F ((cfg m hL).win w).elt)
    (hY : ∀ w, (rdat m hL L S c).Finds w t (Y w)) :
    (iprop((rdat m hL L S c).Φ t.castSucc ∗ (rdat m hL L S c).owesAt () t.castSucc ∗ owns (c : Thread nD τ) (spec0_0.stage ((cfg m hL).slots t 0)) fullShare (Y 0) ∗ owns (c : Thread nD τ) (spec0_1.stage ((cfg m hL).slots t 1)) fullShare (Y 1) ∗ owns (c : Thread nD τ) (spec0_2.stage ((cfg m hL).slots t 2)) fullShare (Y 2) ∗ owns (c : Thread nD τ) (spec0_3.stage ((cfg m hL).slots t 3)) fullShare (Y 3) ∗ owns (c : Thread nD τ) (spec0_4.stage ((cfg m hL).slots t 4)) fullShare (Y 4) ∗ owns (c : Thread nD τ) (spec0_5.stage ((cfg m hL).slots t 5)) fullShare (Y 5) ∗ owns (c : Thread nD τ) (spec0_6.stage ((cfg m hL).slots t 6)) fullShare (Y 6) ∗ owns (c : Thread nD τ) (spec0_7.stage ((cfg m hL).slots t 7)) fullShare (Y 7)) : sProp 𝕄)
      ⊢ wp frame (wpE (defs₀ (F := F)) Variants.none (c : Thread nD τ) none) Set.univ (bodyAt m hL t) fun _ =>
        iprop((rdat m hL L S c).Φ t.succ ∗ (rdat m hL L S c).owesAt () t.succ ∗ (∃ X, ⌜(rdat m hL L S c).after 0 t (Y 0) X⌝ ∗ owns (c : Thread nD τ) (spec0_0.stage ((cfg m hL).slots t 0)) fullShare X) ∗ (∃ X, ⌜(rdat m hL L S c).after 1 t (Y 1) X⌝ ∗ owns (c : Thread nD τ) (spec0_1.stage ((cfg m hL).slots t 1)) fullShare X) ∗ (∃ X, ⌜(rdat m hL L S c).after 2 t (Y 2) X⌝ ∗ owns (c : Thread nD τ) (spec0_2.stage ((cfg m hL).slots t 2)) fullShare X) ∗ (∃ X, ⌜(rdat m hL L S c).after 3 t (Y 3) X⌝ ∗ owns (c : Thread nD τ) (spec0_3.stage ((cfg m hL).slots t 3)) fullShare X) ∗ (∃ X, ⌜(rdat m hL L S c).after 4 t (Y 4) X⌝ ∗ owns (c : Thread nD τ) (spec0_4.stage ((cfg m hL).slots t 4)) fullShare X) ∗ (∃ X, ⌜(rdat m hL L S c).after 5 t (Y 5) X⌝ ∗ owns (c : Thread nD τ) (spec0_5.stage ((cfg m hL).slots t 5)) fullShare X) ∗ (∃ X, ⌜(rdat m hL L S c).after 6 t (Y 6) X⌝ ∗ owns (c : Thread nD τ) (spec0_6.stage ((cfg m hL).slots t 6)) fullShare X) ∗ (∃ X, ⌜(rdat m hL L S c).after 7 t (Y 7) X⌝ ∗ owns (c : Thread nD τ) (spec0_7.stage ((cfg m hL).slots t 7)) fullShare X)) := by
  have e5 := found0 m hL L S c t _ (hY 0)
  have e6 := found1 m hL L S c t _ (hY 1)
  have e7 := found2 m hL L S c t _ (hY 2)
  have e8 := found3 m hL L S c t _ (hY 3)
  have e9 := found4 m hL L S c t _ (hY 4)
  have e10 := found5 m hL L S c t _ (hY 5)
  have e11 := found6 m hL L S c t _ (hY 6)
  show (iprop(iprop(Pipeline.ΦT pre0 (pf m) c ∗ (∃ r, prngReg (c : Dev nD) r)
    ∗ ∃ s : S1280x2048.Idx → Elt F .bf16, ⌜S c t.val s⌝ ∗ (((c : Thread nD τ).loc cc0_scratch0) ↦{fullShare} s)) ∗ _) : sProp 𝕄) ⊢ _
  rw [tables_eq]
  iintro ⟨⟨⟨HT0, HT1, HT2⟩, Hp, %s, %hs, Hs⟩, Ho, H5, H6, H7, H8, H9, H10, H11, H12⟩
  ihave Hs := (Entails.of_eq (owns_whole (c : Thread nD τ) cc0_scratch0 fullShare s).symm) $$ Hs
  ihave HT1 := (Entails.of_eq (whole_pts c main_arg1 fullShare.right (pf m 1))) $$ HT1
  iapply (Idealize.SL.Sem.wp_wand_r _ _ _)
  isplitl [HT1 H5 H6 H7 H8 H9 H10 H11 H12 Hs]
  · iapply (point_owns c (grid0.coords t) (Memref.whole main_arg0) (Memref.isWhole_whole _) (Memref.whole main_arg1) (Memref.isWhole_whole _) (Memref.whole main_arg2) (Memref.isWhole_whole _) (spec0_0.stage ((cfg m hL).slots t 0)) (hstage0_0 (((cfg m hL).slots t 0).cast nbuf0_0)) (spec0_1.stage ((cfg m hL).slots t 1)) (hstage0_1 (((cfg m hL).slots t 1).cast nbuf0_1)) (spec0_2.stage ((cfg m hL).slots t 2)) (hstage0_2 (((cfg m hL).slots t 2).cast nbuf0_2)) (spec0_3.stage ((cfg m hL).slots t 3)) (hstage0_3 (((cfg m hL).slots t 3).cast nbuf0_3)) (spec0_4.stage ((cfg m hL).slots t 4)) (hstage0_4 (((cfg m hL).slots t 4).cast nbuf0_4)) (spec0_5.stage ((cfg m hL).slots t 5)) (hstage0_5 (((cfg m hL).slots t 5).cast nbuf0_5)) (spec0_6.stage ((cfg m hL).slots t 6)) (hstage0_6 (((cfg m hL).slots t 6).cast nbuf0_6)) (spec0_7.stage ((cfg m hL).slots t 7)) (hstage0_7 (((cfg m hL).slots t 7).cast nbuf0_7)) (Memref.whole cc0_scratch0) (Memref.isWhole_whole _) (wR (pf m) (item (grid0.coords t))) (Y 0) (Y 1) (Y 2) (Y 3) (Y 4) (Y 5) (Y 6) (Y 7) s
      fullShare.right (pf m 1) (rows_read m hL t) (hL.rows _))
    isplitl [HT1]; · iexact HT1
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hs
  iintro %u ⟨HT1, H5, H6, H7, H8, H9, H10, H11, %o', %s', %hst, H12, Hs⟩
  have hk := hK c t (Y 7) s o' s' hs (fun u hu hf => found7 m hL L S c t _ (hY 7) u hu hf) (by
    rw [e5, e6, e7, e8, e9, e10, e11] at hst
    exact hst)
  ihave Hs := (Entails.of_eq (owns_whole (c : Thread nD τ) cc0_scratch0 fullShare s')) $$ Hs
  ihave HT1 := (Entails.of_eq (whole_pts c main_arg1 fullShare.right (pf m 1)).symm) $$ HT1
  isplitl [HT0 HT1 HT2 Hp Hs]
  · iapply (show (iprop(Pipeline.ΦT pre0 (pf m) c ∗ (∃ r, prngReg (c : Dev nD) r)
      ∗ ∃ s : S1280x2048.Idx → Elt F .bf16, ⌜S c (t.val + 1) s⌝ ∗ (((c : Thread nD τ).loc cc0_scratch0) ↦{fullShare} s)) : sProp 𝕄) ⊢ (rdat m hL L S c).Φ t.succ from .rfl)
    rw [tables_eq]
    isplitl [HT0 HT1 HT2]
    · isplitl [HT0]; · iexact HT0
      isplitl [HT1]; · iexact HT1
      iexact HT2
    isplitl [Hp]; · iexact Hp
    iexists s'
    isplitr; · ipureintro; exact hk.2
    iexact Hs
  isplitl [Ho]; · iexact Ho
  isplitl [H5]
  · iexists (Y 0); isplitr; · ipureintro; rfl
    iexact H5
  isplitl [H6]
  · iexists (Y 1); isplitr; · ipureintro; rfl
    iexact H6
  isplitl [H7]
  · iexists (Y 2); isplitr; · ipureintro; rfl
    iexact H7
  isplitl [H8]
  · iexists (Y 3); isplitr; · ipureintro; rfl
    iexact H8
  isplitl [H9]
  · iexists (Y 4); isplitr; · ipureintro; rfl
    iexact H9
  isplitl [H10]
  · iexists (Y 5); isplitr; · ipureintro; rfl
    iexact H10
  isplitl [H11]
  · iexists (Y 6); isplitr; · ipureintro; rfl
    iexact H11
  iexists o'
  isplitr; · ipureintro; exact hk.1
  iexact H12

include hK in
theorem body_obligation (c : Dev nD) : (rdat m hL L S c).BodyObligation (defs₀ (F := F)) Variants.none () Set.univ := fun t Y hY => by
  rw [bigSep_W0, bigSep_W0, defs₀_row]
  exact triple_restated (sound_body m hL L S hK c t Y hY) rfl .rfl fun _ => .rfl

/-! ## The run -/

variable (h0 : ∀ c s, S c 0 s)

include hK h0 in
/-- The call ends at what its grid points keep. -/
theorem run : θ_run (defs (F := F)) (onTc (τ := τ) (main (F := F))) (s₀ m ρ)
    fun r => Pipeline.RDat.FramePost (cfg m hL) (rdat m hL L S) (V m) r ∧ r.2.sem = fun _ => 0 := by
  refine Pipeline.RDat.θ_run_frameP_track_shared pcfgs (fun p => match p with | 0 => adm m hL 0) 0 launch₀0 defs₀ Variants.none (rdat m hL L S) m ρ main
    (body_obligation m hL L S hK) (fun _ _ _ => rfl) (fun _ _ => rfl) (V m) (hmain m) (fun _ _ => rfl) (fun c k => ?_) (fun c => ?_) (fun c => ?_) _ (fun _ h => h)
  · obtain rfl : c = 0 := Subsingleton.elim _ _
    rfl
  · show (iprop(iprop(Pipeline.scopedRest (Ix := Unit) (Name := ℕ) (U := UR sig nD τ) (Lvl := ℕ) (Val := Elt F) spec0 c ∗ ∃ r, prngReg c r) ∗ Pipeline.ΦT pre0 (pf m) c) : sProp 𝕄) ⊢
      iprop(Pipeline.ΦT pre0 (pf m) c ∗ (∃ r, prngReg (c : Dev nD) r)
        ∗ ∃ s : S1280x2048.Idx → Elt F .bf16, ⌜S c 0 s⌝ ∗ (((c : Thread nD τ).loc cc0_scratch0) ↦{fullShare} s))
    rw [scopedRest0_eq]
    iintro ⟨⟨⟨%f, Hs⟩, Hp⟩, Ht⟩
    isplitl [Ht]; · iexact Ht
    isplitl [Hp]; · iexact Hp
    iexists f
    isplitr; · ipureintro; exact h0 c f
    iexact Hs
  · show (iprop(Pipeline.ΦT pre0 (pf m) c ∗ (∃ r, prngReg (c : Dev nD) r)
        ∗ ∃ s : S1280x2048.Idx → Elt F .bf16, ⌜S c _ s⌝ ∗ (((c : Thread nD τ).loc cc0_scratch0) ↦{fullShare} s)) : sProp 𝕄) ⊢
      iprop(Pipeline.scopedRest (Ix := Unit) (Name := ℕ) (U := UR sig nD τ) (Lvl := ℕ) (Val := Elt F) spec0 c ∗ ∃ r, prngReg c r)
    rw [scopedRest0_eq]
    iintro ⟨-, Hp, %s, -, Hs⟩
    isplitl [Hs]; · iexists s; iexact Hs
    iexact Hp

end Cert.Kernel2Ideal.Experts
-- ==== Proof.ExpertsEnd.lean ====
/-
  A run of the experts' call ends with its arguments unchanged, no semaphore owed, and the result some contents that the points'
  write-backs allow.
-/
module

public import proofs.«01_k».proof.Proof.ExpertsRun

@[expose] public section

set_option maxRecDepth 65536

noncomputable section

namespace Cert.Kernel2Ideal.Experts

open Cert.Kernel2Ideal Cert.Kernel2Ideal.Gen
open Idealize.ShloMosaic Idealize.ShloMosaic.TcCoe
open Idealize.SL Idealize.SL.Sem
open Idealize.ShloMosaic.Pipeline (RDat Cfg Window cellOf)

variable {F : FTy → Type} [FloatOps F]
variable (m : (ℓ : Loc nD τ sig) → Buf (Elt F) ℓ) (ρ : Dev nD → PrngReg)
variable (hL : ListOk (pf m 0) (pf m 1) (pf m 2))
variable (L : Dev nD → ℕ → (S1280x2048.Idx → Elt F .f32) → Prop) (S : Dev nD → ℕ → (S1280x2048.Idx → Elt F .bf16) → Prop)

/-- The arguments of the call, unchanged. -/
abbrev Same (m m' : (ℓ : Loc nD τ sig) → Buf (Elt F) ℓ) (c : Dev nD) : Prop :=
  m' ((c.tc : Thread nD τ).loc main_arg0) = m ((c.tc : Thread nD τ).loc main_arg0) ∧ m' ((c.tc : Thread nD τ).loc main_arg1) = m ((c.tc : Thread nD τ).loc main_arg1)
  ∧ m' ((c.tc : Thread nD τ).loc main_arg2) = m ((c.tc : Thread nD τ).loc main_arg2) ∧ m' ((c.tc : Thread nD τ).loc main_arg3) = m ((c.tc : Thread nD τ).loc main_arg3)
  ∧ m' ((c.tc : Thread nD τ).loc main_arg4) = m ((c.tc : Thread nD τ).loc main_arg4) ∧ m' ((c.tc : Thread nD τ).loc main_arg5) = m ((c.tc : Thread nD τ).loc main_arg5)
  ∧ m' ((c.tc : Thread nD τ).loc main_arg6) = m ((c.tc : Thread nD τ).loc main_arg6) ∧ m' ((c.tc : Thread nD τ).loc main_arg7) = m ((c.tc : Thread nD τ).loc main_arg7)

theorem ends (hK : Keeps m hL L S) (h0 : ∀ c s, S c 0 s) : θ_run (defs (F := F)) (onTc (τ := τ) (main (F := F))) (s₀ m ρ)
    fun r => (∀ c, Same m r.2.mem c ∧ (rdat m hL L S c).ArrAt 7 (cfg m hL).N (r.2.mem ((c.tc : Thread nD τ).loc main_v2))) ∧ r.2.sem = fun _ => 0 := by
  refine (θ_run defs _ _).mono (fun r h => ⟨fun c => ?_, h.2⟩) (run m ρ hL L S hK h0)
  obtain ⟨ha, hr⟩ := h.1 c
  have inp : ∀ w : Fin 8, ((cfg m hL).win w).isOut = false → r.2.mem ((c.tc : Thread nD τ).loc (Pipeline.arrRef spec0 w)) = V m c (Pipeline.arrRef spec0 w) := fun w hw =>
    Eq.mp (congrFun (RDat.ArrAt_in (rdat m hL L S c) w hw (cfg m hL).N) _) (ha w)
  have rest : ∀ b : Ref sig .tc, b ∈ Pipeline.restRefs sig spec0 → b ∉ [main_v0, main_v1] → r.2.mem ((c.tc : Thread nD τ).loc b) = m ((c.tc : Thread nD τ).loc b) :=
    fun b hb hn => (hr b hb).trans (V_unwritten m c b hn)
  exact ⟨⟨rest main_arg0 (by decide) (by decide), rest main_arg1 (by decide) (by decide), rest main_arg2 (by decide) (by decide),
    (inp 0 rfl).trans (V_unwritten m c main_arg3 (by decide)), (inp 1 rfl).trans (V_unwritten m c main_arg4 (by decide)), rest main_arg5 (by decide) (by decide),
    (inp 5 rfl).trans (V_unwritten m c main_arg6 (by decide)), rest main_arg7 (by decide) (by decide)⟩, ha 7⟩

theorem keeps_true : Keeps m hL (fun _ _ _ => True) (fun _ _ _ => True) := fun _ _ _ _ _ _ _ _ _ => ⟨trivial, trivial⟩

include hL in
/-- The frame alone. -/
theorem frame_run : θ_run (defs (F := F)) (onTc (τ := τ) (main (F := F))) (s₀ m ρ) fun r => (∀ c, Same m r.2.mem c) ∧ r.2.sem = fun _ => 0 :=
  (θ_run defs _ _).mono (fun _ h => ⟨fun c => (h.1 c).1, h.2⟩) (ends m ρ hL _ _ (keeps_true m hL) fun _ _ => trivial)

end Cert.Kernel2Ideal.Experts
-- ==== Proof.ExpertsTile.lean ====
/-
  What a tile of the experts' call holds, read at an index over the extended reals.
-/
module

public import proofs.«01_k».proof.Proof.ExpertsPoint
public import Idealize.ShloMosaic.Lib.Pointwise
public import Idealize.ShloMosaic.Lib.WordCmp

@[expose] public section

set_option maxRecDepth 65536

noncomputable section

namespace Cert.Kernel2Ideal.Experts

open Cert.Kernel2Ideal Cert.Kernel2Ideal.Gen
open Idealize.ShloMosaic

/-- The gate's bound, the up value's lower bound, and the sigmoid's factor. -/
def seven : EReal := Ideal.ofBits .f32 0x40E00000#32
def mseven : EReal := Ideal.ofBits .f32 0xC0E00000#32
def alpha : EReal := Ideal.ofBits .f32 0x3FD9DB23#32

/-- The experts' activation of a gate and an up value. -/
def glu (g u : EReal) : EReal :=
  (min seven (max mseven u) + 1) * min g seven * Ideal.logistic (alpha * min g seven)

/-- What a chunk of 256 hidden columns adds to a row's column `c`, the row's input being `x`. -/
def chunkAdd (wg wu : S1x2048x256.Idx → EReal) (wd : S1x256x2048.Idx → EReal) (bg bu : S1x1x256.Idx → EReal) (x : Fin 2048 → EReal) (c : Fin 2048) : EReal :=
  ∑ f : Fin 256, glu (∑ k : Fin 2048, x k * wg (ix3 0 k f) + bg (ix3 0 0 f)) (∑ k : Fin 2048, x k * wu (ix3 0 k f) + bu (ix3 0 0 f)) * wd (ix3 0 f c)

variable (wg wu : Vec Ideal S1x2048x256 .f32) (wd : Vec Ideal S1x256x2048 .f32) (bg bu : Vec Ideal S1x1x256 .f32)

theorem pay1_apply (x : Vec Ideal S128x2048 .bf16) (o : Vec Ideal S128x2048 .f32) (r : Fin 128) (c : Fin 2048) :
    k0_pay1 (F := Ideal) (k0_pay8 wg) (k0_pay9 wu) (k0_pay10 wd) x bg bu o (ix2 r c) = o (ix2 r c) + chunkAdd wg wu wd bg bu (fun k => x (ix2 r k)) c := by
  unfold k0_pay1 k0_pay8 k0_pay9 k0_pay10
  pointwise
  rfl

theorem pay3_apply (x : Vec Ideal S256x2048 .bf16) (o : Vec Ideal S256x2048 .f32) (r : Fin 256) (c : Fin 2048) :
    k0_pay3 (F := Ideal) (k0_pay8 wg) (k0_pay9 wu) (k0_pay10 wd) x bg bu o (ix2 r c) = o (ix2 r c) + chunkAdd wg wu wd bg bu (fun k => x (ix2 r k)) c := by
  unfold k0_pay3 k0_pay8 k0_pay9 k0_pay10
  pointwise
  rfl

theorem pay39_apply (x : Vec Ideal S512x2048 .bf16) (o : Vec Ideal S512x2048 .f32) (r : Fin 512) (c : Fin 2048) :
    k0_pay39 (F := Ideal) (k0_pay8 wg) (k0_pay9 wu) (k0_pay10 wd) x bg bu o (ix2 r c) = o (ix2 r c) + chunkAdd wg wu wd bg bu (fun k => x (ix2 r k)) c := by
  unfold k0_pay39 k0_pay8 k0_pay9 k0_pay10
  pointwise
  rfl

/-- A row of a window of whole rows is that row. -/
theorem window_row {α : Type} (x : S1280x2048.Idx → α) (R st : ℕ) (inb : ∀ a, ![st, 0] a + ![R, 2048] a ≤ S1280x2048.size a) (a : Fin R) (b : Fin 2048)
    (r : Fin 1280) (hr : r.val = st + a.val) : VecWindow.window x ![st, 0] ![R, 2048] inb (ix2 a b) = x (ix2 r b) := by
  unfold VecWindow.window
  refine congrArg x (funext fun d => Fin.ext ?_)
  match d with
  | ⟨0, _⟩ => show st + 1 * a.val = r.val; omega
  | ⟨1, _⟩ => show 0 + 1 * b.val = b.val; omega

variable (s : Vec Ideal S1280x2048 .bf16) (o o' : Vec Ideal S1280x2048 .f32)

/-- Row `r` of the result takes its chunk. -/
def Adds (r : Fin 1280) : Prop := ∀ c : Fin 2048, o' (ix2 r c) = o (ix2 r c) + chunkAdd wg wu wd bg bu (fun k => s (ix2 r k)) c

theorem Tile128.adds {wg wu wd bg bu s o o'} {st : ℕ} {inb : ∀ a, ![st, 0] a + ![128, 2048] a ≤ S1280x2048.size a} (h : Tile128 (F := Ideal) wg wu wd bg bu s o o' st inb)
    (r : Fin 1280) (h1 : st ≤ r.val) (h2 : r.val < st + 128) : Adds wg wu wd bg bu s o o' r := by
  intro c
  have e : r.val = st + (⟨r.val - st, by omega⟩ : Fin 128).val := by show r.val = st + (r.val - st); omega
  have hx : (fun k : Fin 2048 => VecWindow.window s ![st, 0] ![128, 2048] inb (ix2 (⟨r.val - st, by omega⟩ : Fin 128) k)) = fun k => s (ix2 r k) :=
    funext fun k => window_row s 128 st inb _ k r e
  refine (window_row o' 128 st inb _ c r e).symm.trans ((congrFun h _).trans ((pay1_apply wg wu wd bg bu _ _ _ c).trans ?_))
  rw [hx, window_row o 128 st inb _ c r e]

theorem Tile256.adds {wg wu wd bg bu s o o'} {st : ℕ} {inb : ∀ a, ![st, 0] a + ![256, 2048] a ≤ S1280x2048.size a} (h : Tile256 (F := Ideal) wg wu wd bg bu s o o' st inb)
    (r : Fin 1280) (h1 : st ≤ r.val) (h2 : r.val < st + 256) : Adds wg wu wd bg bu s o o' r := by
  intro c
  have e : r.val = st + (⟨r.val - st, by omega⟩ : Fin 256).val := by show r.val = st + (r.val - st); omega
  have hx : (fun k : Fin 2048 => VecWindow.window s ![st, 0] ![256, 2048] inb (ix2 (⟨r.val - st, by omega⟩ : Fin 256) k)) = fun k => s (ix2 r k) :=
    funext fun k => window_row s 256 st inb _ k r e
  refine (window_row o' 256 st inb _ c r e).symm.trans ((congrFun h _).trans ((pay3_apply wg wu wd bg bu _ _ _ c).trans ?_))
  rw [hx, window_row o 256 st inb _ c r e]

theorem Tile512.adds {wg wu wd bg bu s o o'} {st : ℕ} {inb : ∀ a, ![st, 0] a + ![512, 2048] a ≤ S1280x2048.size a} (h : Tile512 (F := Ideal) wg wu wd bg bu s o o' st inb)
    (r : Fin 1280) (h1 : st ≤ r.val) (h2 : r.val < st + 512) : Adds wg wu wd bg bu s o o' r := by
  intro c
  have e : r.val = st + (⟨r.val - st, by omega⟩ : Fin 512).val := by show r.val = st + (r.val - st); omega
  have hx : (fun k : Fin 2048 => VecWindow.window s ![st, 0] ![512, 2048] inb (ix2 (⟨r.val - st, by omega⟩ : Fin 512) k)) = fun k => s (ix2 r k) :=
    funext fun k => window_row s 512 st inb _ k r e
  refine (window_row o' 512 st inb _ c r e).symm.trans ((congrFun h _).trans ((pay39_apply wg wu wd bg bu _ _ _ c).trans ?_))
  rw [hx, window_row o 512 st inb _ c r e]

/-- The tiles of count `n` are the first `128 · n` rows. -/
theorem tiles_adds {wg wu wd bg bu s o o'} (n : ℕ) (hn : n ≤ 10) (h : Tiles (F := Ideal) wg wu wd bg bu s o o' n) (r : Fin 1280) (hr : r.val < 128 * n) :
    Adds wg wu wd bg bu s o o' r := by
  match n, h with
  | 0, _ => omega
  | 1, h => exact h.adds r (by omega) (by omega)
  | 2, h => exact h.adds r (by omega) (by omega)
  | 3, ⟨h, h'⟩ =>
    by_cases a : r.val < 256
    · exact h.adds r (by omega) (by omega)
    · exact h'.adds r (by omega) (by omega)
  | 4, h => exact h.adds r (by omega) (by omega)
  | 5, ⟨h, h'⟩ =>
    by_cases a : r.val < 512
    · exact h.adds r (by omega) (by omega)
    · exact h'.adds r (by omega) (by omega)
  | 6, ⟨h, h'⟩ =>
    by_cases a : r.val < 512
    · exact h.adds r (by omega) (by omega)
    · exact h'.adds r (by omega) (by omega)
  | 7, ⟨h, h', h''⟩ =>
    by_cases a : r.val < 512
    · exact h.adds r (by omega) (by omega)
    · by_cases b : r.val < 768
      · exact h'.adds r (by omega) (by omega)
      · exact h''.adds r (by omega) (by omega)
  | 8, ⟨h, h'⟩ =>
    by_cases a : r.val < 512
    · exact h.adds r (by omega) (by omega)
    · exact h'.adds r (by omega) (by omega)
  | 9, ⟨h, h', h''⟩ =>
    by_cases a : r.val < 512
    · exact h.adds r (by omega) (by omega)
    · by_cases b : r.val < 1024
      · exact h'.adds r (by omega) (by omega)
      · exact h''.adds r (by omega) (by omega)
  | 10, ⟨h, h', h''⟩ =>
    by_cases a : r.val < 512
    · exact h.adds r (by omega) (by omega)
    · by_cases b : r.val < 1024
      · exact h'.adds r (by omega) (by omega)
      · exact h''.adds r (by omega) (by omega)
  | n + 11, _ => omega

/-- The bias a block's rows start from. -/
theorem pay55_apply (bd : Vec Ideal S1x1x2048 .f32) (r : Fin 1280) (c : Fin 2048) : k0_pay55 (F := Ideal) bd (ix2 r c) = bd (ix3 0 0 c) := by
  unfold k0_pay55
  pointwise

/-- A row's input: the low halves of its words, then the high halves. -/
def halves (x : Fin 1024 → BitVec 32) (k : Fin 2048) : EReal :=
  if h : k.val < 1024 then Ideal.ofBits .f32 (x ⟨k.val, h⟩ <<< 16#32)
  else Ideal.ofBits .f32 (x ⟨k.val - 1024, by omega⟩ &&& 4294901760#32)

/-- A row below the count compares below it. -/
theorem slt_row (v : BitVec 32) (r : Fin 1280) (hr : (r.val : ℤ) < v.toInt) : IntOp.cmpi CmpIPredicate.slt (BitVec.ofNat 32 r.val) v = 1#1 := by
  have e : (BitVec.ofNat 32 r.val).toInt = r.val := WordCmp.toInt_ofNat_of_lt (by have := r.isLt; omega)
  show BitVec.ofBool _ = _
  simp [BitVec.slt, e, hr]

/-- An unpacked row below the block's count is its words' halves. -/
theorem unpacked_apply (v : BitVec 32) (x : Vec Ideal S1280x1024 .i32) (r : Fin 1280) (hr : (r.val : ℤ) < v.toInt) (k : Fin 2048) :
    unpacked (F := Ideal) v x (ix2 r k) = halves (fun j => x (ix2 r j)) k := by
  unfold unpacked halves
  by_cases h : k.val < 1024
  · refine (dif_pos (show ((ix2 r k : S1280x2048.Idx) (1 : Fin 2)).val < 1024 from h)).trans ((?_ : _ = _).trans (dif_pos h).symm)
    show k0_pay53 v x (ix2 r ⟨k.val, h⟩) = _
    unfold k0_pay53 k0_pay52
    pointwise
    rw [show IntOp.cmpi CmpIPredicate.slt (BitVec.ofNat 32 r.val) v = 1#1 from slt_row v r hr]
    rfl
  · refine (dif_neg (show ¬ ((ix2 r k : S1280x2048.Idx) (1 : Fin 2)).val < 1024 from h)).trans ((?_ : _ = _).trans (dif_neg h).symm)
    show k0_pay54 v x (ix2 r ⟨k.val - 1024, by omega⟩) = _
    unfold k0_pay54 k0_pay52
    pointwise
    rw [show IntOp.cmpi CmpIPredicate.slt (BitVec.ofNat 32 r.val) v = 1#1 from slt_row v r hr]
    rfl

end Cert.Kernel2Ideal.Experts
-- ==== Proof.ExpertsBlocks.lean ====
/-
  The blocks a grid point of the experts' call takes, read at an index.
-/
module

public import proofs.«01_k».proof.Proof.ExpertsRun
public import Idealize.ShloMosaic.Lib.Pointwise

@[expose] public section

set_option maxRecDepth 65536
set_option maxHeartbeats 2000000

noncomputable section

namespace Cert.Kernel2Ideal.Experts

open Cert.Kernel2Ideal Cert.Kernel2Ideal.Gen
open Idealize.ShloMosaic Idealize.ShloMosaic.TcCoe
open Idealize.ShloMosaic.Pipeline (RDat Cfg Window cellOf)

variable {F : FTy → Type} [FloatOps F]

variable (m : (ℓ : Loc nD τ sig) → Buf (Elt F) ℓ) (hL : ListOk (pf m 0) (pf m 1) (pf m 2)) (c : Dev nD) (t : Fin (cfg m hL).N)

/-- A point's item and column chunk, by its number. -/
theorem coords_val : ∀ t : Fin grid0.N, (grid0.coords t 0).val = t.val / 8 ∧ (grid0.coords t 1).val = t.val % 8 := by decide +kernel

/-- The item and the chunk of point `t`. -/
def pw : Fin 83 := item (grid0.coords t)
def pc : Fin 8 := col (grid0.coords t)

theorem pw_val : (pw m hL t).val = t.val / 8 := (coords_val t).1
theorem pc_val : (pc m hL t).val = t.val % 8 := (coords_val t).2

theorem blk0 (r : Fin 1280) (k : Fin 1024) (R : Fin 106240) (hR : R.val = (wB (pf m) (pw m hL t)).toNat * 1280 + r.val) :
    (iblk m hL c 0 t : S1280x1024.Idx → BitVec 32) (ix2 r k) = (m ((c : Thread nD τ).loc main_arg3) : S106240x1024.Idx → BitVec 32) (ix2 R k) := by
  have e := transform0 (pf m) (grid0.coords t)
  refine (congrFun (V_unwritten m c main_arg3 (by decide)) _).trans (congrArg (m ((c : Thread nD τ).loc main_arg3) : S106240x1024.Idx → BitVec 32) (funext fun a => Fin.ext ?_))
  match a with
  | ⟨0, _⟩ =>
    show cc0_transform_0 k0_off1_inb numel1_S1 (pf m) (grid0.coords t) 0 * 1280 + 1 * r.val = R.val
    rw [congrFun e 0, hR]
    show (wB (pf m) (pw m hL t)).toNat * 1280 + 1 * r.val = _
    omega
  | ⟨1, _⟩ =>
    show cc0_transform_0 k0_off1_inb numel1_S1 (pf m) (grid0.coords t) 1 * 1024 + 1 * k.val = k.val
    rw [congrFun e 1]
    show 0 * 1024 + 1 * k.val = _
    omega

theorem blk1 (k : Fin 2048) (f : Fin 256) (E : Fin 32) (H : Fin 4096) (hE : E.val = (wE (pf m) (pw m hL t)).toNat) (hH : H.val = (chunk (wR (pf m) (pw m hL t)) (pc m hL t)) * 256 + f.val) :
    (iblk m hL c 1 t : S1x2048x256.Idx → Elt F .f32) (ix3 0 k f) = (m ((c : Thread nD τ).loc main_arg4) : S32x2048x4096.Idx → Elt F .f32) (ix3 E k H) := by
  have e := transform1 (pf m) (grid0.coords t)
  refine (congrFun (V_unwritten m c main_arg4 (by decide)) _).trans (congrArg (m ((c : Thread nD τ).loc main_arg4) : S32x2048x4096.Idx → Elt F .f32) (funext fun a => Fin.ext ?_))
  match a with
  | ⟨0, _⟩ =>
    show cc0_transform_1 k0_off1_inb numel1_S1 (pf m) (grid0.coords t) 0 * 1 + 1 * (0 : Fin 1).val = E.val
    rw [congrFun e 0, hE]
    show (wE (pf m) (pw m hL t)).toNat * 1 + 1 * (0 : Fin 1).val = _
    omega
  | ⟨1, _⟩ =>
    show cc0_transform_1 k0_off1_inb numel1_S1 (pf m) (grid0.coords t) 1 * 2048 + 1 * k.val = k.val
    rw [congrFun e 1]
    show 0 * 2048 + 1 * k.val = _
    omega
  | ⟨2, _⟩ =>
    show cc0_transform_1 k0_off1_inb numel1_S1 (pf m) (grid0.coords t) 2 * 256 + 1 * f.val = H.val
    rw [congrFun e 2, hH]
    show (chunk (wR (pf m) (pw m hL t)) (pc m hL t)) * 256 + 1 * f.val = _
    omega

theorem blk2 (k : Fin 2048) (f : Fin 256) (E : Fin 32) (H : Fin 4096) (hE : E.val = (wE (pf m) (pw m hL t)).toNat) (hH : H.val = (8 + chunk (wR (pf m) (pw m hL t)) (pc m hL t)) * 256 + f.val) :
    (iblk m hL c 2 t : S1x2048x256.Idx → Elt F .f32) (ix3 0 k f) = (m ((c : Thread nD τ).loc main_arg4) : S32x2048x4096.Idx → Elt F .f32) (ix3 E k H) := by
  have e := transform2 (pf m) (grid0.coords t)
  refine (congrFun (V_unwritten m c main_arg4 (by decide)) _).trans (congrArg (m ((c : Thread nD τ).loc main_arg4) : S32x2048x4096.Idx → Elt F .f32) (funext fun a => Fin.ext ?_))
  match a with
  | ⟨0, _⟩ =>
    show cc0_transform_2 k0_off1_inb numel1_S1 (pf m) (grid0.coords t) 0 * 1 + 1 * (0 : Fin 1).val = E.val
    rw [congrFun e 0, hE]
    show (wE (pf m) (pw m hL t)).toNat * 1 + 1 * (0 : Fin 1).val = _
    omega
  | ⟨1, _⟩ =>
    show cc0_transform_2 k0_off1_inb numel1_S1 (pf m) (grid0.coords t) 1 * 2048 + 1 * k.val = k.val
    rw [congrFun e 1]
    show 0 * 2048 + 1 * k.val = _
    omega
  | ⟨2, _⟩ =>
    show cc0_transform_2 k0_off1_inb numel1_S1 (pf m) (grid0.coords t) 2 * 256 + 1 * f.val = H.val
    rw [congrFun e 2, hH]
    show (8 + chunk (wR (pf m) (pw m hL t)) (pc m hL t)) * 256 + 1 * f.val = _
    omega

theorem blk3 (f : Fin 256) (E : Fin 32) (H : Fin 4096) (hE : E.val = (wE (pf m) (pw m hL t)).toNat) (hH : H.val = (chunk (wR (pf m) (pw m hL t)) (pc m hL t)) * 256 + f.val) :
    (iblk m hL c 3 t : S1x1x256.Idx → Elt F .f32) (ix3 0 0 f) = (m ((c : Thread nD τ).loc main_arg5) : S32x4096.Idx → Elt F .f32) (ix2 E H) := by
  have e := transform3 (pf m) (grid0.coords t)
  refine (congrFun (V_v0 m c) _).trans ?_
  have ee : (((cfg m hL).win 3).blk t).view.emb (ix3 0 0 f : S1x1x256.Idx) = (ix3 E 0 H : S32x1x4096.Idx) := by
    funext a
    refine Fin.ext ?_
    match a with
    | ⟨0, _⟩ =>
      show cc0_transform_3 k0_off1_inb numel1_S1 (pf m) (grid0.coords t) 0 * 1 + 1 * (0 : Fin 1).val = E.val
      rw [congrFun e 0, hE]
      show (wE (pf m) (pw m hL t)).toNat * 1 + 1 * (0 : Fin 1).val = _
      omega
    | ⟨1, _⟩ =>
      show cc0_transform_3 k0_off1_inb numel1_S1 (pf m) (grid0.coords t) 1 * 1 + 1 * (0 : Fin 1).val = (0 : Fin 1).val
      rw [congrFun e 1]
      show 0 * 1 + 1 * (0 : Fin 1).val = _
      omega
    | ⟨2, _⟩ =>
      show cc0_transform_3 k0_off1_inb numel1_S1 (pf m) (grid0.coords t) 2 * 256 + 1 * f.val = H.val
      rw [congrFun e 2, hH]
      show (chunk (wR (pf m) (pw m hL t)) (pc m hL t)) * 256 + 1 * f.val = _
      omega
  refine (congrArg (broadcastInDim S32x1x4096 ![0, 2] bcast_S32x4096_S32x1x4096_0_2 (m ((c : Thread nD τ).loc main_arg5) : S32x4096.Idx → Elt F .f32)) ee).trans ?_
  pointwise

theorem blk4 (f : Fin 256) (E : Fin 32) (H : Fin 4096) (hE : E.val = (wE (pf m) (pw m hL t)).toNat) (hH : H.val = (8 + chunk (wR (pf m) (pw m hL t)) (pc m hL t)) * 256 + f.val) :
    (iblk m hL c 4 t : S1x1x256.Idx → Elt F .f32) (ix3 0 0 f) = (m ((c : Thread nD τ).loc main_arg5) : S32x4096.Idx → Elt F .f32) (ix2 E H) := by
  have e := transform4 (pf m) (grid0.coords t)
  refine (congrFun (V_v0 m c) _).trans ?_
  have ee : (((cfg m hL).win 4).blk t).view.emb (ix3 0 0 f : S1x1x256.Idx) = (ix3 E 0 H : S32x1x4096.Idx) := by
    funext a
    refine Fin.ext ?_
    match a with
    | ⟨0, _⟩ =>
      show cc0_transform_4 k0_off1_inb numel1_S1 (pf m) (grid0.coords t) 0 * 1 + 1 * (0 : Fin 1).val = E.val
      rw [congrFun e 0, hE]
      show (wE (pf m) (pw m hL t)).toNat * 1 + 1 * (0 : Fin 1).val = _
      omega
    | ⟨1, _⟩ =>
      show cc0_transform_4 k0_off1_inb numel1_S1 (pf m) (grid0.coords t) 1 * 1 + 1 * (0 : Fin 1).val = (0 : Fin 1).val
      rw [congrFun e 1]
      show 0 * 1 + 1 * (0 : Fin 1).val = _
      omega
    | ⟨2, _⟩ =>
      show cc0_transform_4 k0_off1_inb numel1_S1 (pf m) (grid0.coords t) 2 * 256 + 1 * f.val = H.val
      rw [congrFun e 2, hH]
      show (8 + chunk (wR (pf m) (pw m hL t)) (pc m hL t)) * 256 + 1 * f.val = _
      omega
  refine (congrArg (broadcastInDim S32x1x4096 ![0, 2] bcast_S32x4096_S32x1x4096_0_2 (m ((c : Thread nD τ).loc main_arg5) : S32x4096.Idx → Elt F .f32)) ee).trans ?_
  pointwise

theorem blk5 (f : Fin 256) (k : Fin 2048) (E : Fin 32) (H : Fin 2048) (hE : E.val = (wE (pf m) (pw m hL t)).toNat) (hH : H.val = chunk (wR (pf m) (pw m hL t)) (pc m hL t) * 256 + f.val) :
    (iblk m hL c 5 t : S1x256x2048.Idx → Elt F .f32) (ix3 0 f k) = (m ((c : Thread nD τ).loc main_arg6) : S32x2048x2048.Idx → Elt F .f32) (ix3 E H k) := by
  have e := transform5 (pf m) (grid0.coords t)
  refine (congrFun (V_unwritten m c main_arg6 (by decide)) _).trans (congrArg (m ((c : Thread nD τ).loc main_arg6) : S32x2048x2048.Idx → Elt F .f32) (funext fun a => Fin.ext ?_))
  match a with
  | ⟨0, _⟩ =>
    show cc0_transform_5 k0_off1_inb numel1_S1 (pf m) (grid0.coords t) 0 * 1 + 1 * (0 : Fin 1).val = E.val
    rw [congrFun e 0, hE]
    show (wE (pf m) (pw m hL t)).toNat * 1 + 1 * (0 : Fin 1).val = _
    omega
  | ⟨1, _⟩ =>
    show cc0_transform_5 k0_off1_inb numel1_S1 (pf m) (grid0.coords t) 1 * 256 + 1 * f.val = H.val
    rw [congrFun e 1, hH]
    show chunk (wR (pf m) (pw m hL t)) (pc m hL t) * 256 + 1 * f.val = _
    omega
  | ⟨2, _⟩ =>
    show cc0_transform_5 k0_off1_inb numel1_S1 (pf m) (grid0.coords t) 2 * 2048 + 1 * k.val = k.val
    rw [congrFun e 2]
    show 0 * 2048 + 1 * k.val = _
    omega

theorem blk6 (k : Fin 2048) (E : Fin 32) (hE : E.val = (wE (pf m) (pw m hL t)).toNat) :
    (iblk m hL c 6 t : S1x1x2048.Idx → Elt F .f32) (ix3 0 0 k) = (m ((c : Thread nD τ).loc main_arg7) : S32x2048.Idx → Elt F .f32) (ix2 E k) := by
  have e := transform6 (pf m) (grid0.coords t)
  refine (congrFun (V_v1 m c) _).trans ?_
  have ee : (((cfg m hL).win 6).blk t).view.emb (ix3 0 0 k : S1x1x2048.Idx) = (ix3 E 0 k : S32x1x2048.Idx) := by
    funext a
    refine Fin.ext ?_
    match a with
    | ⟨0, _⟩ =>
      show cc0_transform_6 k0_off1_inb numel1_S1 (pf m) (grid0.coords t) 0 * 1 + 1 * (0 : Fin 1).val = E.val
      rw [congrFun e 0, hE]
      show (wE (pf m) (pw m hL t)).toNat * 1 + 1 * (0 : Fin 1).val = _
      omega
    | ⟨1, _⟩ =>
      show cc0_transform_6 k0_off1_inb numel1_S1 (pf m) (grid0.coords t) 1 * 1 + 1 * (0 : Fin 1).val = (0 : Fin 1).val
      rw [congrFun e 1]
      show 0 * 1 + 1 * (0 : Fin 1).val = _
      omega
    | ⟨2, _⟩ =>
      show cc0_transform_6 k0_off1_inb numel1_S1 (pf m) (grid0.coords t) 2 * 2048 + 1 * k.val = k.val
      rw [congrFun e 2]
      show 0 * 2048 + 1 * k.val = _
      omega
  refine (congrArg (broadcastInDim S32x1x2048 ![0, 2] bcast_S32x2048_S32x1x2048_0_2 (m ((c : Thread nD τ).loc main_arg7) : S32x2048.Idx → Elt F .f32)) ee).trans ?_
  pointwise

end Cert.Kernel2Ideal.Experts
-- ==== Proof.ExpertsKeeps.lean ====
/-
  What the experts' call keeps over the extended reals: after each grid point the block's live rows hold the bias and the chunks
  taken so far, and within an item the scratch holds the live rows' inputs.
-/
module

public import proofs.«01_k».proof.Proof.ExpertsTile
public import proofs.«01_k».proof.Proof.ExpertsBlocks

@[expose] public section

set_option maxRecDepth 65536

noncomputable section

namespace Cert.Kernel2Ideal.Experts

open Cert.Kernel2Ideal Cert.Kernel2Ideal.Gen
open Idealize.ShloMosaic Idealize.ShloMosaic.TcCoe
open Idealize.ShloMosaic.Pipeline (RDat Cfg Window cellOf)

section Plain

variable (Wgu : S32x2048x4096.Idx → EReal) (Bgu : S32x4096.Idx → EReal) (Wd : S32x2048x2048.Idx → EReal) (Bd : S32x2048.Idx → EReal)

/-- The hidden value `h` of an expert on a row's input. -/
def hid (E : Fin 32) (x : Fin 2048 → EReal) (h : Fin 2048) : EReal :=
  glu (∑ k : Fin 2048, x k * Wgu (ix3 E k ⟨h.val, by omega⟩) + Bgu (ix2 E ⟨h.val, by omega⟩))
    (∑ k : Fin 2048, x k * Wgu (ix3 E k ⟨2048 + h.val, by omega⟩) + Bgu (ix2 E ⟨2048 + h.val, by omega⟩))

/-- Its product with the down weights' column `j`. -/
def term (E : Fin 32) (x : Fin 2048 → EReal) (j : Fin 2048) (n : ℕ) : EReal :=
  if h : n < 2048 then hid Wgu Bgu E x ⟨n, h⟩ * Wd (ix3 E ⟨n, h⟩ j) else 0

/-- The bias and the first `n` chunks. -/
def acc (E : Fin 32) (x : Fin 2048 → EReal) (j : Fin 2048) (n : ℕ) : EReal :=
  Bd (ix2 E j) + ∑ h ∈ Finset.range (256 * n), term Wgu Bgu Wd E x j h

theorem acc_zero (E : Fin 32) (x : Fin 2048 → EReal) (j : Fin 2048) : acc Wgu Bgu Wd Bd E x j 0 = Bd (ix2 E j) := by
  simp [acc]

theorem acc_succ (E : Fin 32) (x : Fin 2048 → EReal) (j : Fin 2048) (n : ℕ) :
    acc Wgu Bgu Wd Bd E x j (n + 1) = acc Wgu Bgu Wd Bd E x j n + ∑ f : Fin 256, term Wgu Bgu Wd E x j (256 * n + f.val) := by
  unfold acc
  rw [Nat.mul_succ, Finset.sum_range_add, ← add_assoc, Finset.sum_range (fun f => term Wgu Bgu Wd E x j (256 * n + f))]

theorem acc_all (E : Fin 32) (x : Fin 2048 → EReal) (j : Fin 2048) :
    acc Wgu Bgu Wd Bd E x j 8 = ∑ h : Fin 2048, hid Wgu Bgu E x h * Wd (ix3 E h j) + Bd (ix2 E j) := by
  unfold acc
  rw [add_comm]
  refine congrArg (· + _) ?_
  rw [show 256 * 8 = 2048 from rfl, Finset.sum_range]
  exact Finset.sum_congr rfl fun h _ => dif_pos h.isLt

end Plain

variable (m : (ℓ : Loc nD τ sig) → Buf (Elt Ideal) ℓ) (hL : ListOk (pf m 0) (pf m 1) (pf m 2)) (c : Dev nD)

/-- The arguments: the packed rows, the two weights and the two biases. -/
abbrev aX : S106240x1024.Idx → BitVec 32 := m ((c : Thread nD τ).loc main_arg3)
abbrev aWgu : S32x2048x4096.Idx → EReal := m ((c : Thread nD τ).loc main_arg4)
abbrev aBgu : S32x4096.Idx → EReal := m ((c : Thread nD τ).loc main_arg5)
abbrev aWd : S32x2048x2048.Idx → EReal := m ((c : Thread nD τ).loc main_arg6)
abbrev aBd : S32x2048.Idx → EReal := m ((c : Thread nD τ).loc main_arg7)

/-- A row of a block, its input, an item's expert, and the last block. -/
def rowOf (w : Fin 83) (r : Fin 1280) : Fin 106240 := ⟨w.val * 1280 + r.val, by omega⟩
def xrow (w : Fin 83) (r : Fin 1280) : Fin 2048 → EReal := halves fun j => aX m c (ix2 (rowOf w r) j)
def expertOf (w : Fin 83) : Fin 32 := ⟨(wE (pf m) w).toNat, hL.expert w⟩
def lastB : ℕ := (wB (pf m) (82 : Fin 83)).toNat

/-- A live row's column with its first `n` chunks. -/
def rowAcc (w : Fin 83) (r : Fin 1280) (j : Fin 2048) (n : ℕ) : EReal :=
  acc (aWgu m c) (aBgu m c) (aWd m c) (aBd m c) (expertOf m hL w) (xrow m c w r) j n

/-- What point `t` leaves in its output block. -/
def Left (c : Dev nD) (t : ℕ) (X : S1280x2048.Idx → EReal) : Prop :=
  ∀ w : Fin 83, w.val = min (t / 8) (lastB m) → ∀ r : Fin 1280, (r.val : ℤ) < (wR (pf m) w).toInt → ∀ j : Fin 2048,
    X (ix2 r j) = rowAcc m hL c w r j (if t / 8 ≤ lastB m then t % 8 + 1 else 8)

/-- What the scratch holds before point `t`. -/
def Scr (c : Dev nD) (t : ℕ) (s : S1280x2048.Idx → EReal) : Prop :=
  t % 8 ≠ 0 → ∀ w : Fin 83, w.val = t / 8 → ∀ r : Fin 1280, (r.val : ℤ) < (wR (pf m) w).toInt → ∀ k : Fin 2048, s (ix2 r k) = xrow m c w r k

theorem scr_zero (c : Dev nD) (s : S1280x2048.Idx → EReal) : Scr m c 0 s := fun h => absurd rfl h

include hL in
theorem block_toNat (w : Fin 83) : (wB (pf m) w).toNat = min w.val (lastB m) := hL.block w
theorem lastB_lt (hL : ListOk (pf m 0) (pf m 1) (pf m 2)) : lastB m < 83 := hL.last
include hL in
theorem live_le (w : Fin 83) (h : 0 < (wR (pf m) w).toInt) : w.val ≤ lastB m := by
  rcases hL.none w with h' | h'
  · exact h'
  · exact absurd h (by exact not_lt.mpr h')

/-- A point whose successor takes the same block keeps it. -/
theorem flush_false (u : Fin (cfg m hL).N) (h : u.val + 1 < (cfg m hL).N) (e : min (u.val / 8) (lastB m) = min ((u.val + 1) / 8) (lastB m)) :
    ((cfg m hL).win 7).flush u = false := by
  have e1 : ((cfg m hL).win 7).index u = ![(wB (pf m) (pw m hL u)).toNat, 0] := transform7 (pf m) (grid0.coords u)
  have e2 : ((cfg m hL).win 7).index ⟨u.val + 1, h⟩ = ![(wB (pf m) (pw m hL ⟨u.val + 1, h⟩)).toNat, 0] := transform7 (pf m) (grid0.coords ⟨u.val + 1, h⟩)
  have hb : (wB (pf m) (pw m hL u)).toNat = (wB (pf m) (pw m hL ⟨u.val + 1, h⟩)).toNat := by
    rw [block_toNat m hL, block_toNat m hL, pw_val, pw_val]
    exact e
  have hi : ((cfg m hL).win 7).index ⟨u.val + 1, h⟩ = ((cfg m hL).win 7).index u := by rw [e1, e2, hb]
  unfold Window.flush
  have h1 : ¬ u.val + 1 = (cfg m hL).grid.N := Nat.ne_of_lt h
  simp only [h1, Bool.and_eq_false_iff]
  right
  simp only [decide_false, Bool.false_or, decide_eq_false_iff_not]
  rintro ⟨h', hne⟩
  exact hne hi

/-- What a point adds to a live row is its chunk. -/
theorem chunk_term (t : Fin (cfg m hL).N) (hr : 0 < (wR (pf m) (pw m hL t)).toInt) (x : Fin 2048 → EReal) (j : Fin 2048) :
    chunkAdd (iblk m hL c 1 t) (iblk m hL c 2 t) (iblk m hL c 5 t) (iblk m hL c 3 t) (iblk m hL c 4 t) x j
      = ∑ f : Fin 256, term (aWgu m c) (aBgu m c) (aWd m c) (expertOf m hL (pw m hL t)) x j (256 * (t.val % 8) + f.val) := by
  unfold chunkAdd
  refine Finset.sum_congr rfl fun f _ => ?_
  have hc : chunk (wR (pf m) (pw m hL t)) (pc m hL t) = t.val % 8 := (if_pos hr).trans (pc_val m hL t)
  have hlt : 256 * (t.val % 8) + f.val < 2048 := by have := f.isLt; omega
  have eE : (expertOf m hL (pw m hL t)).val = (wE (pf m) (pw m hL t)).toNat := rfl
  unfold term
  rw [dif_pos hlt]
  unfold hid
  have b1 : ∀ k : Fin 2048, (iblk m hL c 1 t : S1x2048x256.Idx → EReal) (ix3 0 k f) = aWgu m c (ix3 (expertOf m hL (pw m hL t)) k ⟨256 * (t.val % 8) + f.val, by omega⟩) :=
    fun k => blk1 m hL c t k f _ _ eE (by rw [hc]; show 256 * (t.val % 8) + f.val = _; omega)
  have b2 : ∀ k : Fin 2048, (iblk m hL c 2 t : S1x2048x256.Idx → EReal) (ix3 0 k f) = aWgu m c (ix3 (expertOf m hL (pw m hL t)) k ⟨2048 + (256 * (t.val % 8) + f.val), by omega⟩) :=
    fun k => blk2 m hL c t k f _ _ eE (by rw [hc]; show 2048 + (256 * (t.val % 8) + f.val) = _; omega)
  have b3 : (iblk m hL c 3 t : S1x1x256.Idx → EReal) (ix3 0 0 f) = aBgu m c (ix2 (expertOf m hL (pw m hL t)) ⟨256 * (t.val % 8) + f.val, by omega⟩) :=
    blk3 m hL c t f _ _ eE (by rw [hc]; show 256 * (t.val % 8) + f.val = _; omega)
  have b4 : (iblk m hL c 4 t : S1x1x256.Idx → EReal) (ix3 0 0 f) = aBgu m c (ix2 (expertOf m hL (pw m hL t)) ⟨2048 + (256 * (t.val % 8) + f.val), by omega⟩) :=
    blk4 m hL c t f _ _ eE (by rw [hc]; show 2048 + (256 * (t.val % 8) + f.val) = _; omega)
  have b5 : (iblk m hL c 5 t : S1x256x2048.Idx → EReal) (ix3 0 f j) = aWd m c (ix3 (expertOf m hL (pw m hL t)) ⟨256 * (t.val % 8) + f.val, hlt⟩ j) :=
    blk5 m hL c t f j _ _ eE (by rw [hc]; show 256 * (t.val % 8) + f.val = _; omega)
  simp only [b1, b2, b3, b4, b5]

theorem cond2_iff : ∀ t : Fin grid0.N, (k0_cond2 (grid0.coords t) = 1#1 ↔ t.val % 8 = 0) := by decide +kernel

/-- Every grid point keeps both. -/
theorem keeps : Keeps m hL (Left m hL) (Scr m) := by
  intro c t o s o' s' hs ho hst
  have hst : Step (F := Ideal) (grid0.coords t) (wR (pf m) (pw m hL t)) _ _ _ _ _ _ _ o s o' s' := hst
  obtain ⟨hidle, hlive⟩ := hst
  have ht : t.val < 664 := (cfg_N m hL) ▸ t.isLt
  have hpw := pw_val m hL t
  by_cases hr : 0 < (wR (pf m) (pw m hL t)).toInt
  · obtain ⟨o1, ⟨hfirst, hlater⟩, htiles⟩ := hlive ((cond1_iff _).mpr hr)
    have hle : t.val / 8 ≤ lastB m := hpw ▸ live_le m hL _ hr
    have h1280 : (wR (pf m) (pw m hL t)).toInt ≤ 1280 := hL.rows _
    have hnat : ((wR (pf m) (pw m hL t)).toNat : ℤ) = (wR (pf m) (pw m hL t)).toInt := by
      rw [BitVec.toInt_eq_toNat_of_msb]
      rw [BitVec.msb_eq_false_iff_two_mul_lt]
      by_contra hm
      rw [BitVec.toInt_eq_toNat_cond, if_neg hm] at hr
      have := (wR (pf m) (pw m hL t)).isLt
      omega
    have hs' : ∀ r : Fin 1280, (r.val : ℤ) < (wR (pf m) (pw m hL t)).toInt → ∀ k : Fin 2048, s' (ix2 r k) = xrow m c (pw m hL t) r k := by
      intro r hrr k
      by_cases h0 : t.val % 8 = 0
      · rw [(hfirst ((cond2_iff t).mpr h0)).1]
        refine (unpacked_apply _ _ r hrr k).trans ?_
        unfold xrow
        refine congrArg (fun f => halves f k) (funext fun j => ?_)
        refine blk0 m hL c t r j (rowOf (pw m hL t) r) ?_
        rw [block_toNat m hL, hpw, Nat.min_eq_left hle]
        show (pw m hL t).val * 1280 + r.val = _
        rw [hpw]
      · rw [(hlater (fun h => h0 ((cond2_iff t).mp h))).1]
        exact hs h0 _ hpw r hrr k
    refine ⟨fun w hw r hrr j => ?_, fun h0 w hw r hrr k => ?_⟩
    · have hww : w = pw m hL t := Fin.ext (by rw [hw, hpw, Nat.min_eq_left hle])
      subst hww
      have hadd := tiles_adds _ (by omega) htiles r (by omega) j
      have hx : (fun k : Fin 2048 => s' (ix2 r k)) = xrow m c (pw m hL t) r := funext fun k => hs' r hrr k
      rw [hadd, hx, chunk_term m hL c t hr, if_pos hle]
      unfold rowAcc
      rw [acc_succ]
      refine congrArg (· + _) ?_
      by_cases h0 : t.val % 8 = 0
      · rw [(hfirst ((cond2_iff t).mpr h0)).2, h0, acc_zero]
        exact (pay55_apply _ r j).trans (blk6 m hL c t j _ rfl)
      · rw [(hlater (fun h => h0 ((cond2_iff t).mp h))).2]
        have hu : (⟨t.val - 1, by have := t.isLt; omega⟩ : Fin (cfg m hL).N).val + 1 = t.val := by show t.val - 1 + 1 = t.val; omega
        have hl := ho ⟨t.val - 1, by have := t.isLt; omega⟩ hu (flush_false m hL _ (by rw [hu]; exact t.isLt) (by
          show min ((t.val - 1) / 8) _ = min ((t.val - 1 + 1) / 8) _
          rw [show (t.val - 1) / 8 = (t.val - 1 + 1) / 8 by omega]))
        have hl := hl (pw m hL t) (by show _ = min ((t.val - 1) / 8) _; rw [hpw]; omega) r hrr j
        refine hl.trans ?_
        show rowAcc m hL c (pw m hL t) r j (if (t.val - 1) / 8 ≤ lastB m then (t.val - 1) % 8 + 1 else 8) = _
        rw [if_pos (by omega), show (t.val - 1) % 8 + 1 = t.val % 8 by omega]
        rfl
    · have hww : w = pw m hL t := Fin.ext (by rw [hw, hpw]; omega)
      subst hww
      exact hs' r hrr k
  · obtain ⟨rfl, rfl⟩ := hidle (fun h => hr ((cond1_iff _).mp h))
    refine ⟨fun w hw r hrr j => ?_, fun h0 w hw r hrr k => ?_⟩
    · by_cases hle : t.val / 8 ≤ lastB m
      · have hww : w = pw m hL t := Fin.ext (by rw [hw, hpw, Nat.min_eq_left hle])
        subst hww
        exact absurd hrr (by omega)
      · have hu : (⟨t.val - 1, by have := t.isLt; omega⟩ : Fin (cfg m hL).N).val + 1 = t.val := by show t.val - 1 + 1 = t.val; omega
        have hl := ho ⟨t.val - 1, by have := t.isLt; omega⟩ hu (flush_false m hL _ (by rw [hu]; exact t.isLt) (by
          show min ((t.val - 1) / 8) _ = min ((t.val - 1 + 1) / 8) _
          omega))
        have hl := hl w (by show _ = min ((t.val - 1) / 8) _; omega) r hrr j
        refine hl.trans ?_
        show rowAcc m hL c w r j (if (t.val - 1) / 8 ≤ lastB m then (t.val - 1) % 8 + 1 else 8) = _
        rw [if_neg hle]
        congr 1
        split <;> omega
    · have hww : w = pw m hL t := Fin.ext (by rw [hw, hpw]; omega)
      subst hww
      exact absurd hrr (by omega)

end Cert.Kernel2Ideal.Experts
-- ==== Proof.ExpertsOut.lean ====
/-
  What the experts' call ends with over the extended reals: every live row of every block up to the last holds its expert's output.
-/
module

public import proofs.«01_k».proof.Proof.ExpertsKeeps

@[expose] public section

set_option maxRecDepth 65536

noncomputable section

namespace Cert.Kernel2Ideal.Experts

open Cert.Kernel2Ideal Cert.Kernel2Ideal.Gen
open Idealize.ShloMosaic Idealize.ShloMosaic.TcCoe
open Idealize.SL Idealize.SL.Sem
open Idealize.ShloMosaic.Pipeline (RDat Cfg Window cellOf)

variable (m : (ℓ : Loc nD τ sig) → Buf (Elt Ideal) ℓ) (hL : ListOk (pf m 0) (pf m 1) (pf m 2)) (c : Dev nD)

/-- The proof data at what is kept. -/
abbrev rd : RDat τ (Elt Ideal) Unit ℕ (UR sig nD τ) ℕ (cfg m hL) c := rdat m hL (Left m hL) (Scr m) c

/-- A point ending its block writes it back. -/
theorem flush_true (u : Fin (cfg m hL).N) (h : u.val + 1 = (cfg m hL).N ∨ (u.val % 8 = 7 ∧ u.val / 8 < lastB m)) :
    ((cfg m hL).win 7).flush u = true := by
  have e1 : ((cfg m hL).win 7).index u = ![(wB (pf m) (pw m hL u)).toNat, 0] := transform7 (pf m) (grid0.coords u)
  unfold Window.flush
  rcases h with h | ⟨h7, hlt⟩
  · have h1 : u.val + 1 = (cfg m hL).grid.N := h
    simp only [h1, decide_true, Bool.true_or, Bool.and_true]
    rfl
  · by_cases h1 : u.val + 1 = (cfg m hL).grid.N
    · simp only [h1, decide_true, Bool.true_or, Bool.and_true]
      rfl
    · have h2 : u.val + 1 < (cfg m hL).N := by
        have := u.isLt
        have h1 : ¬ u.val + 1 = (cfg m hL).N := h1
        omega
      have e2 : ((cfg m hL).win 7).index ⟨u.val + 1, h2⟩ = ![(wB (pf m) (pw m hL ⟨u.val + 1, h2⟩)).toNat, 0] := transform7 (pf m) (grid0.coords ⟨u.val + 1, h2⟩)
      have hne : ((cfg m hL).win 7).index ⟨u.val + 1, h2⟩ ≠ ((cfg m hL).win 7).index u := by
        rw [e1, e2]
        intro h
        have h0 : (wB (pf m) (pw m hL ⟨u.val + 1, h2⟩)).toNat = (wB (pf m) (pw m hL u)).toNat := congrFun h 0
        rw [block_toNat m hL, block_toNat m hL, pw_val, pw_val] at h0
        have h0 : min ((u.val + 1) / 8) (lastB m) = min (u.val / 8) (lastB m) := h0
        omega
      simp only [Bool.and_eq_true, Bool.or_eq_true, decide_eq_true_eq]
      exact ⟨rfl, Or.inr ⟨h2, hne⟩⟩

/-- Where the output's block at a point lies in the result. -/
theorem emb7 (u : Fin (cfg m hL).N) (r : Fin 1280) (j : Fin 2048) (b : Fin 83) (hb : b.val = min (u.val / 8) (lastB m)) :
    (((cfg m hL).win 7).blk u).view.emb (ix2 r j : S1280x2048.Idx) = (ix2 (rowOf b r) j : S106240x2048.Idx) := by
  have e := transform7 (pf m) (grid0.coords u)
  funext a
  refine Fin.ext ?_
  match a with
  | ⟨0, _⟩ =>
    show cc0_transform_7 k0_off1_inb numel1_S1 (pf m) (grid0.coords u) 0 * 1280 + 1 * r.val = b.val * 1280 + r.val
    rw [congrFun e 0]
    show (wB (pf m) (pw m hL u)).toNat * 1280 + 1 * r.val = _
    rw [block_toNat m hL, pw_val, hb]
    omega
  | ⟨1, _⟩ =>
    show cc0_transform_7 k0_off1_inb numel1_S1 (pf m) (grid0.coords u) 1 * 2048 + 1 * j.val = j.val
    rw [congrFun e 1]
    show 0 * 2048 + 1 * j.val = _
    omega

/-- A block written back, read at one of its rows. -/
theorem write7 (u : Fin (cfg m hL).N) (G₀ : S106240x2048.Idx → EReal) (X : S1280x2048.Idx → EReal) (r : Fin 1280) (j : Fin 2048) (b : Fin 83)
    (hb : b.val = min (u.val / 8) (lastB m)) :
    (((cfg m hL).win 7).blk u).view.write (Elt Ideal) G₀ (((cfg m hL).win 7).cut ((cfg m hL).grid.coords u) X) Finset.univ (ix2 (rowOf b r) j : S106240x2048.Idx)
      = X (ix2 r j) := by
  have h := View.write_emb_of_mem (v := (((cfg m hL).win 7).blk u).view) (Val := Elt Ideal) G₀ (((cfg m hL).win 7).cut ((cfg m hL).grid.coords u) X)
    (Finset.mem_univ (ix2 r j : S1280x2048.Idx))
  refine (congrArg _ (emb7 m hL u r j b hb).symm).trans (h.trans ((cast_eq _ _).trans ?_))
  exact congrArg X (funext fun a => Fin.ext rfl)

/-- The same off the block. -/
theorem write7_off (u : Fin (cfg m hL).N) (G₀ : S106240x2048.Idx → EReal) (X : S1280x2048.Idx → EReal) (r : Fin 1280) (j : Fin 2048) (b : Fin 83)
    (hb : b.val ≠ min (u.val / 8) (lastB m)) :
    (((cfg m hL).win 7).blk u).view.write (Elt Ideal) G₀ (((cfg m hL).win 7).cut ((cfg m hL).grid.coords u) X) Finset.univ (ix2 (rowOf b r) j : S106240x2048.Idx)
      = G₀ (ix2 (rowOf b r) j) := by
  refine View.write_of_not_mem _ _ _ fun hm => ?_
  obtain ⟨y', -, hy⟩ := Finset.mem_map.mp hm
  have key : ∃ y : S1280x2048.Idx, (((cfg m hL).win 7).blk u).view.emb y = (ix2 (rowOf b r) j : S106240x2048.Idx) := ⟨y', hy⟩
  clear hy
  obtain ⟨y, hy⟩ := key
  have hlast := lastB_lt m hL
  have hlt : min (u.val / 8) (lastB m) < 83 := by omega
  have e := emb7 m hL u (y 0) (y 1) ⟨_, hlt⟩ rfl
  have hyy : y = (ix2 (y 0) (y 1) : S1280x2048.Idx) := eq_ix2 y
  rw [hyy] at hy
  have h0 := congrArg (fun i : S106240x2048.Idx => (i 0).val) (e.symm.trans hy)
  have h0 : min (u.val / 8) (lastB m) * 1280 + (y 0).val = b.val * 1280 + r.val := h0
  have h1 : (y 0).val < 1280 := (y 0).isLt
  have h2 := r.isLt
  omega

/-- After the write-backs of the points below `t`, the blocks ended by then hold their rows' outputs. -/
theorem arr_rows (t : ℕ) (ht : t ≤ 664) (G : S106240x2048.Idx → EReal) (h : (rd m hL c).ArrAt 7 t G) (b : Fin 83)
    (hb : (b.val < lastB m ∧ 8 * b.val + 8 ≤ t) ∨ (b.val = lastB m ∧ t = 664)) (r : Fin 1280) (hr : (r.val : ℤ) < (wR (pf m) b).toInt) (j : Fin 2048) :
    G (ix2 (rowOf b r) j) = rowAcc m hL c b r j 8 := by
  induction t generalizing G b r j with
  | zero => omega
  | succ t ih =>
    have htN : t < (cfg m hL).N := by rw [cfg_N]; omega
    unfold RDat.ArrAt at h
    simp only [htN, dite_true] at h
    have hlast := lastB_lt m hL
    by_cases hf : ((cfg m hL).win 7).flush ⟨t, htN⟩ = true
    · rw [if_pos hf] at h
      obtain ⟨G₀, X, hG₀, ⟨Y, -, hX⟩, rfl⟩ := h
      have hX : Left m hL c t X := hX
      by_cases he : b.val = min (t / 8) (lastB m)
      · refine (write7 m hL ⟨t, htN⟩ G₀ X r j b he).trans ((hX b he r hr j).trans ?_)
        congr 1
        split
        · by_contra hne
          refine absurd hf (by rw [flush_false m hL ⟨t, htN⟩ (by show t + 1 < _; rw [cfg_N]; omega) (by show min (t / 8) _ = min ((t + 1) / 8) _; omega)]; decide)
        · rfl
      · exact (write7_off m hL ⟨t, htN⟩ G₀ X r j b he).trans (ih (by omega) G₀ hG₀ b (by omega) r hr j)
    · rw [if_neg hf] at h
      refine ih (by omega) G h b ?_ r hr j
      by_contra hcon
      refine hf (flush_true m hL ⟨t, htN⟩ ?_)
      have hN := cfg_N m hL
      show t + 1 = _ ∨ (t % 8 = 7 ∧ t / 8 < lastB m)
      omega

/-- The result's live rows, whatever the call ends with. -/
theorem result_rows (G : S106240x2048.Idx → EReal) (h : (rd m hL c).ArrAt 7 (cfg m hL).N G) (b : Fin 83) (r : Fin 1280)
    (hr : (r.val : ℤ) < (wR (pf m) b).toInt) (j : Fin 2048) : G (ix2 (rowOf b r) j) = rowAcc m hL c b r j 8 := by
  rw [cfg_N] at h
  have hle := live_le m hL b (by omega)
  have := b.isLt
  have := lastB_lt m hL
  exact arr_rows m hL c 664 (le_refl _) G h b (by omega) r hr j

end Cert.Kernel2Ideal.Experts
-- ==== Proof.ExpertsRef.lean ====
/-
  What the plain program of the experts' call computes: for a row of block `b`, the down product of its gated hidden values with
  the weights of the block's expert, plus the expert's bias.
-/
module

public import proofs.«01_k».proof.Proof.ExpertsKeeps
public import proofs.«01_k».proof.Proof.Gen.Reference2Ideal.Run
public import Idealize.ShloMosaic.Lib.Pointwise
public import Idealize.ShloMosaic.Lib.Routing.OpsPair
public import Idealize.ShloMosaic.Lib.Routing.Ops

@[expose] public section

set_option maxRecDepth 65536

noncomputable section

namespace Cert.Reference2Ideal.Experts

open Cert.Reference2Ideal Cert.Reference2Ideal.Gen Cert.Reference2Ideal.Facts
open Idealize.ShloMosaic Idealize.ShloMosaic.TcCoe
open Cert.Kernel2Ideal.Experts (hid glu halves rowOf seven mseven alpha)

/-- Row `e` of a table of matrices: where the index column holds `e`, the gathered entry is the table's. -/
theorem gather_mat {α : Type} {nb A B n : ℕ} (d : GatherDims ⟨3, ![nb, A, B]⟩ ⟨2, ![n, 1]⟩ ⟨3, ![n, A, B]⟩) (hoff : d.offsetDims = [1, 2])
    (hcoll : d.collapsedSliceDims = [0]) (hob : d.operandBatchingDims = []) (hsim : d.startIndexMap = [0]) (hivd : d.indexVectorDim = 1)
    (x : (⟨3, ![nb, A, B]⟩ : Shape).Idx → α) (idx : IVec ⟨2, ![n, 1]⟩ 32) (p : Fin n) (y : Fin A) (z : Fin B) (e : Fin nb)
    (he : (idx (ix2 p (0 : Fin 1))).toInt = (e.val : ℤ)) :
    Host.gather d x idx (ix3 p y z) = x (ix3 e y z) := by
  have hn : ∀ a, a ∉ d.operandBatchingDims := fun a => by rw [hob]; exact List.not_mem_nil
  have hkept : d.sKept = [1, 2] := by
    show (⟨3, ![nb, A, B]⟩ : Shape).kept (d.collapsedSliceDims ++ d.operandBatchingDims) = _
    rw [hcoll, hob]
    rfl
  have hbatch : d.batchDims = [0] := by
    show (⟨3, ![n, A, B]⟩ : Shape).kept d.offsetDims = _
    rw [hoff]
    rfl
  have hst : ∀ a : Fin 3, a ≠ 0 → d.start (ix3 p y z) idx a = 0 := fun a ha => by
    unfold GatherDims.start
    exact dif_neg (by rw [hsim]; exact fun h => ha (List.mem_singleton.1 h))
  have pick : ∀ (l : List (Fin 3)) (i : ℕ) (hi : i < l.length) (X : Fin 3), l[i]? = some X → (ix3 p y z (l[i])).val = (ix3 p y z X).val := fun l i hi X h => by
    rw [List.getElem?_eq_getElem hi] at h
    rw [Option.some.inj h]
  unfold Host.gather
  refine congrArg x (funext fun a => Fin.ext ?_)
  show d.start (ix3 p y z) idx a + d.batchCoord (ix3 p y z) a + d.offCoord (ix3 p y z) a = _
  rw [d.batchCoord_eq_zero _ _ (hn a), Nat.add_zero]
  match a with
  | ⟨0, _⟩ =>
    show d.start (ix3 p y z) idx 0 + d.offCoord (ix3 p y z) 0 = e.val
    rw [d.offCoord_eq_zero _ _ (by rw [hkept]; simp), Nat.add_zero]
    unfold GatherDims.start
    have hm : (0 : Fin 3) ∈ d.startIndexMap := by rw [hsim]; exact List.mem_singleton.2 rfl
    rw [dif_pos hm, d.slice_collapsed 0 (by rw [hcoll]; exact List.mem_singleton.2 rfl)]
    have hsi : d.siIdx (ix3 p y z) ⟨d.startIndexMap.idxOf 0, List.idxOf_lt_length_iff.2 hm⟩ = ix2 p (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        refine (pick _ _ _ 0 ?_).trans rfl
        have hsk : d.siKept = [0] := by
          show (List.finRange 2).filter (·.val ≠ d.indexVectorDim) = _
          rw [hivd]
          rfl
        rw [hbatch, hsk]
        rfl
      | ⟨1, _⟩ => exact congrArg Fin.val (Subsingleton.elim (α := Fin 1) _ _)
    rw [hsi, he]
    have := e.isLt
    show min ((e.val : ℤ)).toNat (nb - 1) = e.val
    omega
  | ⟨1, _⟩ =>
    show d.start (ix3 p y z) idx 1 + d.offCoord (ix3 p y z) 1 = y.val
    rw [hst 1 (by decide), Nat.zero_add]
    unfold GatherDims.offCoord
    rw [dif_pos (by rw [hkept]; simp)]
    refine (pick _ _ _ 1 ?_).trans rfl
    rw [hkept, hoff]
    rfl
  | ⟨2, _⟩ =>
    show d.start (ix3 p y z) idx 2 + d.offCoord (ix3 p y z) 2 = z.val
    rw [hst 2 (by decide), Nat.zero_add]
    unfold GatherDims.offCoord
    rw [dif_pos (by rw [hkept]; simp)]
    refine (pick _ _ _ 2 ?_).trans rfl
    rw [hkept, hoff]
    rfl

variable (E : IVec S83 32) (X : IVec S106240x1024 32) (Wgu : FVec Ideal S32x2048x4096 .f32) (Bgu : FVec Ideal S32x4096 .f32)
  (Wd : FVec Ideal S32x2048x2048 .f32) (Bd : FVec Ideal S32x2048 .f32)

/-- The experts as a column of start indices. -/
def col : IVec S83x1 32 :=
  broadcastInDim S83x1 ![0] bcast_S83_S83x1_0 (select (cmpi .slt E (broadcastInDim S83 ![] bcast_S_S83 (constantI S_ 32 0#32))) (addi E (broadcastInDim S83 ![] bcast_S_S83 (constantI S_ 32 32#32))) E)

/-- The unpacked rows, by blocks. -/
def rows : FVec Ideal S83x1280x2048 .f32 :=
  shapeCast _ (concatenate S106240x2048 1 [⟨S106240x1024, (bitcastToFloat (F := Ideal) .f32 (Host.shli X (broadcastInDim S106240x1024 ![] bcast_S_S106240x1024 (constantI S_ 32 16#32))))⟩, ⟨S106240x1024, (bitcastToFloat (F := Ideal) .f32 (andi X (broadcastInDim S106240x1024 ![] bcast_S_S106240x1024 (constantI S_ 32 4294901760#32))))⟩] concatenates_S106240x1024_S106240x1024_S106240x2048_d1) shapeCasts_S106240x2048_S83x1280x2048

/-- The gate and up products with their bias. -/
def ups : FVec Ideal S83x1280x4096 .f32 :=
  addf (Host.dotGeneral dot_S83x1280x2048_S83x2048x4096_S83x1280x4096_2_1_1_2_0_0 none (rows X) (Host.gather gather_S32x2048x4096_S83x1_S83x2048x4096_12_0_n_n_0_1_120484096 Wgu (col E))) (broadcastInDim S83x1280x4096 ![0, 1, 2] bcast_S83x1x4096_S83x1280x4096_0_1_2 (broadcastInDim S83x1x4096 ![0, 2] bcast_S83x4096_S83x1x4096_0_2 (Host.gather gather_S32x4096_S83x1_S83x4096_1_0_n_n_0_1_14096 Bgu (col E))))

/-- The gated hidden values. -/
def gated (U : FVec Ideal S83x1280x4096 .f32) : FVec Ideal S83x1280x2048 .f32 :=
  mulf (mulf (addf (minimumf (broadcastInDim S83x1280x2048 ![] bcast_S_S83x1280x2048 (id (constant S_ .f32 0x40E00000#32))) (maximumf (broadcastInDim S83x1280x2048 ![] bcast_S_S83x1280x2048 (id (constant S_ .f32 0xC0E00000#32))) (extractStridedSlice S83x1280x2048 ![0, 0, 2048] U slices_S83x1280x4096_S83x1280x2048_0_0_2048))) (broadcastInDim S83x1280x2048 ![] bcast_S_S83x1280x2048 (constant S_ .f32 0x3F800000#32))) (minimumf (extractStridedSlice S83x1280x2048 ![0, 0, 0] U slices_S83x1280x4096_S83x1280x2048_0_0_0) (broadcastInDim S83x1280x2048 ![] bcast_S_S83x1280x2048 (constant S_ .f32 0x40E00000#32)))) (Host.divf (broadcastInDim S83x1280x2048 ![] bcast_S_S83x1280x2048 (constant S_ .f32 0x3F800000#32)) (addf (broadcastInDim S83x1280x2048 ![] bcast_S_S83x1280x2048 (constant S_ .f32 0x3F800000#32)) (Host.exp (Host.negf (mulf (broadcastInDim S83x1280x2048 ![] bcast_S_S83x1280x2048 (constant S_ .f32 0x3FD9DB23#32)) (minimumf (extractStridedSlice S83x1280x2048 ![0, 0, 0] U slices_S83x1280x4096_S83x1280x2048_0_0_0) (broadcastInDim S83x1280x2048 ![] bcast_S_S83x1280x2048 (constant S_ .f32 0x40E00000#32))))))))

/-- The down products with their bias. -/
def downs (G : FVec Ideal S83x1280x2048 .f32) : FVec Ideal S106240x2048 .f32 :=
  shapeCast _ (addf (Host.dotGeneral dot_S83x1280x2048_S83x2048x2048_S83x1280x2048_2_1_1_2_0_0 none G (Host.gather gather_S32x2048x2048_S83x1_S83x2048x2048_12_0_n_n_0_1_120482048 Wd (col E))) (broadcastInDim S83x1280x2048 ![0, 1, 2] bcast_S83x1x2048_S83x1280x2048_0_1_2 (broadcastInDim S83x1x2048 ![0, 2] bcast_S83x2048_S83x1x2048_0_2 (Host.gather gather_S32x2048_S83x1_S83x2048_1_0_n_n_0_1_12048 Bd (col E))))) shapeCasts_S83x1280x2048_S106240x2048

theorem res_eq (m : (ℓ : Loc nD τ sig) → Buf (Elt Ideal) ℓ) (c : Dev nD) :
    Value.res_main_v61 m c = downs (m ((c.tc : Thread nD τ).loc main_arg0)) (m ((c.tc : Thread nD τ).loc main_arg6)) (m ((c.tc : Thread nD τ).loc main_arg7))
      (gated (ups (m ((c.tc : Thread nD τ).loc main_arg0)) (m ((c.tc : Thread nD τ).loc main_arg3)) (m ((c.tc : Thread nD τ).loc main_arg4)) (m ((c.tc : Thread nD τ).loc main_arg5)))) := by
  unfold Value.res_main_v61 downs gated ups rows col
  rfl

theorem col_at (b : Fin 83) (h : (E (ix1 b)).toNat < 32) : col E (ix2 b (0 : Fin 1)) = E (ix1 b) := by
  unfold col
  pointwise
  exact Routing.wrap_of_lt _ _ (by show _ < 2 ^ 31; omega)

theorem col_toInt (b : Fin 83) (h : (E (ix1 b)).toNat < 32) : (col E (ix2 b (0 : Fin 1))).toInt = ((⟨(E (ix1 b)).toNat, h⟩ : Fin 32).val : ℤ) := by
  rw [col_at E b h]
  show _ = ((E (ix1 b)).toNat : ℤ)
  rw [BitVec.toInt_eq_toNat_cond, if_pos (by omega)]

theorem rows_at (b : Fin 83) (r : Fin 1280) (k : Fin 2048) : rows X (ix3 b r k) = halves (fun j => X (ix2 (rowOf b r) j)) k := by
  unfold rows halves
  pointwise
  rfl

theorem gated_at (U : FVec Ideal S83x1280x4096 .f32) (b : Fin 83) (r : Fin 1280) (h : Fin 2048) :
    gated U (ix3 b r h) = glu (U (ix3 b r ⟨h.val, by omega⟩)) (U (ix3 b r ⟨2048 + h.val, by omega⟩)) := by
  unfold gated glu
  pointwise
  rfl

theorem gather_up (b : Fin 83) (k : Fin 2048) (h : Fin 4096) (hE : (E (ix1 b)).toNat < 32) :
    Host.gather gather_S32x2048x4096_S83x1_S83x2048x4096_12_0_n_n_0_1_120484096 Wgu (col E) (ix3 b k h) = Wgu (ix3 ⟨(E (ix1 b)).toNat, hE⟩ k h) :=
  gather_mat _ rfl rfl rfl rfl rfl Wgu (col E) b k h _ (col_toInt E b hE)

theorem gather_down (b : Fin 83) (h j : Fin 2048) (hE : (E (ix1 b)).toNat < 32) :
    Host.gather gather_S32x2048x2048_S83x1_S83x2048x2048_12_0_n_n_0_1_120482048 Wd (col E) (ix3 b h j) = Wd (ix3 ⟨(E (ix1 b)).toNat, hE⟩ h j) :=
  gather_mat _ rfl rfl rfl rfl rfl Wd (col E) b h j _ (col_toInt E b hE)

theorem col_ofNat (b : Fin 83) (h : (E (ix1 b)).toNat < 32) : col E (ix2 b (0 : Fin 1)) = BitVec.ofNat 32 ((⟨(E (ix1 b)).toNat, h⟩ : Fin 32)).val := by
  rw [col_at E b h]
  exact BitVec.eq_of_toNat_eq (by rw [BitVec.toNat_ofNat, Nat.mod_eq_of_lt (by have := (E (ix1 b)).isLt; exact this)])

theorem gather_upBias (b : Fin 83) (h : Fin 4096) (hE : (E (ix1 b)).toNat < 32) :
    Host.gather gather_S32x4096_S83x1_S83x4096_1_0_n_n_0_1_14096 Bgu (col E) (ix2 b h) = Bgu (ix2 ⟨(E (ix1 b)).toNat, hE⟩ h) :=
  Routing.gather_row _ rfl rfl rfl rfl rfl Bgu (col E) b h _ (col_ofNat E b hE) (by decide)

theorem gather_downBias (b : Fin 83) (j : Fin 2048) (hE : (E (ix1 b)).toNat < 32) :
    Host.gather gather_S32x2048_S83x1_S83x2048_1_0_n_n_0_1_12048 Bd (col E) (ix2 b j) = Bd (ix2 ⟨(E (ix1 b)).toNat, hE⟩ j) :=
  Routing.gather_row _ rfl rfl rfl rfl rfl Bd (col E) b j _ (col_ofNat E b hE) (by decide)

theorem dot_up (P : FVec Ideal S83x1280x2048 .f32) (Q : FVec Ideal S83x2048x4096 .f32) (b : Fin 83) (r : Fin 1280) (h : Fin 4096) :
    Host.dotGeneral dot_S83x1280x2048_S83x2048x4096_S83x1280x4096_2_1_1_2_0_0 none P Q (ix3 b r h) = ∑ k : Fin 2048, P (ix3 b r k) * Q (ix3 b k h) := by
  pointwise

theorem bias_up (v : FVec Ideal S83x4096 .f32) (b : Fin 83) (r : Fin 1280) (h : Fin 4096) :
    broadcastInDim S83x1280x4096 ![0, 1, 2] bcast_S83x1x4096_S83x1280x4096_0_1_2 (broadcastInDim S83x1x4096 ![0, 2] bcast_S83x4096_S83x1x4096_0_2 v) (ix3 b r h) = v (ix2 b h) := by
  pointwise

theorem dot_down (P : FVec Ideal S83x1280x2048 .f32) (Q : FVec Ideal S83x2048x2048 .f32) (b : Fin 83) (r : Fin 1280) (j : Fin 2048) :
    Host.dotGeneral dot_S83x1280x2048_S83x2048x2048_S83x1280x2048_2_1_1_2_0_0 none P Q (ix3 b r j) = ∑ h : Fin 2048, P (ix3 b r h) * Q (ix3 b h j) := by
  pointwise

theorem bias_down (v : FVec Ideal S83x2048 .f32) (b : Fin 83) (r : Fin 1280) (j : Fin 2048) :
    broadcastInDim S83x1280x2048 ![0, 1, 2] bcast_S83x1x2048_S83x1280x2048_0_1_2 (broadcastInDim S83x1x2048 ![0, 2] bcast_S83x2048_S83x1x2048_0_2 v) (ix3 b r j) = v (ix2 b j) := by
  pointwise

theorem flat_any (Y : FVec Ideal S83x1280x2048 .f32) (i : Fin 106240) (j : Fin 2048) :
    shapeCast S106240x2048 Y shapeCasts_S83x1280x2048_S106240x2048 (ix2 i j) = Y (ix3 ⟨i.val / 1280, by omega⟩ ⟨i.val % 1280, by omega⟩ j) := by
  pointwise

theorem rowOf_block (b : Fin 83) (r : Fin 1280) (h) : (⟨(rowOf b r).val / 1280, h⟩ : Fin 83) = b :=
  Fin.ext ((by have := r.isLt; omega : ∀ n, n = b.val * 1280 + r.val → n / 1280 = b.val) _ rfl)

theorem rowOf_row (b : Fin 83) (r : Fin 1280) (h) : (⟨(rowOf b r).val % 1280, h⟩ : Fin 1280) = r :=
  Fin.ext ((by have := r.isLt; omega : ∀ n, n = b.val * 1280 + r.val → n % 1280 = r.val) _ rfl)

/-- Row `r` of block `b`, among the rows of the result. -/
theorem flat_at (Y : FVec Ideal S83x1280x2048 .f32) (b : Fin 83) (r : Fin 1280) (j : Fin 2048) :
    shapeCast S106240x2048 Y shapeCasts_S83x1280x2048_S106240x2048 (ix2 (rowOf b r) j) = Y (ix3 b r j) := by
  refine (flat_any Y (rowOf b r) j).trans ?_
  rw [rowOf_block, rowOf_row]

theorem add_at {s : Shape} (A B : FVec Ideal s .f32) (i : s.Idx) : addf A B i = A i + B i := rfl

theorem ups_at (b : Fin 83) (r : Fin 1280) (h : Fin 4096) (hE : (E (ix1 b)).toNat < 32) :
    ups E X Wgu Bgu (ix3 b r h) = ∑ k : Fin 2048, halves (fun j => X (ix2 (rowOf b r) j)) k * Wgu (ix3 ⟨(E (ix1 b)).toNat, hE⟩ k h) + Bgu (ix2 ⟨(E (ix1 b)).toNat, hE⟩ h) := by
  refine (congrFun (ups.eq_1 E X Wgu Bgu) _).trans ((add_at _ _ _).trans ?_)
  refine congrArg₂ (fun x y : EReal => x + y) ((dot_up _ _ b r h).trans (Finset.sum_congr rfl fun k _ => ?_)) ((bias_up _ b r h).trans (gather_upBias E Bgu b h hE))
  rw [rows_at, gather_up E Wgu b k h hE]

theorem downs_at (G : FVec Ideal S83x1280x2048 .f32) (b : Fin 83) (r : Fin 1280) (j : Fin 2048) (hE : (E (ix1 b)).toNat < 32) :
    downs E Wd Bd G (ix2 (rowOf b r) j) = ∑ h : Fin 2048, G (ix3 b r h) * Wd (ix3 ⟨(E (ix1 b)).toNat, hE⟩ h j) + Bd (ix2 ⟨(E (ix1 b)).toNat, hE⟩ j) := by
  refine (congrFun (downs.eq_1 E Wd Bd G) _).trans ((flat_at _ b r j).trans ((add_at _ _ _).trans ?_))
  refine (congrArg₂ (fun x y : EReal => x + y) ((dot_down _ _ b r j).trans (Finset.sum_congr rfl fun h _ => ?_)) ((bias_down _ b r j).trans (gather_downBias E Bd b j hE)))
  rw [gather_down E Wd b h j hE]

/-- The plain program's result at a row of block `b`, whose expert is in range. -/
theorem res_at (m : (ℓ : Loc nD τ sig) → Buf (Elt Ideal) ℓ) (c : Dev nD) (b : Fin 83) (r : Fin 1280) (j : Fin 2048)
    (E : IVec S83 32) (X : IVec S106240x1024 32) (Wgu : FVec Ideal S32x2048x4096 .f32) (Bgu : FVec Ideal S32x4096 .f32)
    (Wd : FVec Ideal S32x2048x2048 .f32) (Bd : FVec Ideal S32x2048 .f32)
    (h0 : m ((c.tc : Thread nD τ).loc main_arg0) = E) (h3 : m ((c.tc : Thread nD τ).loc main_arg3) = X) (h4 : m ((c.tc : Thread nD τ).loc main_arg4) = Wgu)
    (h5 : m ((c.tc : Thread nD τ).loc main_arg5) = Bgu) (h6 : m ((c.tc : Thread nD τ).loc main_arg6) = Wd) (h7 : m ((c.tc : Thread nD τ).loc main_arg7) = Bd)
    (hE : (E (ix1 b)).toNat < 32) :
    (Value.res_main_v61 m c : FVec Ideal S106240x2048 .f32) (ix2 (rowOf b r) j)
      = ∑ h : Fin 2048, hid Wgu Bgu ⟨(E (ix1 b)).toNat, hE⟩ (halves fun j => X (ix2 (rowOf b r) j)) h * Wd (ix3 ⟨(E (ix1 b)).toNat, hE⟩ h j) + Bd (ix2 ⟨(E (ix1 b)).toNat, hE⟩ j) := by
  rw [res_eq, h0, h3, h4, h5, h6, h7]
  refine (downs_at E Wd Bd _ b r j hE).trans (congrArg (· + _) (Finset.sum_congr rfl fun h _ => ?_))
  rw [gated_at, ups_at _ _ _ _ _ _ _ hE, ups_at _ _ _ _ _ _ _ hE]
  rfl

end Cert.Reference2Ideal.Experts
-- ==== Proof.ExpertsMask.lean ====
/-
  What the precondition and the mask of the experts' call say: the tables give every item an expert, at most 1280 rows and its
  block, the mask selects the rows below a block's count.
-/
module

public import proofs.«01_k».proof.Defs
public import proofs.«01_k».proof.Proof.ExpertsTables
public import proofs.«01_k».proof.Proof.Gen.Pre_tables_ok
public import proofs.«01_k».proof.Proof.Gen.On_filled
public import Idealize.ShloMosaic.Lib.Pointwise
public import Idealize.ShloMosaic.Lib.WordCmp
public import Idealize.ShloMosaic.Lib.StableHlo.Predicate

@[expose] public section

set_option maxRecDepth 65536

noncomputable section

namespace Cert.Experts

open Idealize.ShloMosaic
open Cert.Kernel2Ideal.Experts (ListOk)

theorem both_one {a b : BitVec 1} : IntOp.andi a b = 1#1 ↔ a = 1#1 ∧ b = 1#1 := by
  revert a b
  decide

theorem or_one {a b : BitVec 1} : IntOp.ori a b = 1#1 ↔ a = 1#1 ∨ b = 1#1 := by
  revert a b
  decide

theorem toInt_small (n : ℕ) (h : n < 2 ^ 31) : (BitVec.ofNat 32 n).toInt = n := WordCmp.toInt_ofNat_of_lt h

theorem toNat_of_bounds {x : BitVec 32} {n : ℕ} (h0 : 0 ≤ x.toInt) (h1 : x.toInt < n) (hn : n < 2 ^ 31) : x.toNat < n ∧ x.toInt = x.toNat := by
  have hx := x.isLt
  rw [BitVec.toInt_eq_toNat_cond] at h0 h1 ⊢
  split_ifs at h0 h1 ⊢ <;> omega

theorem sge_zero {x : BitVec 32} (h : IntOp.cmpi .sge x 0#32 = 1#1) : 0 ≤ x.toInt := by
  simpa [IntOp.cmpi, StableHlo.Predicate.ofBool_eq_one_iff, BitVec.sle] using h

theorem slt_lt {x y : BitVec 32} (h : IntOp.cmpi .slt x y = 1#1) : x.toInt < y.toInt := by
  simpa [IntOp.cmpi, StableHlo.Predicate.ofBool_eq_one_iff, BitVec.slt] using h

theorem sle_le {x y : BitVec 32} (h : IntOp.cmpi .sle x y = 1#1) : x.toInt ≤ y.toInt := by
  simpa [IntOp.cmpi, StableHlo.Predicate.ofBool_eq_one_iff, BitVec.sle] using h

theorem minsi_toInt (x y : BitVec 32) : (IntOp.minsi x y).toInt = min x.toInt y.toInt := by
  unfold IntOp.minsi
  simp only [BitVec.slt, BitVec.sle, decide_eq_true_eq]
  split_ifs <;> omega

/-- The precondition, as the facts the run needs. -/
theorem tables {F : FTy → Type} [FloatOps F] (e r b : IVec Pre_tables_ok.S83 32) (X : IVec Pre_tables_ok.S106240x1024 32)
    (Wgu : FVec F Pre_tables_ok.S32x2048x4096 .f32) (Bgu : FVec F Pre_tables_ok.S32x4096 .f32) (Wd : FVec F Pre_tables_ok.S32x2048x2048 .f32) (Bd : FVec F Pre_tables_ok.S32x2048 .f32)
    (h : Pre_tables_ok.fn (F := F) e r b X Wgu Bgu Wd Bd = fun _ => 1#1) : ListOk e r b := by
  have key : ∀ w : Fin 83, ((((((0 ≤ (e (ix1 w)).toInt ∧ (e (ix1 w)).toInt < 32) ∧ (r (ix1 w)).toInt ≤ 1280) ∧ 0 ≤ (b (ix1 82)).toInt) ∧ (b (ix1 82)).toInt < 83)
      ∧ (b (ix1 w)).toInt = min (w.val : ℤ) (b (ix1 82)).toInt) ∧ ((w.val : ℤ) ≤ (b (ix1 82)).toInt ∨ (r (ix1 w)).toInt ≤ 0)) := by
    intro w
    have hw := congrFun h (ix1 w)
    have ew : (BitVec.ofNat 32 w.val).toInt = (w.val : ℤ) := toInt_small _ (by have := w.isLt; omega)
    unfold Pre_tables_ok.fn Pre_tables_ok.fn_part1 at hw
    revert hw
    pointwise
    rw [both_one, both_one, both_one, both_one, both_one, both_one, or_one]
    rintro ⟨⟨⟨⟨⟨⟨h1, h2⟩, h3⟩, h4⟩, h5⟩, h6⟩, h7⟩
    refine ⟨⟨⟨⟨⟨⟨sge_zero h1, slt_lt h2⟩, sle_le h3⟩, sge_zero h4⟩, slt_lt h5⟩, ?_⟩, ?_⟩
    · rw [StableHlo.Predicate.cmpi_eq_iff.mp h6, minsi_toInt, ew]
    · rw [← ew]
      exact h7.imp sle_le sle_le
  obtain ⟨⟨⟨⟨_, l0⟩, l1⟩, _⟩, _⟩ := key 0
  obtain ⟨l2, l3⟩ := toNat_of_bounds l0 l1 (by decide)
  refine ⟨fun w => ?_, fun w => (key w).1.1.1.1.2, l2, fun w => ?_, fun w => ?_⟩
  · exact (toNat_of_bounds (key w).1.1.1.1.1.1 (key w).1.1.1.1.1.2 (by decide)).1
  · have hb := (key w).1.2
    have hw := w.isLt
    obtain ⟨_, h2⟩ := toNat_of_bounds (x := b (ix1 w)) (n := 83) (by omega) (by omega) (by decide)
    show (b (ix1 w)).toNat = min w.val (b (ix1 82)).toNat
    omega
  · have hn := (key w).2
    show w.val ≤ (b (ix1 82)).toNat ∨ (r (ix1 w)).toInt ≤ 0
    omega

/-- A row the mask selects is below its block's count. -/
theorem filled {F : FTy → Type} [FloatOps F] (e r b : IVec On_filled.S83 32) (X : IVec On_filled.S106240x1024 32)
    (Wgu : FVec F On_filled.S32x2048x4096 .f32) (Bgu : FVec F On_filled.S32x4096 .f32) (Wd : FVec F On_filled.S32x2048x2048 .f32) (Bd : FVec F On_filled.S32x2048 .f32)
    (i : Fin 106240) (j : Fin 2048) (h : On_filled.fn (F := F) e r b X Wgu Bgu Wd Bd (ix2 i j) = 1#1) :
    ((i.val % 1280 : ℕ) : ℤ) < (r (ix1 ⟨i.val / 1280, by omega⟩)).toInt := by
  unfold On_filled.fn at h
  revert h
  pointwise
  intro h
  have h' := slt_lt h
  rw [toInt_small _ (by omega)] at h'
  exact h'

end Cert.Experts
-- ==== Proof.ExpertsClaim.lean ====
/-
  The experts' call: its frames, and that over the extended reals every row below its block's count ends with the output of the
  block's expert, as the plain program has it.
-/
module

public import proofs.«01_k».proof.Defs
public import proofs.«01_k».proof.Proof.ExpertsEnd
public import proofs.«01_k».proof.Proof.ExpertsOut
public import proofs.«01_k».proof.Proof.ExpertsRef
public import proofs.«01_k».proof.Proof.ExpertsMask
public import proofs.«01_k».proof.Proof.Gen.Kernel2
public import proofs.«01_k».proof.Proof.Gen.Kernel2Ideal
public import proofs.«01_k».proof.Proof.Gen.Reference2Ideal

@[expose] public section

set_option maxRecDepth 65536

noncomputable section

namespace Cert.Experts

open Idealize.ShloMosaic Idealize.SL.Sem
open Cert.Kernel2Ideal.Experts

/-! ## The two kernel programs have one text -/

theorem bodies_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => rfl

theorem defs_eq : Cert.Kernel2.defs (F := Bits) = Cert.Kernel2Ideal.defs (F := Bits) :=
  congrArg (Pipeline.defs (Cert.Kernel2Ideal.pcfgs (F := Bits))) bodies_eq

/-- A run of the ideal program's text at the float words is a run of the kernel. -/
theorem of_ideal_text (m : (ℓ : Loc Cert.Kernel2Ideal.nD Cert.Kernel2Ideal.τ Cert.Kernel2Ideal.sig) → Buf (Elt Bits) ℓ)
    (ρ : Dev Cert.Kernel2Ideal.nD → PrngReg) (Q) (h : θ_run (Cert.Kernel2Ideal.defs (F := Bits)) (onTc (Cert.Kernel2Ideal.main (F := Bits))) ⟨m, fun _ => 0, ρ⟩ Q) :
    θ_run (Cert.Kernel2.defs (F := Bits)) (onTc (Cert.Kernel2.main (F := Bits))) ⟨m, fun _ => 0, ρ⟩ Q := by
  rw [defs_eq]
  exact h

/-! ## The frames -/

/-- The precondition's tables are the ones the call reads. -/
theorem list_ok {F : FTy → Type} [FloatOps F] (m : (ℓ : Loc Cert.Kernel2Ideal.nD Cert.Kernel2Ideal.τ Cert.Kernel2Ideal.sig) → Buf (Elt F) ℓ)
    (h : ∀ c : Dev Cert.Kernel2Ideal.nD, ListOk (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))) : ListOk (pf m 0) (pf m 1) (pf m 2) := by
  have h0 := h 0
  rw [← pf0 m, ← pf1 m, ← pf2 m] at h0
  exact h0

theorem frame_kernel : Cert.quiescent_Kernel2 := fun m ρ hp =>
  of_ideal_text m ρ _ (frame_run (F := Bits) m ρ (list_ok m fun c => tables _ _ _ _ _ _ _ _ (hp c)))

theorem frame_ideal : Cert.quiescent_Kernel2Ideal := fun m ρ hp =>
  frame_run (F := Ideal) m ρ (list_ok m fun c => tables _ _ _ _ _ _ _ _ (hp c))

theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ref_pre : Cert.quiescent_Reference2Ideal_pre_tables_ok := fun m ρ _ =>
  (θ_run Cert.Reference2Ideal.defs _ _).mono (fun r h => ⟨fun c => (h c).2, sem_eq_zero_of_no_sems (by decide) r.2⟩)
    (Cert.Reference2Ideal.Value.run (F := Ideal) m ρ)

/-! ## The values -/

/-- The rows of a block, by the row of the result. -/
theorem rowOf_div (i : Fin 106240) : rowOf ⟨i.val / 1280, by omega⟩ ⟨i.val % 1280, by omega⟩ = i :=
  Fin.ext (by show i.val / 1280 * 1280 + i.val % 1280 = i.val; omega)

/-- A row's output: the down product of the gated hidden values of its block's expert, and the bias. -/
def rowOut (E : Fin 32) (x : Fin 2048 → EReal) (Wgu : Cert.Kernel2Ideal.S32x2048x4096.Idx → EReal) (Bgu : Cert.Kernel2Ideal.S32x4096.Idx → EReal)
    (Wd : Cert.Kernel2Ideal.S32x2048x2048.Idx → EReal) (Bd : Cert.Kernel2Ideal.S32x2048.Idx → EReal) (j : Fin 2048) : EReal :=
  ∑ h : Fin 2048, hid Wgu Bgu E x h * Wd (ix3 E h j) + Bd (ix2 E j)

abbrev KMem := (ℓ : Loc Cert.Kernel2Ideal.nD Cert.Kernel2Ideal.τ Cert.Kernel2Ideal.sig) → Buf (Elt Ideal) ℓ
abbrev RMem := (ℓ : Loc Cert.Reference2Ideal.nD Cert.Reference2Ideal.τ Cert.Reference2Ideal.sig) → Buf (Elt Ideal) ℓ

theorem kernel_row (m : KMem) (hL : ListOk (pf m 0) (pf m 1) (pf m 2)) (G : Cert.Kernel2Ideal.S106240x2048.Idx → EReal)
    (h : (rd m hL 0).ArrAt 7 (cfg m hL).N G) (b : Fin 83) (r : Fin 1280) (hr : (r.val : ℤ) < (wR (pf m) b).toInt) (j : Fin 2048) :
    G (ix2 (rowOf b r) j) = rowOut (expertOf m hL b) (halves fun k => aX m 0 (ix2 (rowOf b r) k)) (aWgu m 0) (aBgu m 0) (aWd m 0) (aBd m 0) j :=
  (result_rows m hL 0 G h b r hr j).trans (acc_all _ _ _ _ _ _ _)

/-- The plain program's result on device `c`. -/
def outOf (m : RMem) (c : Dev Cert.Reference2Ideal.nD) : FVec Ideal Cert.Reference2Ideal.S106240x2048 .f32 := Cert.Reference2Ideal.Value.res_main_v61 m c

theorem ref_row (m' : RMem) (c : Dev Cert.Reference2Ideal.nD) (b : Fin 83) (r : Fin 1280) (j : Fin 2048)
    (E : IVec Cert.Reference2Ideal.S83 32) (X : IVec Cert.Reference2Ideal.S106240x1024 32) (Wgu : FVec Ideal Cert.Reference2Ideal.S32x2048x4096 .f32)
    (Bgu : FVec Ideal Cert.Reference2Ideal.S32x4096 .f32) (Wd : FVec Ideal Cert.Reference2Ideal.S32x2048x2048 .f32) (Bd : FVec Ideal Cert.Reference2Ideal.S32x2048 .f32)
    (h0 : m' ((c.tc : Thread Cert.Reference2Ideal.nD Cert.Reference2Ideal.τ).loc Cert.Reference2Ideal.main_arg0) = E)
    (h3 : m' ((c.tc : Thread Cert.Reference2Ideal.nD Cert.Reference2Ideal.τ).loc Cert.Reference2Ideal.main_arg3) = X)
    (h4 : m' ((c.tc : Thread Cert.Reference2Ideal.nD Cert.Reference2Ideal.τ).loc Cert.Reference2Ideal.main_arg4) = Wgu)
    (h5 : m' ((c.tc : Thread Cert.Reference2Ideal.nD Cert.Reference2Ideal.τ).loc Cert.Reference2Ideal.main_arg5) = Bgu)
    (h6 : m' ((c.tc : Thread Cert.Reference2Ideal.nD Cert.Reference2Ideal.τ).loc Cert.Reference2Ideal.main_arg6) = Wd)
    (h7 : m' ((c.tc : Thread Cert.Reference2Ideal.nD Cert.Reference2Ideal.τ).loc Cert.Reference2Ideal.main_arg7) = Bd)
    (e : Fin 32) (he : (E (ix1 b)).toNat = e.val) :
    outOf m' c (ix2 (rowOf b r) j) = rowOut e (halves fun k => X (ix2 (rowOf b r) k)) Wgu Bgu Wd Bd j := by
  have hE : (E (ix1 b)).toNat < 32 := he ▸ e.isLt
  obtain rfl : e = ⟨_, hE⟩ := Fin.ext he.symm
  exact Cert.Reference2Ideal.Experts.res_at m' c b r j E X Wgu Bgu Wd Bd h0 h3 h4 h5 h6 h7 hE

theorem expert_word (m : KMem) (hL : ListOk (pf m 0) (pf m 1) (pf m 2)) (E : IVec Cert.Kernel2Ideal.S83 32) (h : pf m 0 = E) (b : Fin 83) :
    (E (ix1 b)).toNat = (expertOf m hL b).val := by
  subst h
  rfl

theorem live_row (m : KMem) (R : IVec Cert.Kernel2Ideal.S83 32) (h : pf m 1 = R) (b : Fin 83) (r : ℤ) (hr : r < (R (ix1 b)).toInt) :
    r < (wR (pf m) b).toInt := by
  subst h
  exact hr

/-- Over the extended reals: both programs end with the same value in every entry of every row below its block's count. -/
theorem same_ideal : Cert.algebraic_Kernel2Ideal_Reference2Ideal_on_filled := fun m ρ m' ρ' hp ha =>
  have hL : ListOk (pf m 0) (pf m 1) (pf m 2) := list_ok m fun c => tables _ _ _ _ _ _ _ _ (hp c)
  ⟨fun c => outOf m' c,
    (θ_run Cert.Kernel2Ideal.defs _ _).mono (fun r h c => ⟨fun i hi => by
        obtain ⟨i0, j, rfl⟩ : ∃ (i0 : Fin 106240) (j : Fin 2048), i = ix2 i0 j := ⟨i 0, i 1, eq_ix2 i⟩
        obtain rfl : c = 0 := Subsingleton.elim _ _
        have hr := filled _ _ _ _ _ _ _ _ i0 j hi
        have hk := kernel_row m hL _ (h.1 0).2 ⟨i0.val / 1280, by omega⟩ ⟨i0.val % 1280, by omega⟩ (live_row m _ (pf1 m) _ _ hr) j
        have hx := ref_row m' 0 ⟨i0.val / 1280, by omega⟩ ⟨i0.val % 1280, by omega⟩ j _ _ _ _ _ _ (ha 0).1 (ha 0).2.2.2.1
          (ha 0).2.2.2.2.1 (ha 0).2.2.2.2.2.1 (ha 0).2.2.2.2.2.2.1 (ha 0).2.2.2.2.2.2.2 (expertOf m hL ⟨i0.val / 1280, by omega⟩)
          (expert_word m hL _ (pf0 m) _)
        have hkx := hk.trans hx.symm
        rw [rowOf_div] at hkx
        exact hkx, (h.1 c).1⟩)
      (ends (F := Ideal) m ρ hL (Left m hL) (Scr m) (keeps m hL) (scr_zero m)),
    (θ_run Cert.Reference2Ideal.defs _ _).mono (fun r h c => ⟨fun i _ => congrFun (h c).1 i, (h c).2⟩)
      (Cert.Reference2Ideal.Value.run (F := Ideal) m' ρ')⟩

end Cert.Experts
-- ==== Proof.CombineRows.lean ====
/-
  The combination of the sample batch: 128 row copies of the experts' rows started on one semaphore and drained by 128
  one-row waits, as a batch whose deliveries are the scratch rows at the copied contents and the source rows back.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.Routed
public import Idealize.ShloMosaic.Lib.Batch
public import Idealize.ShloMosaic.Lib.ShareLeaves
public import Idealize.ShloMosaic.Lib.Exec
public import Idealize.ShloMosaic.Lib.Tactic
public import Idealize.ShloMosaic.Lib.Pointwise.Index

@[expose] public section

set_option maxRecDepth 16384

noncomputable section

namespace Cert.Kernel3Ideal.Combine

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The rows -/

/-- A slot that names a row of the experts' rows. -/
abbrev InRows (v : BitVec 32) : Prop := ∀ a, (![v.toNat, 0] : Fin 2 → ℕ) a + S1x2048.size a ≤ S106240x2048.size a

theorem inRows_of_lt {v : BitVec 32} (h : v.toNat < 106240) : InRows v :=
  Rect.inb₂ (d := ![106240, 2048]) (size := ![1, 2048]) (show v.toNat + 1 ≤ 106240 from h) (show 0 + 2048 ≤ 2048 from le_rfl)

theorem inScr (j : ℕ) (h : j < 128) : ∀ a, (![0, j % 4, j / 4, 0] : Fin 4 → ℕ) a + S1x1x1x2048.size a ≤ S2x4x32x2048.size a := by
  intro a
  match a with
  | ⟨0, _⟩ => show 0 + 1 ≤ 2; omega
  | ⟨1, _⟩ => show j % 4 + 1 ≤ 4; omega
  | ⟨2, _⟩ => show j / 4 + 1 ≤ 32; omega
  | ⟨3, _⟩ => show 0 + 2048 ≤ 2048; omega

/-- The experts' rows, and one of them. -/
abbrev ybM : Memref sig .tc .hbm S106240x2048 .f32 := Memref.whole main_arg3
abbrev srcM (v : BitVec 32) (h : InRows v) : Memref sig .tc .hbm S1x2048 .f32 :=
  ybM.slice (Rect.unit (s := S106240x2048) ![v.toNat, 0] S1x2048.size h) (fun _ => rfl)
/-- The scratch rows, and copy `j`'s. -/
abbrev scM : Memref sig .tc .vmem S2x4x32x2048 .f32 := Memref.whole cc0_scratch0
abbrev dstM (j : ℕ) (h : j < 128) : Memref sig .tc .vmem S1x2048 .f32 :=
  (scM.slice (Rect.unit (s := S2x4x32x2048) ![0, j % 4, j / 4, 0] S1x1x1x2048.size (inScr j h)) (fun _ => rfl)).squeeze S1x2048 squeezes_S1x1x1x2048_S1x2048

/-- The semaphore of the copies, and the other one. -/
abbrev semA : DmaSem sig := ((cc0_scratch1.slice (Rect.unit (s := S2) ![0] S1.size inb_S2_S1_0)).squeeze S_ squeezes_S1_S_).sem

/-- The units one row's copy credits. -/
abbrev rowUnits : ℕ := scM.view.ref.dmaCredit S1x2048 .f32

/-- The word an index of the slot list names. -/
def ix1 (j : Fin 128) : S128.Idx := fun | 0 => j

/-- Where element `x` of copy `j`'s row lies in the scratch. -/
theorem dst_emb (j : ℕ) (h : j < 128) (x : S1x2048.Idx) :
    ((dstM j h).view.emb x : S2x4x32x2048.Idx) = ix4 0 ⟨j % 4, Nat.mod_lt _ (by decide)⟩ ⟨j / 4, by omega⟩ (x 1) := by
  have e : Shape.reshapeEquiv (squeezes_S1x1x1x2048_S1x2048.numel_eq) x = (ix4 0 0 0 (x 1) : S1x1x1x2048.Idx) :=
    Shape.reshapeEquiv_eq_of_rowMajor _ (by
      have h0 : (x 0).val < 1 := (x 0).isLt
      rw [Shape.rowMajor_val_two, Shape.rowMajor_val_four]
      show ((0 * 1 + 0) * 1 + 0) * 2048 + (x 1).val = (x 0).val * 2048 + (x 1).val
      omega)
  show (Rect.unit (s := S2x4x32x2048) ![0, j % 4, j / 4, 0] S1x1x1x2048.size (inScr j h)).emb (Shape.reshapeEquiv _ x) = _
  rw [e]
  funext a
  match a with
  | ⟨0, _⟩ => rfl
  | ⟨1, _⟩ => exact Fin.ext (by show j % 4 + 1 * 0 = j % 4; omega)
  | ⟨2, _⟩ => exact Fin.ext (by show j / 4 + 1 * 0 = j / 4; omega)
  | ⟨3, _⟩ => exact Fin.ext (by show 0 + 1 * (x 1).val = (x 1).val; omega)

/-! ## One issue -/

/-- One of the four copies of a trip, with what follows it: load the slot, take it to name a row, start the copy. -/
def issueP (arg1 : Memref sig .tc .smem S128 .i32)
    (o1 : Fin 1 → ℕ) (h1 : ∀ a, o1 a + S1.size a ≤ S128.size a)
    (o3 : Fin 4 → ℕ) (h3 : ∀ a, o3 a + S1x1x1x2048.size a ≤ S2x4x32x2048.size a)
    (chk : BitVec 32 → Prop) (dec : ∀ v, Decidable (chk v)) (hchk : ∀ v, chk v → InRows v)
    (k : Prog (TpuEff nD τ sig (Elt F) Λ₀ .tc) Unit) : Prog (TpuEff nD τ sig (Elt F) Λ₀ .tc) Unit :=
  smemLoadElt arg1 (Rect.unit (s := S128) o1 S1.size h1) (View.loads_smem_one rfl numel1_S1)
    (Shape.Idx.first (numel1_S1.symm ▸ Nat.one_pos)) fun (v : BitVec 32) =>
      .op (.assume (chk v) (dec v)) fun h =>
        .op (.enqueueDma (srcM v (hchk v h.down))
          (.here ((scM.slice (Rect.unit (s := S2x4x32x2048) o3 S1x1x1x2048.size h3) (fun _ => rfl)).squeeze S1x2048 squeezes_S1x1x1x2048_S1x2048)) (.dma semA)
          (View.wordExact_bits rfl) ((View.wordExact_bits rfl).reshape _ _) ⟨Or.inl rfl, trivial⟩) fun _ => k

section Trip

variable (i : grid0.Coords) (arg1 : Memref sig .tc .smem S128 .i32) (harg1 : arg1.IsWhole) (arg2 : Memref sig .tc .smem S128 .i32) (harg2 : arg2.IsWhole)
  (arg3 : Memref sig .tc .vmem S32x2048 .f32) (harg3 : arg3.IsWhole) (arg4 : Memref sig .tc .vmem S32x128 .f32) (harg4 : arg4.IsWhole)
  (arg6 : Memref sig .tc .vmem S32x2048 .f32) (harg6 : arg6.IsWhole)

/-- The body of the loop of copies, and of the loop of waits. -/
abbrev body1 (h1 : k0_cond1 i = 1#1) := k0_t1_body (F := F) i arg1 harg1 arg2 harg2 arg3 harg3 arg4 harg4 ybM (Memref.isWhole_whole _) arg6 harg6 scM (Memref.isWhole_whole _) cc0_scratch1 h1
abbrev body3 := k0_t3_body (F := F) i arg1 harg1 arg2 harg2 arg3 harg3 arg4 harg4 ybM (Memref.isWhole_whole _) arg6 harg6 scM (Memref.isWhole_whole _) cc0_scratch1

/-- A trip of the first loop is four issues. -/
theorem trip1_eq (hc : k0_cond1 i = 1#1) (t : Fin k0_t1_loop.trips) (u : Unit) :
    body1 (F := F) i arg1 harg1 arg2 harg2 arg3 harg3 arg4 harg4 arg6 harg6 hc t u
      = issueP arg1 (k0_off1 t) (k0_off1_inb i t hc) (k0_off2 t) (k0_off2_inb i t hc) (k0_chk1 i) (k0_chk1.dec i) (fun _ h => h hc)
        (issueP arg1 (k0_off4 t) (k0_off4_inb i t hc) (k0_off5 t) (k0_off5_inb i t hc) (k0_chk2 i) (k0_chk2.dec i) (fun _ h => h hc)
          (issueP arg1 (k0_off7 t) (k0_off7_inb i t hc) (k0_off8 t) (k0_off8_inb i t hc) (k0_chk3 i) (k0_chk3.dec i) (fun _ h => h hc)
            (issueP arg1 (k0_off10 t) (k0_off10_inb i t hc) (k0_off11 t) (k0_off11_inb i t hc) (k0_chk4 i) (k0_chk4.dec i) (fun _ h => h hc)
              (.ret ⟨⟩)))) := rfl

end Trip

variable (c : Dev nD) (arg1 : Memref sig .tc .smem S128 .i32)
  (f1 : Buf (Elt F) (arg1.view.loc (c : Thread nD τ))) (fy : Buf (Elt F) (ybM.view.loc (c : Thread nD τ)))
  (sl : Fin 128 → BitVec 32) (hsl : ∀ j, (sl j).toNat < 106240)
  (f G : Buf (Elt F) (scM.view.loc (c : Thread nD τ)))

/-- The share of the experts' rows copy `j` takes. -/
def part (j : Fin 128) : PosShare TreeShare := ShareLeaves.leaf 7 fullShare j

/-- What copy `j` moves: its scratch row at contents `g`, its source row at its share. -/
def rowsAt (g : Buf (Elt F) (scM.view.loc (c : Thread nD τ))) (j : Fin 128) : sProp 𝕄 :=
  iprop((scM.view.loc (c : Thread nD τ) ↦[(dstM j.val j.isLt).view.set]{fullShare} g)
    ∗ (ybM.view.loc (c : Thread nD τ) ↦[(srcM (sl j) (inRows_of_lt (hsl j))).view.set]{part j} fy))

instance rowsAt_storable (g) (j : Fin 128) : Storable (upEmb : UEmb _ 𝕄) (rowsAt c fy sl hsl g j) := by
  unfold rowsAt; infer_instance

/-- The kernel's counters. -/
abbrev EC : UEmb Counters 𝕄 := countersEmb (U := Pipeline.UD sig nD τ)

/-- Before copy `j` is started: the slot list, the rows of the copies to come, the batch. -/
def issuing (j : ℕ) : sProp 𝕄 :=
  iprop((arg1.view.loc (c : Thread nD τ) ↦[arg1.view.set]{fullShare} f1)
    ∗ bigSep (Transfers.pending j) (rowsAt c fy sl hsl f)
    ∗ Transfers.Batch (EC (F := F)) (c : Thread nD τ) (.dma semA) () rowUnits (rowsAt c fy sl hsl G) j 0)

/-- One issue: the copy `j` is started. -/
theorem issue_step (j : ℕ) (hj : j < 128)
    (hf1 : ∀ j, arg1.view.read (Elt F) f1 (ix1 j) = sl j)
    (hG : ∀ (j : Fin 128) (x : S1x2048.Idx), G ((dstM j.val j.isLt).view.emb x)
      = (srcM (sl j) (inRows_of_lt (hsl j))).view.read (Elt F) fy x)
    (o1 : Fin 1 → ℕ) (h1 : ∀ a, o1 a + S1.size a ≤ S128.size a) (ho1 : o1 = ![j])
    (o3 : Fin 4 → ℕ) (h3 : ∀ a, o3 a + S1x1x1x2048.size a ≤ S2x4x32x2048.size a) (ho3 : o3 = ![0, j % 4, j / 4, 0])
    (chk : BitVec 32 → Prop) (dec : ∀ v, Decidable (chk v)) (hchk : ∀ v, chk v → InRows v) (hchk' : ∀ v, InRows v → chk v)
    (k : Prog (TpuEff nD τ sig (Elt F) Λ₀ .tc) Unit) (Q : Unit → sProp 𝕄) :
    issuing c arg1 f1 fy sl hsl f G j
      ⊢ iprop((issuing c arg1 f1 fy sl hsl f G (j + 1) -∗ wp frame (wpE (defs₀ (F := F)) Variants.none (c : Thread nD τ) none) Set.univ k Q)
        -∗ wp frame (wpE (defs₀ (F := F)) Variants.none (c : Thread nD τ) none) Set.univ (issueP arg1 o1 h1 o3 h3 chk dec hchk k) Q) := by
  subst ho1 ho3
  unfold issuing issueP
  iintro ⟨H1, Hp, HB⟩ Hk
  iapply (wp_smemLoadElt_named Variants.none (c : Thread nD τ) none Set.univ (m := arg1) (r := Rect.unit (s := S128) ![j] S1.size h1)
    (x := Shape.Idx.first (numel1_S1.symm ▸ Nat.one_pos)) (S := arg1.view.set) (q := fullShare) (f := f1) (View.set_slice_subset _ _)) $$ H1
  iintro H1
  have hv : (arg1.access (Rect.unit (s := S128) ![j] S1.size h1)).read (Elt F) f1 (Shape.Idx.first (numel1_S1.symm ▸ Nat.one_pos)) = sl ⟨j, hj⟩ := by
    rw [← hf1]
    show arg1.view.read (Elt F) f1 ((Rect.unit (s := S128) ![j] S1.size h1).emb _) = _
    congr 1
    exact funext fun | 0 => Fin.ext (by
      show j + 1 * ((Shape.Idx.first (s := S1) (numel1_S1.symm ▸ Nat.one_pos)) 0).val = j
      have := ((Shape.Idx.first (s := S1) (numel1_S1.symm ▸ Nat.one_pos)) 0).isLt
      have h' : ((Shape.Idx.first (s := S1) (numel1_S1.symm ▸ Nat.one_pos)) 0).val < 1 := this
      omega)
  rw [hv]
  iintro %w %hw
  subst hw
  iapply (wp_assume (𝒱 := Variants.none) (c := (c : Thread nD τ)) (bd := none) (E := Set.univ) (hchk' _ (inRows_of_lt (hsl ⟨j, hj⟩))))
  ihave Hp' := (show bigSep (Transfers.pending j) (rowsAt c fy sl hsl f)
      ⊢ iprop(rowsAt c fy sl hsl f ⟨j, hj⟩ ∗ bigSep (Transfers.pending (j + 1)) (rowsAt c fy sl hsl f))
    from Entails.of_eq (Transfers.bigSep_pending_step _ j hj)) $$ Hp
  unfold rowsAt
  icases Hp' with ⟨⟨Hd, Hs⟩, Hp⟩
  have hD : iprop(((dstM j hj).view.loc (c : Thread nD τ) ↦[(dstM j hj).view.set]{fullShare}
        ((dstM j hj).view.write (Elt F) f (ReadAs.same.apply ((srcM (sl ⟨j, hj⟩) (inRows_of_lt (hsl ⟨j, hj⟩))).view.read (Elt F) fy)) Finset.univ))
      ∗ ((srcM (sl ⟨j, hj⟩) (inRows_of_lt (hsl ⟨j, hj⟩))).view.loc (c : Thread nD τ) ↦[(srcM (sl ⟨j, hj⟩) (inRows_of_lt (hsl ⟨j, hj⟩))).view.set]{part ⟨j, hj⟩} fy))
      ⊢ rowsAt c fy sl hsl G ⟨j, hj⟩ := by
    unfold rowsAt
    refine sep_mono (Entails.of_eq (pointsTo_congr fun i hi => ?_)) .rfl
    obtain ⟨x, -, rfl⟩ := Finset.mem_map.mp hi
    rw [View.write_emb_of_mem _ _ (Finset.mem_univ x)]
    exact (hG ⟨j, hj⟩ x).symm
  iapply (Transfers.wp_dmaBatch (EC (F := F)) Variants.none (c : Thread nD τ) none (Q := Q) (src := srcM (sl ⟨j, hj⟩) (inRows_of_lt (hsl ⟨j, hj⟩)))
    (dst := dstM j hj) (via := .same) (sm := .dma semA)
    (Sd := (dstM j hj).view.set) (D := rowsAt c fy sl hsl G) (j := j) (u := 0) () rowUnits rfl
    (Finset.Subset.refl _) hj (Nat.zero_le _) hD) $$ [Hd Hs HB]
  · isplitl [Hs]; · iexact Hs
    isplitl [Hd]; · iexact Hd
    iexact HB
  iintro HB
  iapply Hk
  isplitl [H1]; · iexact H1
  isplitl [Hp]; · iexact Hp
  iexact HB

theorem trips1 : k0_t1_loop.trips = 32 := by decide
theorem trips3 : k0_t3_loop.trips = 128 := by decide

variable (i : grid0.Coords) (harg1 : arg1.IsWhole) (arg2 : Memref sig .tc .smem S128 .i32) (harg2 : arg2.IsWhole)
  (arg3 : Memref sig .tc .vmem S32x2048 .f32) (harg3 : arg3.IsWhole) (arg4 : Memref sig .tc .vmem S32x128 .f32) (harg4 : arg4.IsWhole)
  (arg6 : Memref sig .tc .vmem S32x2048 .f32) (harg6 : arg6.IsWhole)

/-- A trip of the first loop: four issues. -/
theorem trip1 (hc : k0_cond1 i = 1#1)
    (hf1 : ∀ j, arg1.view.read (Elt F) f1 (ix1 j) = sl j)
    (hG : ∀ (j : Fin 128) (x : S1x2048.Idx), G ((dstM j.val j.isLt).view.emb x)
      = (srcM (sl j) (inRows_of_lt (hsl j))).view.read (Elt F) fy x)
    (t : Fin k0_t1_loop.trips) (u : Unit) :
    issuing c arg1 f1 fy sl hsl f G (4 * t.val)
      ⊢ wp frame (wpE (defs₀ (F := F)) Variants.none (c : Thread nD τ) none) Set.univ
          (body1 (F := F) i arg1 harg1 arg2 harg2 arg3 harg3 arg4 harg4 arg6 harg6 hc t u)
          (fun _ => issuing c arg1 f1 fy sl hsl f G (4 * (t.val + 1))) := by
  have ht : t.val < 32 := Nat.lt_of_lt_of_eq t.isLt trips1
  rw [trip1_eq]
  iintro H
  iapply (issue_step c arg1 f1 fy sl hsl f G (4 * t.val) (by omega) hf1 hG _ _ (k0_off1_eq t) _ _ (by rw [k0_off2_eq, show 4 * t.val / 4 = t.val by omega, show 4 * t.val % 4 = 0 by omega]) _ _ _ (fun _ h _ => h)) $$ H
  iintro H
  iapply (issue_step c arg1 f1 fy sl hsl f G (4 * t.val + 1) (by omega) hf1 hG _ _ (k0_off4_eq t) _ _ (by rw [k0_off5_eq, show (4 * t.val + 1) / 4 = t.val by omega, show (4 * t.val + 1) % 4 = 1 by omega]) _ _ _ (fun _ h _ => h)) $$ H
  iintro H
  iapply (issue_step c arg1 f1 fy sl hsl f G (4 * t.val + 2) (by omega) hf1 hG _ _ (k0_off7_eq t) _ _ (by rw [k0_off8_eq, show (4 * t.val + 2) / 4 = t.val by omega, show (4 * t.val + 2) % 4 = 2 by omega]) _ _ _ (fun _ h _ => h)) $$ H
  iintro H
  iapply (issue_step c arg1 f1 fy sl hsl f G (4 * t.val + 3) (by omega) hf1 hG _ _ (k0_off10_eq t) _ _ (by rw [k0_off11_eq, show (4 * t.val + 3) / 4 = t.val by omega, show (4 * t.val + 3) % 4 = 3 by omega]) _ _ _ (fun _ h _ => h)) $$ H
  iintro H
  sl_step
  iexact H

/-- Between the waits: what is left of the batch, and the core's waits recorded. -/
def draining (k : ℕ) : sProp 𝕄 :=
  iprop(Transfers.Batch (EC (F := F)) (c : Thread nD τ) (.dma semA) () rowUnits (rowsAt c fy sl hsl G) 128 (rowUnits * k)
    ∗ ∃ W, owes (c : Thread nD τ) 0 W)

/-- One wait on a semaphore, for one row's units. -/
def waitP (o : Fin 1 → ℕ) (h : ∀ a, o a + S1.size a ≤ S2.size a) (o3 : Fin 4 → ℕ) (h3 : ∀ a, o3 a + S1x1x1x2048.size a ≤ S2x4x32x2048.size a) :
    Prog (TpuEff nD τ sig (Elt F) Λ₀ .tc) Unit :=
  .op (.waitDma2 ((cc0_scratch1.slice (Rect.unit (s := S2) o S1.size h)).squeeze S_ squeezes_S1_S_).sem
      (ybM.slice (Rect.unit (s := S106240x2048) ![0, 0] S1x2048.size inb_S106240x2048_S1x2048_0_0) (fun _ => rfl))
      ((scM.slice (Rect.unit (s := S2x4x32x2048) o3 S1x1x1x2048.size h3) (fun _ => rfl)).squeeze S1x2048 squeezes_S1x1x1x2048_S1x2048)
      (View.wordExact_bits rfl) ((View.wordExact_bits rfl).reshape _ _)) fun _ => .ret ⟨⟩

theorem trip3_eq (t : Fin k0_t3_loop.trips) (u : Unit) :
    body3 (F := F) i arg1 harg1 arg2 harg2 arg3 harg3 arg4 harg4 arg6 harg6 t u
      = waitP (k0_off29 i) (k0_off29_inb i) (k0_off30 i) (k0_off30_inb i) := rfl

/-- A wait takes one row's units. -/
theorem wait_step (o : Fin 1 → ℕ) (h : ∀ a, o a + S1.size a ≤ S2.size a) (ho : o = ![0])
    (o3 : Fin 4 → ℕ) (h3 : ∀ a, o3 a + S1x1x1x2048.size a ≤ S2x4x32x2048.size a) (k : ℕ) (hk : k < 128) :
    draining c fy sl hsl G k
      ⊢ wp frame (wpE (defs₀ (F := F)) Variants.none (c : Thread nD τ) none) Set.univ (waitP (F := F) o h o3 h3)
          (fun _ => draining c fy sl hsl G (k + 1)) := by
  subst ho
  unfold draining waitP
  iintro ⟨HB, ⟨%W, HW⟩⟩
  iapply (Transfers.wp_waitBatchMul (EC (F := F)) Variants.none (c : Thread nD τ) none (D := rowsAt c fy sl hsl G) (W := W) (N := rowUnits)
    (j := 128) (u := rowUnits * k) () 1 (Nat.one_mul _).symm (by rw [Nat.one_mul, ← Nat.mul_succ]; exact Nat.mul_le_mul_left _ hk)) $$ [HB HW]
  · isplitl [HB] <;> iassumption
  rw [Nat.one_mul, ← Nat.mul_succ]
  iintro ⟨HB, HW⟩
  sl_step
  isplitl [HB]; · iexact HB
  iexists _; iexact HW

theorem rowUnits_pos : 0 < rowUnits := View.dmaCredit_pos (v := (dstM 0 (by decide)).view) (by decide)

end Cert.Kernel3Ideal.Combine

end
-- ==== Proof.CombinePoint.lean ====
/-
  The combination's one grid point, over whole buffers: the rows of `CombineRows.lean` cut out of the scratch and the experts'
  rows and put back, then the weighted sum stored.
-/
module

public import Idealize.ShloMosaic.Lib.VecWindow
public import proofs.«01_k».proof.Proof.CombineRows

@[expose] public section

set_option maxRecDepth 16384

noncomputable section

namespace Cert.Kernel3Ideal.Combine

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (fy : S106240x2048.Idx → Elt F .f32)
  (sl : Fin 128 → BitVec 32) (hsl : ∀ j, (sl j).toNat < 106240)

/-! ## The scratch's rows -/

/-- The elements of the scratch copy `j` writes. -/
def dstRow (j : Fin 128) : Finset (Idx (scM.view.loc (c : Thread nD τ))) := (dstM j.val j.isLt).view.set

theorem mem_dstRow (j : Fin 128) (i : S2x4x32x2048.Idx) : i ∈ dstRow c j ↔ (i 0).val = 0 ∧ (i 1).val = j.val % 4 ∧ (i 2).val = j.val / 4 := by
  unfold dstRow
  constructor
  · intro hi
    obtain ⟨x, -, rfl⟩ := Finset.mem_map.mp hi
    rw [dst_emb]
    exact ⟨rfl, rfl, rfl⟩
  · rintro ⟨h0, h1, h2⟩
    refine Finset.mem_map.mpr ⟨(ix2 0 (i 3) : S1x2048.Idx), Finset.mem_univ _, ?_⟩
    rw [dst_emb]
    funext a
    match a with
    | ⟨0, _⟩ => exact Fin.ext h0.symm
    | ⟨1, _⟩ => exact Fin.ext h1.symm
    | ⟨2, _⟩ => exact Fin.ext h2.symm
    | ⟨3, _⟩ => rfl

theorem dstRow_disjoint (j j' : Fin 128) (h : j ≠ j') : Disjoint (dstRow c j) (dstRow c j') :=
  Finset.disjoint_left.mpr fun i hi hi' => h (Fin.ext (by
    have a := (mem_dstRow c j i).mp hi
    have b := (mem_dstRow c j' i).mp hi'
    have := j.isLt
    have := j'.isLt
    omega))

def dstRows : Finset (Idx (scM.view.loc (c : Thread nD τ))) := Finset.univ.biUnion (dstRow c)

theorem copy_lt (i : S2x4x32x2048.Idx) : 4 * (i 2).val + (i 1).val < 128 := by
  have h1 : (i 1).val < 4 := (i 1).isLt
  have h2 : (i 2).val < 32 := (i 2).isLt
  omega

/-- The scratch after the copies, over contents `f`. -/
def scrAfter (f : S2x4x32x2048.Idx → Elt F .f32) (i : S2x4x32x2048.Idx) : Elt F .f32 :=
  if (i 0).val = 0 then fy (ix2 ⟨(sl ⟨4 * (i 2).val + (i 1).val, copy_lt i⟩).toNat, hsl _⟩ (i 3)) else f i

theorem scrAfter_rest (f : S2x4x32x2048.Idx → Elt F .f32) (i : S2x4x32x2048.Idx) (h : i ∉ dstRows c) : scrAfter fy sl hsl f i = f i := by
  unfold scrAfter
  refine if_neg fun h0 => h (Finset.mem_biUnion.mpr ⟨⟨4 * (i 2).val + (i 1).val, copy_lt i⟩, Finset.mem_univ _, (mem_dstRow c _ i).mpr ⟨h0, ?_, ?_⟩⟩)
  · have h1 : (i 1).val < 4 := (i 1).isLt
    show (i 1).val = (4 * (i 2).val + (i 1).val) % 4
    omega
  · have h1 : (i 1).val < 4 := (i 1).isLt
    show (i 2).val = (4 * (i 2).val + (i 1).val) / 4
    omega

theorem scrAfter_row (f : S2x4x32x2048.Idx → Elt F .f32) (j : Fin 128) (x : S1x2048.Idx) :
    scrAfter fy sl hsl f ((dstM j.val j.isLt).view.emb x) = (srcM (sl j) (inRows_of_lt (hsl j))).view.read (Elt F) fy x := by
  rw [dst_emb]
  unfold scrAfter
  refine (if_pos rfl).trans ?_
  have ej : (⟨4 * (j.val / 4) + j.val % 4, by omega⟩ : Fin 128) = j := Fin.ext (by show 4 * (j.val / 4) + j.val % 4 = j.val; omega)
  show fy (ix2 ⟨(sl ⟨4 * (j.val / 4) + j.val % 4, _⟩).toNat, _⟩ (x 1)) = fy ((Rect.unit (s := S106240x2048) ![(sl j).toNat, 0] S1x2048.size (inRows_of_lt (hsl j))).emb x)
  refine congrArg fy (funext fun a => Fin.ext ?_)
  match a with
  | ⟨0, _⟩ =>
    have h0 : (x 0).val < 1 := (x 0).isLt
    show (sl ⟨4 * (j.val / 4) + j.val % 4, _⟩).toNat = (sl j).toNat + 1 * (x 0).val
    rw [ej]
    omega
  | ⟨1, _⟩ =>
    show (x 1).val = 0 + 1 * (x 1).val
    omega

/-! ## The experts' rows, at their shares -/

/-- What is left of the experts' rows beside the copies' sources. -/
def aside (j : Fin 128) : sProp 𝕄 :=
  ybM.view.loc (c : Thread nD τ) ↦[Finset.univ \ (srcM (sl j) (inRows_of_lt (hsl j))).view.set]{part j} fy

/-- Copy `j`'s source row at its share. -/
def srcPart (j : Fin 128) : sProp 𝕄 :=
  ybM.view.loc (c : Thread nD τ) ↦[(srcM (sl j) (inRows_of_lt (hsl j))).view.set]{part j} fy

theorem src_split (j : Fin 128) : (ybM.view.loc (c : Thread nD τ) ↦{part j} fy : sProp 𝕄) = iprop(srcPart c fy sl hsl j ∗ aside c fy sl hsl j) := by
  have h : (ybM.view.loc (c : Thread nD τ) ↦{part j} fy : sProp 𝕄)
      ⊣⊢ iprop((ybM.view.loc (c : Thread nD τ) ↦[(srcM (sl j) (inRows_of_lt (hsl j))).view.set]{part j} fy)
        ∗ (ybM.view.loc (c : Thread nD τ) ↦[Finset.univ \ (srcM (sl j) (inRows_of_lt (hsl j))).view.set]{part j} fy)) :=
    pointsTo_split_subset (Finset.subset_univ _)
  exact BI.Entails.antisymm h.1 h.2

theorem src_parts : (ybM.view.loc (c : Thread nD τ) ↦{fullShare} fy : sProp 𝕄)
    = iprop(bigSep Finset.univ (srcPart c fy sl hsl) ∗ bigSep Finset.univ (aside c fy sl hsl)) := by
  have e : (ybM.view.loc (c : Thread nD τ) ↦{fullShare} fy : sProp 𝕄) = bigSep Finset.univ (fun j : Fin 128 => (ybM.view.loc (c : Thread nD τ) ↦{part j} fy : sProp 𝕄)) :=
    ShareLeaves.pointsTo_leaves (ℓ := ybM.view.loc (c : Thread nD τ)) Finset.univ fy 7 fullShare
  have e' : (bigSep Finset.univ (fun j : Fin 128 => (ybM.view.loc (c : Thread nD τ) ↦{part j} fy : sProp 𝕄)) : sProp 𝕄)
      = bigSep Finset.univ (fun j : Fin 128 => iprop(srcPart c fy sl hsl j ∗ aside c fy sl hsl j)) :=
    BI.bigSep_congr fun j _ => src_split c fy sl hsl j
  rw [e, e']
  exact BI.bigSep_sep _ _ _

/-- The rows of all the copies, beside the rest, are the scratch and the experts' rows whole. -/
theorem rows_whole (g : Buf (Elt F) (scM.view.loc (c : Thread nD τ))) :
    iprop(bigSep Finset.univ (rowsAt c fy sl hsl g) ∗ (scM.view.loc (c : Thread nD τ) ↦[Finset.univ \ dstRows c]{fullShare} g) ∗ bigSep Finset.univ (aside c fy sl hsl))
      ⊣⊢ (iprop((scM.view.loc (c : Thread nD τ) ↦{fullShare} g) ∗ (ybM.view.loc (c : Thread nD τ) ↦{fullShare} fy)) : sProp 𝕄) := by
  have e0 : (bigSep Finset.univ (rowsAt c fy sl hsl g) : sProp 𝕄)
      = iprop((scM.view.loc (c : Thread nD τ) ↦[dstRows c]{fullShare} g)
        ∗ bigSep Finset.univ (srcPart c fy sl hsl)) := by
    have e : (bigSep Finset.univ (rowsAt c fy sl hsl g) : sProp 𝕄)
        = iprop(bigSep Finset.univ (fun j => (scM.view.loc (c : Thread nD τ) ↦[dstRow c j]{fullShare} g : sProp 𝕄))
          ∗ bigSep Finset.univ (srcPart c fy sl hsl)) :=
      BI.bigSep_sep _ _ _
    rw [e]
    unfold dstRows
    rw [pointsTo_biUnion _ _ fun j _ j' _ h => dstRow_disjoint c j j' h]
  have e2 : (scM.view.loc (c : Thread nD τ) ↦{fullShare} g : sProp 𝕄) ⊣⊢ iprop((scM.view.loc (c : Thread nD τ) ↦[dstRows c]{fullShare} g)
      ∗ (scM.view.loc (c : Thread nD τ) ↦[Finset.univ \ dstRows c]{fullShare} g)) := pointsTo_split_subset (Finset.subset_univ _)
  rw [e0, src_parts c fy sl hsl]
  constructor
  · iintro ⟨⟨H, Hy⟩, Hr, Ha⟩
    isplitl [H Hr]
    · iapply e2.2
      isplitl [H] <;> iassumption
    · isplitl [Hy] <;> iassumption
  · iintro ⟨H, Hy, Ha⟩
    ihave H := e2.1 $$ H
    icases H with ⟨H, Hr⟩
    isplitl [H Hy]
    · isplitl [H] <;> iassumption
    · isplitl [Hr] <;> iassumption

/-! ## The kernel -/

section Kernel

variable (i : grid0.Coords) (arg1 : Memref sig .tc .smem S128 .i32) (harg1 : arg1.IsWhole) (arg2 : Memref sig .tc .smem S128 .i32) (harg2 : arg2.IsWhole)
  (arg3 : Memref sig .tc .vmem S32x2048 .f32) (harg3 : arg3.IsWhole) (arg4 : Memref sig .tc .vmem S32x128 .f32) (harg4 : arg4.IsWhole)
  (arg6 : Memref sig .tc .vmem S32x2048 .f32) (harg6 : arg6.IsWhole)

/-- What follows the loops: the weighted sum of the rows, loaded and stored. -/
def tailP : Prog (TpuEff nD τ sig (Elt F) Λ₀ .tc) PUnit :=
  .op (.load arg4 (Rect.unit (s := S32x128) ![0, 0] S32x128.size inb_S32x128_S32x128_0_0).toLoadRect (View.loadsAt_vmem h_S32x128)) fun (v18 : Vec F S32x128 .f32) =>
  .op (.load arg3 (Rect.unit (s := S32x2048) ![0, 0] S32x2048.size inb_S32x2048_S32x2048_0_0).toLoadRect (View.loadsAt_vmem h_S32x2048)) fun (v19 : Vec F S32x2048 .f32) =>
  .op (.load scM (Rect.unit (s := S2x4x32x2048) (k0_off31 i) S1x1x32x2048.size (k0_off31_inb i)).toLoadRect (View.loadsAt_vmem h_S1x1x32x2048)) fun (v22 : Vec F S1x1x32x2048 .f32) =>
  .op (.load scM (Rect.unit (s := S2x4x32x2048) (k0_off32 i) S1x1x32x2048.size (k0_off32_inb i)).toLoadRect (View.loadsAt_vmem h_S1x1x32x2048)) fun (v29 : Vec F S1x1x32x2048 .f32) =>
  .op (.load scM (Rect.unit (s := S2x4x32x2048) (k0_off33 i) S1x1x32x2048.size (k0_off33_inb i)).toLoadRect (View.loadsAt_vmem h_S1x1x32x2048)) fun (v36 : Vec F S1x1x32x2048 .f32) =>
  .op (.load scM (Rect.unit (s := S2x4x32x2048) (k0_off34 i) S1x1x32x2048.size (k0_off34_inb i)).toLoadRect (View.loadsAt_vmem h_S1x1x32x2048)) fun (v43 : Vec F S1x1x32x2048 .f32) =>
  .op (.load arg6 (Rect.unit (s := S32x2048) ![0, 0] S32x2048.size inb_S32x2048_S32x2048_0_0).toLoadRect (View.loadsAt_vmem h_S32x2048)) fun (v48 : Vec F S32x2048 .f32) =>
  .op (.store arg6 (Rect.unit (s := S32x2048) ![0, 0] S32x2048.size inb_S32x2048_S32x2048_0_0) (k0_pay1 v18 (k0_pay2 v18 v19 v22) (k0_pay3 v29) (k0_pay4 v18) v36 v43) Finset.univ (View.stores_vmem_bits_univ h_S32x2048 rfl) (.inl rfl)) fun _ =>
  .ret ⟨⟩

theorem point_eq (hc1 : k0_cond1 i = 1#1) (hc2 : ¬ k0_cond2 i = 1#1) :
    cc0_moe_combine (F := F) i arg1 harg1 arg2 harg2 arg3 harg3 arg4 harg4 ybM (Memref.isWhole_whole _) arg6 harg6 scM (Memref.isWhole_whole _) cc0_scratch1
      = (Scf.for k0_t1_loop.lb k0_t1_loop.ub k0_t1_loop.st (k0_t1_ok i hc1) ()
          (body1 (F := F) i arg1 harg1 arg2 harg2 arg3 harg3 arg4 harg4 arg6 harg6 hc1)
        >>= fun _ => Scf.for k0_t3_loop.lb k0_t3_loop.ub k0_t3_loop.st k0_t3_ok ()
          (body3 (F := F) i arg1 harg1 arg2 harg2 arg3 harg3 arg4 harg4 arg6 harg6)
        >>= fun _ => tailP i arg3 arg4 arg6) := by
  rw [cc0_moe_combine_eq_skeleton]
  unfold cc0_moe_combine_skel
  rw [k0_part3_eq_skeleton]
  unfold k0_part3_skel
  rw [dif_pos hc1, dif_neg hc2]
  simp only [bind_assoc, pure_bind]
  rfl

/-- The rows the combination adds, the `k`-th of each token. -/
def rowsK (k : Fin 4) (y : S1x1x32x2048.Idx) : Elt F .f32 :=
  fy (ix2 ⟨(sl ⟨4 * (y 2).val + k.val, by have h2 : (y 2).val < 32 := (y 2).isLt; omega⟩).toNat, hsl _⟩ (y 3))

/-- What the combination stores. -/
def outOf (x : S32x2048.Idx → Elt F .f32) (g : S32x128.Idx → Elt F .f32) : S32x2048.Idx → Elt F .f32 :=
  k0_pay1 g (k0_pay2 g x (rowsK fy sl hsl 0)) (k0_pay3 (rowsK fy sl hsl 1)) (k0_pay4 g) (rowsK fy sl hsl 2) (rowsK fy sl hsl 3)

/-- A load of the scratch's rows of one of the four. -/
theorem load_rows (f : S2x4x32x2048.Idx → Elt F .f32) (k : Fin 4) (o : Fin 4 → ℕ) (h : ∀ a, o a + S1x1x32x2048.size a ≤ S2x4x32x2048.size a) (ho : o = ![0, k.val, 0, 0]) :
    scM.view.readAt (Elt F) (Rect.unit (s := S2x4x32x2048) o S1x1x32x2048.size h).toLoadRect (scrAfter fy sl hsl f) = rowsK fy sl hsl k := by
  subst ho
  funext y
  have h0 : (y 0).val < 1 := (y 0).isLt
  have h1 : (y 1).val < 1 := (y 1).isLt
  have h2 : (y 2).val < 32 := (y 2).isLt
  have e : (Rect.unit (s := S2x4x32x2048) ![0, k.val, 0, 0] S1x1x32x2048.size h).emb y = ix4 0 k (y 2) (y 3) := funext fun a => by
    match a with
    | ⟨0, _⟩ => exact Fin.ext (by show 0 + 1 * (y 0).val = 0; omega)
    | ⟨1, _⟩ => exact Fin.ext (by show k.val + 1 * (y 1).val = k.val; omega)
    | ⟨2, _⟩ => exact Fin.ext (by show 0 + 1 * (y 2).val = (y 2).val; omega)
    | ⟨3, _⟩ => exact Fin.ext (by show 0 + 1 * (y 3).val = (y 3).val; omega)
  show scrAfter fy sl hsl f ((Rect.unit (s := S2x4x32x2048) ![0, k.val, 0, 0] S1x1x32x2048.size h).emb y) = _
  rw [e]
  unfold scrAfter
  exact if_pos rfl

/-- The offsets the kernel computes, at its one point. -/
structure AtPoint : Prop where
  c1 : k0_cond1 i = 1#1
  c2 : ¬ k0_cond2 i = 1#1
  o29 : k0_off29 i = ![0]
  o31 : k0_off31 i = ![0, 0, 0, 0]
  o32 : k0_off32 i = ![0, 1, 0, 0]
  o33 : k0_off33 i = ![0, 2, 0, 0]
  o34 : k0_off34 i = ![0, 3, 0, 0]

/-- The kernel on whole buffers: the output ends at `outOf`, the rest as it was. -/
theorem point_whole (hi : AtPoint i) (d1 : S128.Idx → Elt F .i32) (d3 : S32x2048.Idx → Elt F .f32) (d4 : S32x128.Idx → Elt F .f32)
    (hd1 : ∀ j, d1 (ix1 j) = sl j) (W : Waits sig Unit) :
    (iprop(owns (c : Thread nD τ) arg1 fullShare d1 ∗ owns (c : Thread nD τ) arg3 fullShare d3 ∗ owns (c : Thread nD τ) arg4 fullShare d4
        ∗ (∃ d, owns (c : Thread nD τ) arg6 fullShare d)
        ∗ (ybM.view.loc (c : Thread nD τ) ↦{fullShare} fy)
        ∗ (∃ f, (scM.view.loc (c : Thread nD τ) ↦{fullShare} f))
        ∗ semVal ((c : Thread nD τ), .dma semA) 0 ∗ owes (c : Thread nD τ) 0 W) : sProp 𝕄)
      ⊢ wp frame (wpE (defs₀ (F := F)) Variants.none (c : Thread nD τ) none) Set.univ
          (cc0_moe_combine (F := F) i arg1 harg1 arg2 harg2 arg3 harg3 arg4 harg4 ybM (Memref.isWhole_whole _) arg6 harg6 scM (Memref.isWhole_whole _) cc0_scratch1)
          (fun _ => iprop(owns (c : Thread nD τ) arg1 fullShare d1 ∗ owns (c : Thread nD τ) arg3 fullShare d3 ∗ owns (c : Thread nD τ) arg4 fullShare d4
            ∗ owns (c : Thread nD τ) arg6 fullShare (outOf fy sl hsl d3 d4)
            ∗ (ybM.view.loc (c : Thread nD τ) ↦{fullShare} fy)
            ∗ (∃ f, (scM.view.loc (c : Thread nD τ) ↦{fullShare} f))
            ∗ semVal ((c : Thread nD τ), .dma semA) 0 ∗ ∃ W', owes (c : Thread nD τ) 0 W')) := by
  rw [point_eq i arg1 harg1 arg2 harg2 arg3 harg3 arg4 harg4 arg6 harg6 hi.c1 hi.c2]
  unfold owns
  iintro ⟨⟨%f1, %hf1, H1⟩, ⟨%f3, %hf3, H3⟩, ⟨%f4, %hf4, H4⟩, ⟨%d6, %f6, %hf6, H6⟩, Hy, ⟨%f, Hs⟩, Hq, HW⟩
  ihave Hr := (rows_whole c fy sl hsl f).2 $$ [Hs Hy]
  · isplitl [Hs] <;> iassumption
  icases Hr with ⟨Hp, Hr, Ha⟩
  imod (Transfers.batch_alloc' (Lvl := ℕ) (EC (F := F)) (c : Thread nD τ) () rowUnits (rowsAt c fy sl hsl (scrAfter fy sl hsl f))
    (sm := .dma semA) (E := Set.univ)) $$ Hq with HB
  iapply (Scf.wp_for_bind frame (wpE (defs₀ (F := F)) Variants.none (c : Thread nD τ) none) Set.univ k0_t1_loop.lb k0_t1_loop.ub k0_t1_loop.st
    (k0_t1_ok i hi.c1) () (body1 (F := F) i arg1 harg1 arg2 harg2 arg3 harg3 arg4 harg4 arg6 harg6 hi.c1)
    (fun t _ => issuing c arg1 f1 fy sl hsl f (scrAfter fy sl hsl f) (4 * t))
    (fun t u => trip1 c arg1 f1 fy sl hsl f (scrAfter fy sl hsl f) i harg1 arg2 harg2 arg3 harg3 arg4 harg4 arg6 harg6 hi.c1
      (fun j => by rw [hf1, hd1]) (fun j x => scrAfter_row fy sl hsl f j x) t u)) $$ [H1 Hp HB]
  · unfold issuing
    isplitl [H1]; · iexact H1
    isplitl [Hp]; · rw [← Transfers.bigSep_pending_zero]; iexact Hp
    iexact HB
  iintro %u H
  rw [show Scf.trips k0_t1_loop.lb k0_t1_loop.ub k0_t1_loop.st = 32 from trips1]
  unfold issuing
  icases H with ⟨H1, -, HB⟩
  iapply (Scf.wp_for_bind frame (wpE (defs₀ (F := F)) Variants.none (c : Thread nD τ) none) Set.univ k0_t3_loop.lb k0_t3_loop.ub k0_t3_loop.st
    k0_t3_ok () (body3 (F := F) i arg1 harg1 arg2 harg2 arg3 harg3 arg4 harg4 arg6 harg6)
    (fun t _ => draining c fy sl hsl (scrAfter fy sl hsl f) t)
    (fun t u => by
      rw [trip3_eq]
      exact wait_step c fy sl hsl (scrAfter fy sl hsl f) _ _ hi.o29 _ _ t.val (Nat.lt_of_lt_of_eq t.isLt trips3))) $$ [HB HW]
  · unfold draining
    isplitl [HB]; · iexact HB
    iexists _; iexact HW
  iintro %u' H
  rw [show Scf.trips k0_t3_loop.lb k0_t3_loop.ub k0_t3_loop.st = 128 from trips3]
  unfold draining
  icases H with ⟨HB, HW⟩
  imod (Transfers.batch_collect' (EC (F := F)) (c : Thread nD τ) rowUnits_pos) $$ HB with ⟨HD, Hq⟩
  have er : (scM.view.loc (c : Thread nD τ) ↦[Finset.univ \ dstRows c]{fullShare} f : sProp 𝕄)
      = (scM.view.loc (c : Thread nD τ) ↦[Finset.univ \ dstRows c]{fullShare} scrAfter fy sl hsl f) :=
    pointsTo_congr fun x hx => by
      rw [Finset.mem_sdiff] at hx
      have hx2 := hx.2
      exact (scrAfter_rest c fy sl hsl f x hx2).symm
  ihave Hr := (Entails.of_eq er) $$ Hr
  ihave Hw := (rows_whole c fy sl hsl (scrAfter fy sl hsl f)).1 $$ [HD Hr Ha]
  · isplitl [HD]; · iexact HD
    isplitl [Hr] <;> iassumption
  icases Hw with ⟨Hs, Hy⟩
  unfold tailP
  iapply (wp_load Variants.none (c : Thread nD τ) none Set.univ (S := arg4.view.set) (q := fullShare) (f := f4) (View.setOn_subset_set _ _)) $$ H4
  iintro H4
  iapply (wp_load Variants.none (c : Thread nD τ) none Set.univ (S := arg3.view.set) (q := fullShare) (f := f3) (View.setOn_subset_set _ _)) $$ H3
  iintro H3
  iapply (wp_load Variants.none (c : Thread nD τ) none Set.univ (S := Finset.univ) (q := fullShare) (f := scrAfter fy sl hsl f) (Finset.subset_univ _)) $$ Hs
  iintro Hs
  iapply (wp_load Variants.none (c : Thread nD τ) none Set.univ (S := Finset.univ) (q := fullShare) (f := scrAfter fy sl hsl f) (Finset.subset_univ _)) $$ Hs
  iintro Hs
  iapply (wp_load Variants.none (c : Thread nD τ) none Set.univ (S := Finset.univ) (q := fullShare) (f := scrAfter fy sl hsl f) (Finset.subset_univ _)) $$ Hs
  iintro Hs
  iapply (wp_load Variants.none (c : Thread nD τ) none Set.univ (S := Finset.univ) (q := fullShare) (f := scrAfter fy sl hsl f) (Finset.subset_univ _)) $$ Hs
  iintro Hs
  iapply (wp_load Variants.none (c : Thread nD τ) none Set.univ (S := arg6.view.set) (q := fullShare) (f := f6) (View.setOn_subset_set _ _)) $$ H6
  iintro H6
  iapply (wp_store Variants.none (c : Thread nD τ) none Set.univ (m := arg6) (r := Rect.unit (s := S32x2048) ![0, 0] S32x2048.size inb_S32x2048_S32x2048_0_0)
    (S := arg6.view.set) (f := f6) (View.setOn_slice_subset_set _ _ _)) $$ H6
  iintro H6
  rw [load_rows fy sl hsl f 0 _ _ hi.o31, load_rows fy sl hsl f 1 _ _ hi.o32, load_rows fy sl hsl f 2 _ _ hi.o33, load_rows fy sl hsl f 3 _ _ hi.o34]
  rw [View.readAt_full arg4.view f4, View.readAt_full arg3.view f3, hf3, hf4]
  sl_step
  isplitl [H1]
  · iexists f1; isplitr; · ipureintro; exact hf1
    iexact H1
  isplitl [H3]
  · iexists f3; isplitr; · ipureintro; exact hf3
    iexact H3
  isplitl [H4]
  · iexists f4; isplitr; · ipureintro; exact hf4
    iexact H4
  isplitl [H6]
  · iexists _; isplitr; swap; · iexact H6
    ipureintro
    exact View.read_writes_full arg6.view f6 inb_S32x2048_S32x2048_0_0 _ []
  isplitl [Hy]; · iexact Hy
  isplitl [Hs]; · iexists _; iexact Hs
  isplitl [Hq] <;> iassumption

end Kernel

end Cert.Kernel3Ideal.Combine

end
-- ==== Proof.CombineRun.lean ====
/-
  The combination, run: the result ends at each token's sum, the arguments unchanged and every counter at zero, when the slots are
  rows of the experts' result.
-/
module

public import proofs.«01_k».proof.Proof.CombinePoint
public import proofs.«01_k».proof.Proof.Gen.Kernel3Ideal.Frame
public import Idealize.ShloMosaic.Lib.Pipeline.ValueKit

@[expose] public section

set_option maxRecDepth 16384

noncomputable section

namespace Cert.Kernel3Ideal.Combine

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The blocks are the arrays -/

theorem index0 : ∀ (t : Fin cfg0.N) (a : Fin 1), win0_0.index t a = 0 := by decide +kernel
theorem index1 : ∀ (t : Fin cfg0.N) (a : Fin 1), win0_1.index t a = 0 := by decide +kernel
theorem index2 : ∀ (t : Fin cfg0.N) (a : Fin 2), win0_2.index t a = 0 := by decide +kernel
theorem index3 : ∀ (t : Fin cfg0.N) (a : Fin 2), win0_3.index t a = 0 := by decide +kernel
theorem index4 : ∀ (t : Fin cfg0.N) (a : Fin 2), win0_4.index t a = 0 := by decide +kernel

/-- The slots, the rows to add to, the gates and the experts' rows on core `c`. -/
abbrev slots (c : Dev nD) : S128.Idx → Elt F .i32 := m ((c : Thread nD τ).loc main_arg0)
abbrev base (c : Dev nD) : S32x2048.Idx → Elt F .f32 := m ((c : Thread nD τ).loc main_arg1)
abbrev gates (c : Dev nD) : S32x128.Idx → Elt F .f32 := m ((c : Thread nD τ).loc main_arg2)
abbrev rows (c : Dev nD) : S106240x2048.Idx → Elt F .f32 := m ((c : Thread nD τ).loc main_arg3)

theorem iblk0_eq (c : Dev nD) (t : Fin cfg0.N) : iblk m c 0 t = slots m c :=
  funext fun y => congrArg (slots m c) (funext fun a => Fin.ext ((win0_0).rect_emb_val_of_index_zero t a (index0 t a) y))
theorem iblk1_eq (c : Dev nD) (t : Fin cfg0.N) : iblk m c 1 t = slots m c :=
  funext fun y => congrArg (slots m c) (funext fun a => Fin.ext ((win0_1).rect_emb_val_of_index_zero t a (index1 t a) y))
theorem iblk2_eq (c : Dev nD) (t : Fin cfg0.N) : iblk m c 2 t = base m c :=
  funext fun y => congrArg (base m c) (funext fun a => Fin.ext ((win0_2).rect_emb_val_of_index_zero t a (index2 t a) y))
theorem iblk3_eq (c : Dev nD) (t : Fin cfg0.N) : iblk m c 3 t = gates m c :=
  funext fun y => congrArg (gates m c) (funext fun a => Fin.ext ((win0_3).rect_emb_val_of_index_zero t a (index3 t a) y))
theorem emb4_eq (t : Fin cfg0.N) (y : S32x2048.Idx) : ((cfg0.win 4).blk t).view.emb y = y :=
  funext fun a => Fin.ext ((win0_4).rect_emb_val_of_index_zero t a (index4 t a) y)

theorem at_point : ∀ t : Fin cfg0.N, AtPoint (grid0.coords t) := fun t =>
  ⟨(by decide +kernel : ∀ t : Fin grid0.N, k0_cond1 (grid0.coords t) = 1#1) t,
    (by decide +kernel : ∀ t : Fin grid0.N, ¬ k0_cond2 (grid0.coords t) = 1#1) t,
    (by decide +kernel : ∀ t : Fin grid0.N, k0_off29 (grid0.coords t) = ![0]) t,
    (by decide +kernel : ∀ t : Fin grid0.N, k0_off31 (grid0.coords t) = ![0, 0, 0, 0]) t,
    (by decide +kernel : ∀ t : Fin grid0.N, k0_off32 (grid0.coords t) = ![0, 1, 0, 0]) t,
    (by decide +kernel : ∀ t : Fin grid0.N, k0_off33 (grid0.coords t) = ![0, 2, 0, 0]) t,
    (by decide +kernel : ∀ t : Fin grid0.N, k0_off34 (grid0.coords t) = ![0, 3, 0, 0]) t⟩

/-! ## The proof data -/

/-- The slots are rows of the experts' result. -/
def SlotsIn (s : S128.Idx → BitVec 32) : Prop := ∀ j : Fin 128, (s (ix1 j)).toNat < 106240

variable (hs : ∀ c : Dev nD, SlotsIn (slots m c))

/-- What the call leaves in the result. -/
def result (c : Dev nD) : S32x2048.Idx → Elt F .f32 :=
  outOf (rows m c) (fun j => slots m c (ix1 j)) (hs c) (base m c) (gates m c)

abbrev osem0 : Fin 2 → SemLoc sig := ![SemLoc.dma 5, SemLoc.dma 6]
theorem ownSemFacts0 : Pipeline.OwnSemFacts spec0 osem0 := by decide

theorem semA_eq : semA = (5 : DmaSem sig) := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma semA) 0 ∗ semVal ((c : Thread nD τ), .dma 6) 0) := by
  rw [Pipeline.ownSems0_eq_of_list c osem0 [0, 1] (by decide) (by decide), semA_eq]; rfl

/-- The experts' rows, the scratch, the semaphores at zero and the generator register. -/
def inv (c : Dev nD) : sProp 𝕄 :=
  iprop((ybM.view.loc (c : Thread nD τ) ↦{fullShare} rows m c) ∗ (∃ f, (scM.view.loc (c : Thread nD τ) ↦{fullShare} f))
    ∗ semVal ((c : Thread nD τ), .dma semA) 0 ∗ semVal ((c : Thread nD τ), .dma 6) 0 ∗ ∃ r, prngReg (c : Dev nD) r)

/-- The proof data: the windows' blocks are left in place, the result's at the sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => result m hs c
  Φ _ := inv m c
  q w := Pipeline.shareOf spec0 w
  owed _ := 0

theorem A_eq (c : Dev nD) (w : Fin cfg0.W) : (dats m hs 0 c).A w = V m c (Pipeline.arrRef spec0 w) := by
  dsimp only [dats]
theorem after0 (c : Dev nD) (t : Fin cfg0.N) : (dats m hs 0 c).after 0 t = iblk m c 0 t := by dsimp only [dats]
theorem after1 (c : Dev nD) (t : Fin cfg0.N) : (dats m hs 0 c).after 1 t = iblk m c 1 t := by dsimp only [dats]
theorem after2 (c : Dev nD) (t : Fin cfg0.N) : (dats m hs 0 c).after 2 t = iblk m c 2 t := by dsimp only [dats]
theorem after3 (c : Dev nD) (t : Fin cfg0.N) : (dats m hs 0 c).after 3 t = iblk m c 3 t := by dsimp only [dats]
theorem after4 (c : Dev nD) (t : Fin cfg0.N) : (dats m hs 0 c).after 4 t = result m hs c := by dsimp only [dats]

theorem before0 (c : Dev nD) (t : Fin cfg0.N) (d) : (dats m hs 0 c).before 0 t d = iblk m c 0 t :=
  ((dats m hs 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m hs 0 c).before 1 t d = iblk m c 1 t :=
  ((dats m hs 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m hs 0 c).before 2 t d = iblk m c 2 t :=
  ((dats m hs 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m hs 0 c).before 3 t d = iblk m c 3 t :=
  ((dats m hs 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body -/

theorem body_wp (c : Dev nD) (t : Fin cfg0.N) (W : Waits sig Unit) :
    (iprop(owns (c : Thread nD τ) (st0_0 t) fullShare (iblk m c 0 t) ∗ owns (c : Thread nD τ) (st0_2 t) fullShare (iblk m c 2 t)
        ∗ owns (c : Thread nD τ) (st0_3 t) fullShare (iblk m c 3 t) ∗ (∃ d, owns (c : Thread nD τ) (st0_4 t) fullShare d)
        ∗ (ybM.view.loc (c : Thread nD τ) ↦{fullShare} rows m c)
        ∗ (∃ f, (scM.view.loc (c : Thread nD τ) ↦{fullShare} f))
        ∗ semVal ((c : Thread nD τ), .dma semA) 0 ∗ owes (c : Thread nD τ) 0 W) : sProp 𝕄)
      ⊢ wp frame (wpE (defs₀ (F := F)) Variants.none (c : Thread nD τ) none) Set.univ (bodyAt0 t)
          (fun _ => iprop(owns (c : Thread nD τ) (st0_0 t) fullShare (iblk m c 0 t) ∗ owns (c : Thread nD τ) (st0_2 t) fullShare (iblk m c 2 t)
            ∗ owns (c : Thread nD τ) (st0_3 t) fullShare (iblk m c 3 t) ∗ owns (c : Thread nD τ) (st0_4 t) fullShare (result m hs c)
            ∗ (ybM.view.loc (c : Thread nD τ) ↦{fullShare} rows m c)
            ∗ (∃ f, (scM.view.loc (c : Thread nD τ) ↦{fullShare} f))
            ∗ semVal ((c : Thread nD τ), .dma semA) 0 ∗ ∃ W', owes (c : Thread nD τ) 0 W')) := by
  rw [iblk0_eq, iblk2_eq, iblk3_eq]
  exact point_whole c (rows m c) (fun j => slots m c (ix1 j)) (hs c) (grid0.coords t) _ _ _ _ _ _ _ _ _ _ (at_point t)
    (slots m c) (base m c) (gates m c) (fun _ => rfl) W

def bodyPre (c : Dev nD) (t : Fin cfg0.N) : sProp 𝕄 :=
  iprop((dats m hs 0 c).Φ t.castSucc ∗ (dats m hs 0 c).owesAt () t.castSucc
    ∗ (∃ d, owns (c : Thread nD τ) (st0_0 t) fullShare ((dats m hs 0 c).before 0 t d))
    ∗ (∃ d, owns (c : Thread nD τ) (st0_1 t) fullShare ((dats m hs 0 c).before 1 t d))
    ∗ (∃ d, owns (c : Thread nD τ) (st0_2 t) fullShare ((dats m hs 0 c).before 2 t d))
    ∗ (∃ d, owns (c : Thread nD τ) (st0_3 t) fullShare ((dats m hs 0 c).before 3 t d))
    ∗ (∃ d, owns (c : Thread nD τ) (st0_4 t) fullShare ((dats m hs 0 c).before 4 t d)))
def bodyPost (c : Dev nD) (t : Fin cfg0.N) : sProp 𝕄 :=
  iprop((dats m hs 0 c).Φ t.succ ∗ (dats m hs 0 c).owesAt () t.succ
    ∗ owns (c : Thread nD τ) (st0_0 t) fullShare ((dats m hs 0 c).after 0 t)
    ∗ owns (c : Thread nD τ) (st0_1 t) fullShare ((dats m hs 0 c).after 1 t)
    ∗ owns (c : Thread nD τ) (st0_2 t) fullShare ((dats m hs 0 c).after 2 t)
    ∗ owns (c : Thread nD τ) (st0_3 t) fullShare ((dats m hs 0 c).after 3 t)
    ∗ owns (c : Thread nD τ) (st0_4 t) fullShare ((dats m hs 0 c).after 4 t))

theorem sound_body (c : Dev nD) (t : Fin cfg0.N) :
    bodyPre m hs c t ⊢ wp frame (wpE (defs₀ (F := F)) Variants.none c none) Set.univ (bodyAt0 t) (fun _ => bodyPost m hs c t) := by
  unfold bodyPre bodyPost
  rw [show (dats m hs 0 c).Φ t.succ = inv m c from rfl, after0, after1, after2, after3, after4]
  rw [show (dats m hs 0 c).Φ t.castSucc = inv m c from rfl]
  simp only [before0, before1, before2, before3]
  unfold inv Dat.owesAt Pipeline.owesWithin
  rw [show (dats m hs 0 c).owed t.castSucc = 0 from rfl, show (dats m hs 0 c).owed t.succ = 0 from rfl]
  iintro ⟨⟨Hy, Hs, Hq, Hq6, Hg⟩, ⟨%W, -, HW⟩, ⟨%d0, H0⟩, ⟨%d1, H1⟩, ⟨%d2, H2⟩, ⟨%d3, H3⟩, ⟨%d4, H4⟩⟩
  iapply (Idealize.SL.Sem.wp_wand_r _ _ _)
  isplitl [H0 H2 H3 H4 Hy Hs Hq HW]
  · iapply (body_wp m hs c t W)
    isplitl [H0]; · iexact H0
    isplitl [H2]; · iexact H2
    isplitl [H3]; · iexact H3
    isplitl [H4]; · iexists _; iexact H4
    isplitl [Hy]; · iexact Hy
    isplitl [Hs]; · iexact Hs
    isplitl [Hq] <;> iassumption
  iintro %u ⟨H0, H2, H3, H4, Hy, Hs, Hq, ⟨%W', HW'⟩⟩
  isplitl [Hy Hs Hq Hq6 Hg]
  · isplitl [Hy]; · iexact Hy
    isplitl [Hs]; · iexact Hs
    isplitl [Hq]; · iexact Hq
    isplitl [Hq6] <;> iassumption
  isplitl [HW']
  · iexists W'; isplitr; · ipureintro; exact fun _ _ => Or.inl trivial
    iexact HW'
  isplitl [H0]; · iexact H0
  isplitl [H1]; · iexact H1
  isplitl [H2]; · iexact H2
  isplitl [H3] <;> iassumption

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hs 0 c) (defs₀ (F := F)) Variants.none () Set.univ := fun t => by
  rw [bigSep_W0, bigSep_W0, defs₀_row]
  exact triple_restated (sound_body m hs c t) rfl .rfl fun _ => .rfl

/-! ## The run -/

/-- The result's array at the end. -/
theorem arr_end (c : Dev nD) : (dats m hs 0 c).arrAt 4 cfg0.N = result m hs c :=
  Dat.arrAt_eq_of_cover (dats m hs 0 c) 4 (result m hs c)
    (fun t _ => by
      funext y
      show (dats m hs 0 c).after 4 t y = result m hs c (((cfg0.win 4).blk t).view.emb y)
      rw [after4, emb4_eq])
    (fun i => ⟨t0_0, flush0_4 t0_0, by
      rw [← emb4_eq t0_0 i]
      exact View.emb_mem_set _ _⟩)

theorem hmainC : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

theorem ends_eq (c : Dev nD) :
    (Pipeline.ΦD osem0 (cfgs 0).spec {main_arg3} (V m) c : sProp 𝕄)
      = iprop((∃ f : Buf (Elt F) ((c : Thread nD τ).loc cc0_scratch0), ((c : Thread nD τ).loc cc0_scratch0) ↦{fullShare} f) ∗ (∃ r, prngReg (c : Dev nD) r)
        ∗ (semVal ((c : Thread nD τ), .dma semA) 0 ∗ semVal ((c : Thread nD τ), .dma 6) 0)
        ∗ (((c.tc : Thread nD τ).loc main_arg3) ↦{fullShare} V m c main_arg3)) := by
  rw [Pipeline.ΦD_eq, ownSems00_eq, BI.bigSep_singleton, show (Pipeline.scopedRest (Ix := Unit) (Name := ℕ) (U := Pipeline.UD sig nD τ) (Lvl := ℕ) (Val := Elt F) (cfgs 0).spec c : sProp 𝕄) = _ from scopedRest0_eq c]

set_option backward.isDefEq.respectTransparency.types false in
theorem run_main : θ_run defs (onTc (τ := τ) (main (F := F))) (s₀ m ρ) (fun r => (∀ c : Dev nD,
      r.2.mem ((c.tc : Thread nD τ).loc main_v0) = result m hs c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_dma_shared cfgs (dats m hs) (0 : Fin 1) launch₀0 osem0 defs₀ Variants.none ownSemFacts0 {main_arg3} (by decide) m ρ main
    (hbody := fun c => (body_obligation m hs c).loose) (hq := fun _ _ _ => rfl)
    (howed := fun _ _ => rfl) (V := V m) (hmain := hmainC m) (hA := A_eq m hs)
    (hin := fun c => by
      rw [ends_eq, show (dats m hs 0 c).Φ 0 = inv m c from rfl]
      unfold inv
      iintro ⟨Hs, Hg, ⟨Hq, Hq6⟩, Hy⟩
      isplitl [Hy]; · iexact Hy
      isplitl [Hs]; · iexact Hs
      isplitl [Hq]; · iexact Hq
      isplitl [Hq6] <;> iassumption)
    (hout := fun c => by
      rw [ends_eq, show (dats m hs 0 c).Φ (Fin.last (cfgs 0).N) = inv m c from rfl]
      unfold inv
      iintro ⟨Hy, Hs, Hq, Hq6, Hg⟩
      isplitl [Hs]; · iexact Hs
      isplitl [Hg]; · iexact Hg
      isplitl [Hq Hq6]
      · isplitl [Hq] <;> iassumption
      iexact Hy)
    (Q' := _) (hQ' := fun r h => ⟨fun c => ⟨((h.1 c).1 4).trans (arr_end m hs c),
      ((h.1 c).1 1).trans (((dats m hs 0 c).arrAt_in 1 rfl _).trans (A_eq m hs c 1)),
      ((h.1 c).1 2).trans (((dats m hs 0 c).arrAt_in 2 rfl _).trans (A_eq m hs c 2)),
      ((h.1 c).1 3).trans (((dats m hs 0 c).arrAt_in 3 rfl _).trans (A_eq m hs c 3)),
      (h.1 c).2 main_arg3 (Pipeline.mem_restRefs_of main_arg3 (by decide) (by decide))⟩, h.2⟩)

end Cert.Kernel3Ideal.Combine

end
-- ==== Proof.CombineClaim.lean ====
/-
  The combination's call: its frames, and that over the extended reals every entry of the result ends at the token's row with the
  four weighted rows its slots name added, as the plain program has it.
-/
module

public import proofs.«01_k».proof.Defs
public import proofs.«01_k».proof.Proof.CombineRun
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_slots_in
public import Idealize.ShloMosaic.Lib.Pointwise
public import Idealize.ShloMosaic.Lib.Routing.OpsPair
public import Idealize.ShloMosaic.Lib.Routing.Ops

@[expose] public section

set_option maxRecDepth 65536

noncomputable section

namespace Cert.Combine

open Idealize.ShloMosaic Idealize.SL.Sem
open Cert.Kernel3Ideal.Combine (SlotsIn slots base gates rows result run_main outOf rowsK)

/-! ## What the kernel stores -/

variable (sl : Fin 128 → BitVec 32) (hsl : ∀ j, (sl j).toNat < 106240)

/-- The `k`-th slot of token `r`. -/
def slotOf (r : Fin 32) (k : Fin 4) : Fin 128 := ⟨4 * r.val + k.val, by omega⟩

/-- A token's row with its four weighted rows added. -/
def sumAt (x : Cert.Kernel3Ideal.S32x2048.Idx → EReal) (g : Cert.Kernel3Ideal.S32x128.Idx → EReal)
    (y : Cert.Kernel3Ideal.S106240x2048.Idx → EReal) (r : Fin 32) (c : Fin 2048) : EReal :=
  x (ix2 r c) + ∑ k : Fin 4, y (ix2 ⟨(sl (slotOf r k)).toNat, hsl _⟩ c) * g (ix2 r (⟨k.val, by omega⟩ : Fin 128))

open Cert.Kernel3Ideal Cert.Kernel3Ideal.Gen in
theorem outOf_apply (y : S106240x2048.Idx → EReal) (x : S32x2048.Idx → EReal) (g : S32x128.Idx → EReal)
    (r : Fin 32) (c : Fin 2048) :
    outOf (F := Ideal) y sl hsl x g (ix2 r c) = x (ix2 r c) + g (ix2 r 0) * rowsK (F := Ideal) y sl hsl 0 (ix4 0 0 r c) + g (ix2 r 1) * rowsK (F := Ideal) y sl hsl 1 (ix4 0 0 r c)
      + g (ix2 r 2) * rowsK (F := Ideal) y sl hsl 2 (ix4 0 0 r c) + g (ix2 r 3) * rowsK (F := Ideal) y sl hsl 3 (ix4 0 0 r c) := by
  unfold outOf k0_pay1 k0_pay2 k0_pay3 k0_pay4
  generalize rowsK (F := Ideal) y sl hsl 0 = r0
  generalize rowsK (F := Ideal) y sl hsl 1 = r1
  generalize rowsK (F := Ideal) y sl hsl 2 = r2
  generalize rowsK (F := Ideal) y sl hsl 3 = r3
  pointwise

theorem outOf_sum (x : Cert.Kernel3Ideal.S32x2048.Idx → EReal) (g : Cert.Kernel3Ideal.S32x128.Idx → EReal) (y : Cert.Kernel3Ideal.S106240x2048.Idx → EReal)
    (r : Fin 32) (c : Fin 2048) : outOf (F := Ideal) y sl hsl x g (ix2 r c) = sumAt sl hsl x g y r c := by
  rw [outOf_apply]
  have e : ∀ k : Fin 4, rowsK (F := Ideal) y sl hsl k (ix4 0 0 r c) = y (ix2 ⟨(sl (slotOf r k)).toNat, hsl _⟩ c) := fun k => rfl
  rw [e, e, e, e]
  unfold sumAt
  rw [Fin.sum_univ_four, add_assoc, add_assoc, add_assoc, mul_comm (g _), mul_comm (g _), mul_comm (g _), mul_comm (g _), add_assoc, add_assoc]
  rfl

/-! ## What the plain program computes -/

section Plain

open Cert.Reference3Ideal Cert.Reference3Ideal.Facts₀

/-- Rows of a table at a table of row numbers: where the numbers hold `e`, the gathered entry is the table's. -/
theorem gather_rows {α : Type} {nb B n q : ℕ} (d : GatherDims ⟨2, ![nb, B]⟩ ⟨3, ![n, q, 1]⟩ ⟨3, ![n, q, B]⟩) (hoff : d.offsetDims = [2])
    (hcoll : d.collapsedSliceDims = [0]) (hob : d.operandBatchingDims = []) (hsim : d.startIndexMap = [0]) (hivd : d.indexVectorDim = 2)
    (x : (⟨2, ![nb, B]⟩ : Shape).Idx → α) (idx : IVec ⟨3, ![n, q, 1]⟩ 32) (p : Fin n) (k : Fin q) (z : Fin B) (e : Fin nb)
    (he : (idx (ix3 p k (0 : Fin 1))).toInt = (e.val : ℤ)) :
    Host.gather d x idx (ix3 p k z) = x (ix2 e z) := by
  have hn : ∀ a, a ∉ d.operandBatchingDims := fun a => by rw [hob]; exact List.not_mem_nil
  have hkept : d.sKept = [1] := by
    show (⟨2, ![nb, B]⟩ : Shape).kept (d.collapsedSliceDims ++ d.operandBatchingDims) = _
    rw [hcoll, hob]
    rfl
  have hbatch : d.batchDims = [0, 1] := by
    show (⟨3, ![n, q, B]⟩ : Shape).kept d.offsetDims = _
    rw [hoff]
    rfl
  have hst : ∀ a : Fin 2, a ≠ 0 → d.start (ix3 p k z) idx a = 0 := fun a ha => by
    unfold GatherDims.start
    exact dif_neg (by rw [hsim]; exact fun h => ha (List.mem_singleton.1 h))
  have pick : ∀ (l : List (Fin 3)) (i : ℕ) (hi : i < l.length) (X : Fin 3), l[i]? = some X → (ix3 p k z (l[i])).val = (ix3 p k z X).val := fun l i hi X h => by
    rw [List.getElem?_eq_getElem hi] at h
    rw [Option.some.inj h]
  have hsk : d.siKept = [0, 1] := by
    show (List.finRange 3).filter (·.val ≠ d.indexVectorDim) = _
    rw [hivd]
    rfl
  unfold Host.gather
  refine congrArg x (funext fun a => Fin.ext ?_)
  show d.start (ix3 p k z) idx a + d.batchCoord (ix3 p k z) a + d.offCoord (ix3 p k z) a = _
  rw [d.batchCoord_eq_zero _ _ (hn a), Nat.add_zero]
  match a with
  | ⟨0, _⟩ =>
    show d.start (ix3 p k z) idx 0 + d.offCoord (ix3 p k z) 0 = e.val
    rw [d.offCoord_eq_zero _ _ (by rw [hkept]; simp), Nat.add_zero]
    unfold GatherDims.start
    have hm : (0 : Fin 2) ∈ d.startIndexMap := by rw [hsim]; exact List.mem_singleton.2 rfl
    rw [dif_pos hm, d.slice_collapsed 0 (by rw [hcoll]; exact List.mem_singleton.2 rfl)]
    have hsi : d.siIdx (ix3 p k z) ⟨d.startIndexMap.idxOf 0, List.idxOf_lt_length_iff.2 hm⟩ = ix3 p k (0 : Fin 1) := by
      funext b
      refine Fin.ext ?_
      match b with
      | ⟨0, _⟩ =>
        unfold GatherDims.siIdx
        rw [dif_neg (by rw [hivd]; show ¬ (0 : ℕ) = 2; decide)]
        unfold GatherDims.siCoord
        simp only [Fin.val_cast]
        refine (pick _ _ _ 0 ?_).trans rfl
        rw [hbatch, hsk]
        rfl
      | ⟨1, _⟩ =>
        unfold GatherDims.siIdx
        rw [dif_neg (by rw [hivd]; show ¬ (1 : ℕ) = 2; decide)]
        unfold GatherDims.siCoord
        simp only [Fin.val_cast]
        refine (pick _ _ _ 1 ?_).trans rfl
        rw [hbatch, hsk]
        rfl
      | ⟨2, _⟩ => exact congrArg Fin.val (Subsingleton.elim (α := Fin 1) _ _)
    rw [hsi, he]
    have := e.isLt
    show min ((e.val : ℤ)).toNat (nb - 1) = e.val
    omega
  | ⟨1, _⟩ =>
    show d.start (ix3 p k z) idx 1 + d.offCoord (ix3 p k z) 1 = z.val
    rw [hst 1 (by decide), Nat.zero_add]
    unfold GatherDims.offCoord
    rw [dif_pos (by rw [hkept]; simp)]
    refine (pick _ _ _ 2 ?_).trans rfl
    rw [hkept, hoff]
    rfl

/-- The slots as a table of row numbers. -/
def col (s : IVec S128 32) : IVec S32x4x1 32 :=
  broadcastInDim S32x4x1 ![0, 1] bcast_S32x4_S32x4x1_0_1 (select (cmpi .slt (shapeCast _ s shapeCasts_S128_S32x4) (broadcastInDim S32x4 ![] bcast_S_S32x4 (constantI S_ 32 0#32))) (addi (shapeCast _ s shapeCasts_S128_S32x4) (broadcastInDim S32x4 ![] bcast_S_S32x4 (constantI S_ 32 106240#32))) (shapeCast _ s shapeCasts_S128_S32x4))

theorem col_at (s : IVec S128 32) (r : Fin 32) (k : Fin 4) (h : (s (ix1 (slotOf r k))).toNat < 106240) : col s (ix3 r k (0 : Fin 1)) = s (ix1 (slotOf r k)) := by
  unfold col
  pointwise
  have e : ∀ h', (⟨r.val * 4 + k.val, h'⟩ : Fin 128) = slotOf r k := fun h' => Fin.ext (by
    show r.val * 4 + k.val = 4 * r.val + k.val
    omega)
  rw [e]
  exact Routing.wrap_of_lt _ _ (Nat.lt_trans h (by decide))

/-- The plain program's result of its arguments. -/
def plain (s : IVec S128 32) (x : FVec Ideal S32x2048 .f32) (g : FVec Ideal S32x128 .f32) (y : FVec Ideal S106240x2048 .f32) : FVec Ideal S32x2048 .f32 :=
  addf x (Host.reduceAdd (mulf (Host.gather gather_S106240x2048_S32x4x1_S32x4x2048_2_0_n_n_0_2_12048 y (col s)) (broadcastInDim S32x4x2048 ![0, 1, 2] bcast_S32x4x1_S32x4x2048_0_1_2 (broadcastInDim S32x4x1 ![0, 1] bcast_S32x4_S32x4x1_0_1 (extractStridedSlice S32x4 ![0, 0] g slices_S32x128_S32x4_0_0)))) (constant S_ .f32 0x00000000#32) reducesTo_S32x4x2048_S32x2048_d1 h_S_)

theorem plain_at (s : IVec S128 32) (hs : ∀ j : Fin 128, (s (ix1 j)).toNat < 106240) (x : FVec Ideal S32x2048 .f32) (g : FVec Ideal S32x128 .f32) (y : FVec Ideal S106240x2048 .f32)
    (r : Fin 32) (c : Fin 2048) : plain s x g y (ix2 r c) = sumAt (fun j => s (ix1 j)) hs x g y r c := by
  have hg : ∀ k : Fin 4, Host.gather gather_S106240x2048_S32x4x1_S32x4x2048_2_0_n_n_0_2_12048 y (col s) (ix3 r k c)
      = y (ix2 ⟨(s (ix1 (slotOf r k))).toNat, hs _⟩ c) := fun k =>
    gather_rows _ rfl rfl rfl rfl rfl y (col s) r k c _ (by
      rw [col_at s r k (hs _), BitVec.toInt_eq_toNat_cond, if_pos (by have := hs (slotOf r k); omega)])
  unfold plain sumAt
  revert hg
  generalize Host.gather gather_S106240x2048_S32x4x1_S32x4x2048_2_0_n_n_0_2_12048 y (col s) = G
  intro hg
  pointwise
  exact congrArg (x (ix2 r c) + ·) (Finset.sum_congr rfl fun k _ => by rw [hg])

end Plain

/-! ## The precondition -/

theorem pre_slots {F : FTy → Type} [FloatOps F] (s : IVec Cert.Pre_slots_in.S128 32) (x : FVec F Cert.Pre_slots_in.S32x2048 .f32) (g : FVec F Cert.Pre_slots_in.S32x128 .f32)
    (y : FVec F Cert.Pre_slots_in.S106240x2048 .f32) (h : Cert.Pre_slots_in.fn (F := F) s x g y = fun _ => 1#1) (j : Fin 128) : (s (ix1 j)).toNat < 106240 := by
  have e := congrFun h (ix1 j)
  have e' : IntOp.cmpi .sge (s (ix1 j)) 0#32 &&& IntOp.cmpi .slt (s (ix1 j)) 106240#32 = 1#1 := by
    rw [← e]
    unfold Cert.Pre_slots_in.fn
    pointwise
    rfl
  obtain ⟨e3, e4⟩ : IntOp.cmpi .sge (s (ix1 j)) 0#32 = 1#1 ∧ IntOp.cmpi .slt (s (ix1 j)) 106240#32 = 1#1 := by
    revert e'
    generalize IntOp.cmpi .sge (s (ix1 j)) 0#32 = a
    generalize IntOp.cmpi .slt (s (ix1 j)) 106240#32 = b
    revert a b
    decide
  simp only [IntOp.cmpi, StableHlo.Predicate.ofBool_eq_one_iff, BitVec.sle, BitVec.slt, decide_eq_true_eq, BitVec.toInt, BitVec.toNat_ofNat] at e3 e4
  omega

theorem slots_in (s : IVec Cert.Kernel3Ideal.S128 32) (h : ∀ j : Fin 128, (s (ix1 j)).toNat < 106240) : SlotsIn s := fun j => by
  have e : Cert.Kernel3Ideal.Combine.ix1 j = ix1 j := funext fun a => by
    match a with
    | ⟨0, _⟩ => rfl
  rw [e]
  exact h j

/-! ## The two kernel programs have one text -/

theorem bodies_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => rfl

theorem defs_eq : Cert.Kernel3.defs (F := Bits) = Cert.Kernel3Ideal.defs (F := Bits) :=
  congrArg (Pipeline.defs (Cert.Kernel3Ideal.pcfgs (F := Bits))) bodies_eq

/-- A run of the ideal program's text at the float words is a run of the kernel. -/
theorem of_ideal_text (m : (ℓ : Loc Cert.Kernel3Ideal.nD Cert.Kernel3Ideal.τ Cert.Kernel3Ideal.sig) → Buf (Elt Bits) ℓ)
    (ρ : Dev Cert.Kernel3Ideal.nD → PrngReg) (Q) (h : θ_run (Cert.Kernel3Ideal.defs (F := Bits)) (onTc (Cert.Kernel3Ideal.main (F := Bits))) ⟨m, fun _ => 0, ρ⟩ Q) :
    θ_run (Cert.Kernel3.defs (F := Bits)) (onTc (Cert.Kernel3.main (F := Bits))) ⟨m, fun _ => 0, ρ⟩ Q := by
  rw [defs_eq]
  exact h

/-! ## The frames -/

theorem frame_kernel : Cert.quiescent_Kernel3 := fun m ρ hp =>
  of_ideal_text m ρ _ ((θ_run Cert.Kernel3Ideal.defs _ _).mono (fun _ h => ⟨fun c => (h.1 c).2, h.2⟩)
    (run_main (F := Bits) m ρ fun c => slots_in _ (pre_slots _ _ _ _ (hp c))))

theorem frame_ideal : Cert.quiescent_Kernel3Ideal := fun m ρ hp =>
  (θ_run Cert.Kernel3Ideal.defs _ _).mono (fun _ h => ⟨fun c => (h.1 c).2, h.2⟩)
    (run_main (F := Ideal) m ρ fun c => slots_in _ (pre_slots _ _ _ _ (hp c)))

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ref_pre : Cert.quiescent_Reference3Ideal_pre_slots_in := fun m ρ _ =>
  (θ_run Cert.Reference3Ideal.defs _ _).mono (fun r h => ⟨fun c => (h c).2, sem_eq_zero_of_no_sems (by decide) r.2⟩)
    (Cert.Reference3Ideal.Value.run (F := Ideal) m ρ)

/-! ## The values -/

abbrev KMem := (ℓ : Loc Cert.Kernel3Ideal.nD Cert.Kernel3Ideal.τ Cert.Kernel3Ideal.sig) → Buf (Elt Ideal) ℓ

/-- What the kernel leaves is what the plain program computes. -/
theorem result_eq (m : KMem) (hs : ∀ c, SlotsIn (slots m c)) (c : Dev Cert.Kernel3Ideal.nD) (h : ∀ j : Fin 128, (slots m c (ix1 j)).toNat < 106240) :
    result m hs c = plain (slots m c) (base m c) (gates m c) (rows m c) := by
  have e : ∀ j : Fin 128, Cert.Kernel3Ideal.Combine.ix1 j = ix1 j := fun j => funext fun a => by
    match a with
    | ⟨0, _⟩ => rfl
  funext i
  obtain ⟨r, k, rfl⟩ : ∃ (r : Fin 32) (k : Fin 2048), i = ix2 r k := ⟨i 0, i 1, eq_ix2 i⟩
  rw [plain_at _ h]
  refine (outOf_sum _ _ _ _ _ r k).trans ?_
  unfold sumAt
  simp only [e]

/-- Over the extended reals: both programs end with the same value in every entry of the result. -/
theorem same_ideal : Cert.algebraic_Kernel3Ideal_Reference3Ideal := fun m ρ m' ρ' hp ha =>
  have h : ∀ c, ∀ j : Fin 128, (slots m c (ix1 j)).toNat < 106240 := fun c => pre_slots _ _ _ _ (hp c)
  have hs : ∀ c, SlotsIn (slots m c) := fun c => slots_in _ (h c)
  ⟨fun c => result m hs c,
    (θ_run Cert.Kernel3Ideal.defs _ _).mono (fun _ h c => h.1 c) (run_main (F := Ideal) m ρ hs),
    (θ_run Cert.Reference3Ideal.defs _ _).mono (fun r hr c => ⟨by
        refine (hr c).1.trans (Eq.trans ?_ (result_eq m hs c (h c)).symm)
        rw [(ha c).1, (ha c).2.1, (ha c).2.2.1, (ha c).2.2.2]
        rfl, (hr c).2⟩)
      (Cert.Reference3Ideal.Value.run (F := Ideal) m' ρ')⟩

end Cert.Combine

end
-- ==== Proof.lean ====
/-
  The proof of `Cert.Claim`: the row dispatch of the mixture of experts, the experts' products and their combination. Every run of the dispatch ends with
  each named row of the result holding the token row that was sent there, and the plain gather-and-scatter program ends with the same
  rows. Every run of the experts ends with each counted row holding its expert's gated two-layer value, as the plain program has it.
  Every run of the combination ends with each token's row plus its four expert rows by their gates, as the plain program has it.
-/
module

public import proofs.«01_k».proof.Defs
public import proofs.«01_k».proof.Proof.Run
public import proofs.«01_k».proof.Proof.Spec
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_slots_ok
public import proofs.«01_k».proof.Proof.Gen.On_routed
public import proofs.«01_k».proof.Proof.ExpertsClaim
public import proofs.«01_k».proof.Proof.CombineClaim
public import proofs.«01_k».proof.Proof.Gen.Kernel2
public import proofs.«01_k».proof.Proof.Gen.Kernel2Ideal
public import proofs.«01_k».proof.Proof.Gen.Reference2Ideal
public import proofs.«01_k».proof.Proof.Gen.Pre_tables_ok
public import proofs.«01_k».proof.Proof.Gen.Pre_slots_in
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.On_filled

@[expose] public section

set_option maxRecDepth 4096

noncomputable section

namespace Cert.Proof

open Idealize.ShloMosaic Idealize.SL.Sem
open Cert.KernelIdeal.Dispatch (SlotsOk slots toks outAt run_main outAt_row)
open Cert.Dispatch (pre_slots mask_slot plain_row)

/-! ## The two kernel programs have one text -/

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs (Cert.KernelIdeal.pcfgs (F := Bits))) bodies_eq

/-- A run of the ideal program's text at the float words is a run of the kernel. -/
theorem of_ideal_text (m : (ℓ : Loc Cert.KernelIdeal.nD Cert.KernelIdeal.τ Cert.KernelIdeal.sig) → Buf (Elt Bits) ℓ)
    (ρ : Dev Cert.KernelIdeal.nD → PrngReg) (Q) (h : θ_run (Cert.KernelIdeal.defs (F := Bits)) (onTc (Cert.KernelIdeal.main (F := Bits))) ⟨m, fun _ => 0, ρ⟩ Q) :
    θ_run (Cert.Kernel.defs (F := Bits)) (onTc (Cert.Kernel.main (F := Bits))) ⟨m, fun _ => 0, ρ⟩ Q := by
  rw [defs_eq]
  exact h

/-! ## The frames -/

theorem frame_kernel : Cert.quiescent_Kernel := fun m ρ hp =>
  of_ideal_text m ρ _ ((θ_run Cert.KernelIdeal.defs _ _).mono (fun _ h => ⟨fun c => (h.1 c).2, h.2⟩)
    (run_main (F := Bits) m ρ fun c => pre_slots _ _ (hp c)))

theorem frame_ideal : Cert.quiescent_KernelIdeal := fun m ρ hp =>
  (θ_run Cert.KernelIdeal.defs _ _).mono (fun _ h => ⟨fun c => (h.1 c).2, h.2⟩) (run_main (F := Ideal) m ρ fun c => pre_slots _ _ (hp c))

theorem frame_ref_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_ideal_pre : Cert.quiescent_ReferenceIdeal_pre_slots_ok := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref : Cert.quiescent_Reference := fun m ρ _ =>
  (θ_run Cert.Reference.defs _ _).mono (fun r h => ⟨fun c => (h c).2, sem_eq_zero_of_no_sems (by decide) r.2⟩)
    (Cert.Reference.Value.run (F := Bits) m ρ)

/-! ## The values -/

/-- Over the extended reals: both programs end with the same word in every entry of every row that a slot names. -/
theorem same_ideal : Cert.algebraic_KernelIdeal_ReferenceIdeal_on_routed := fun m ρ m' ρ' hp ha =>
  have hs : ∀ c, SlotsOk (slots m c) := fun c => pre_slots _ _ (hp c)
  ⟨fun c => outAt m c 32,
    (θ_run Cert.KernelIdeal.defs _ _).mono (fun _ h c => ⟨fun i _ => congrFun (h.1 c).1 i, (h.1 c).2⟩) (run_main (F := Ideal) m ρ hs),
    (θ_run Cert.ReferenceIdeal.defs _ _).mono (fun r h c => ⟨fun i hi => by
        obtain ⟨k, hk⟩ := mask_slot _ _ (hs c) i hi
        refine (congrFun (h c).1 i).trans (Eq.trans ?_ (outAt_row m c i k hk (hs c)).symm)
        rw [(ha c).1, (ha c).2]
        exact plain_row _ _ _ rfl (slots m c) (toks m c) (hs c) _ i k hk, (h c).2⟩)
      (Cert.ReferenceIdeal.Value.run (F := Ideal) m' ρ')⟩

/-- Over the float words: the same equation, the words of the rows being only moved. -/
theorem same_words : Cert.bitexact_Kernel_Reference_on_routed := fun m ρ m' ρ' hp ha =>
  have hs : ∀ c, SlotsOk (slots (F := Bits) m c) := fun c => pre_slots _ _ (hp c)
  ⟨fun c => outAt (F := Bits) m c 32,
    of_ideal_text m ρ _ ((θ_run Cert.KernelIdeal.defs _ _).mono (fun _ h c => ⟨fun i _ => congrFun (h.1 c).1 i, (h.1 c).2⟩)
      (run_main (F := Bits) m ρ hs)),
    (θ_run Cert.Reference.defs _ _).mono (fun r h c => ⟨fun i hi => by
        obtain ⟨k, hk⟩ := mask_slot _ _ (hs c) i hi
        refine (congrFun (h c).1 i).trans (Eq.trans ?_ (outAt_row (F := Bits) m c i k hk (hs c)).symm)
        rw [(ha c).1, (ha c).2]
        exact plain_row _ _ _ rfl (slots (F := Bits) m c) (toks (F := Bits) m c) (hs c) _ i k hk, (h c).2⟩)
      (Cert.Reference.Value.run (F := Bits) m' ρ')⟩

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_slots_ok.Gen.facts, Cert.Pre_tables_ok.Gen.facts, Cert.Pre_slots_in.Gen.facts,
    Cert.On_routed.Gen.facts, Cert.On_filled.Gen.facts, frame_kernel, frame_ideal, frame_ref_ideal, frame_ref_ideal_pre, frame_ref,
    Cert.Experts.frame_kernel, Cert.Experts.frame_ideal, Cert.Experts.frame_ref, Cert.Experts.frame_ref_pre, Cert.Combine.frame_kernel,
    Cert.Combine.frame_ideal, Cert.Combine.frame_ref, Cert.Combine.frame_ref_pre, trivial, same_ideal, same_words, trivial,
    Cert.Experts.same_ideal, trivial, Cert.Combine.same_ideal⟩

end Cert.Proof

end
